-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_fit [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_fit [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_lengths_fit [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_lengths_fit [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_lengths_fit [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_lengths_fit : Cert.Pre_lengths_fit.Facts),
    quiescent_Kernel (hKernel := hKernel)
    ∧ quiescent_KernelIdeal (hKernelIdeal := hKernelIdeal)
    ∧ quiescent_KernelIdeal_pre_lengths_fit (hKernelIdeal := hKernelIdeal) (hPre_lengths_fit := hPre_lengths_fit)
    ∧ quiescent_ReferenceIdeal (hReferenceIdeal := hReferenceIdeal)
    ∧ quiescent_ReferenceIdeal_pre_lengths_fit (hReferenceIdeal := hReferenceIdeal) (hPre_lengths_fit := hPre_lengths_fit)
    ∧ preserves_Kernel_KernelIdeal
    ∧ algebraic_KernelIdeal_ReferenceIdeal_pre_lengths_fit (hKernelIdeal := hKernelIdeal) (hReferenceIdeal := hReferenceIdeal) (hPre_lengths_fit := hPre_lengths_fit)
-- ==== Pre_lengths_fit.lean ====
abbrev S16x2048x256 : Shape := ⟨3, ![16, 2048, 256]⟩
abbrev S16 : Shape := ⟨1, ![16]⟩
abbrev S1024x256 : Shape := ⟨2, ![1024, 256]⟩
abbrev S1024 : Shape := ⟨1, ![1024]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x2048x256 .f32) (main_arg1 : IVec S16 32) (main_arg2 : FVec F S1024x256 .f32) (main_arg3 : FVec F S1024x256 .f32) (main_arg4 : FVec F S1024 .f32) (main_arg5 : FVec F S1024 .f32) (main_arg6 : FVec F S1024x256 .f32) (main_arg7 : FVec F S1024x256 .f32) (main_arg8 : FVec F S1024 .f32) (main_arg9 : FVec F S1024 .f32) : IVec S_ 1 :=
  let main_c : IVec S_ 32 := constantI S_ 32 2048#32
  let main_v0 : IVec S16 32 := broadcastInDim S16 ![] bcast_S_S16 main_c
  let main_v1 : IVec S16 1 := cmpi .sle main_arg1 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S16x2048x256 : Shape := ⟨3, ![16, 2048, 256]⟩
abbrev S16 : Shape := ⟨1, ![16]⟩
abbrev S1024x256 : Shape := ⟨2, ![1024, 256]⟩
abbrev S1024 : Shape := ⟨1, ![1024]⟩
abbrev S16x1 : Shape := ⟨2, ![16, 1]⟩
abbrev S16x256 : Shape := ⟨2, ![16, 256]⟩
abbrev S256x256 : Shape := ⟨2, ![256, 256]⟩
abbrev S256x1024 : Shape := ⟨2, ![256, 1024]⟩
abbrev S256 : Shape := ⟨1, ![256]⟩
abbrev S1x1024 : Shape := ⟨2, ![1, 1024]⟩
abbrev S16x2048x512 : Shape := ⟨3, ![16, 2048, 512]⟩
abbrev S16x128x256 : Shape := ⟨3, ![16, 128, 256]⟩
abbrev S128x16x1024 : Shape := ⟨3, ![128, 16, 1024]⟩
abbrev S128x16x256 : Shape := ⟨3, ![128, 16, 256]⟩
abbrev S2048x256 : Shape := ⟨2, ![2048, 256]⟩
abbrev S2048x1024 : Shape := ⟨2, ![2048, 1024]⟩
abbrev S1x16x1024 : Shape := ⟨3, ![1, 16, 1024]⟩
abbrev S16x1024 : Shape := ⟨2, ![16, 1024]⟩
abbrev S16x768 : Shape := ⟨2, ![16, 768]⟩
abbrev S1x16x256 : Shape := ⟨3, ![1, 16, 256]⟩
abbrev S16x1x256 : Shape := ⟨3, ![16, 1, 256]⟩

abbrev nBuf : Space → Nat
  | .hbm => 55
  | .vmem => 21
  | .smem => 0
  | _ => 0

abbrev bufTy : (tb : Table) → Fin (tcTables nBuf tb) → BufTy
  | .hbm, ⟨0, _⟩ => ⟨S16x2048x256, .f32⟩
  | .hbm, ⟨1, _⟩ => ⟨S16, .i32⟩
  | .hbm, ⟨2, _⟩ => ⟨S1024x256, .f32⟩
  | .hbm, ⟨3, _⟩ => ⟨S1024x256, .f32⟩
  | .hbm, ⟨4, _⟩ => ⟨S1024, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S1024, .f32⟩
  | .hbm, ⟨9, _⟩ => ⟨S1024, .f32⟩
  | .hbm, ⟨10, _⟩ => ⟨S16x1, .i32⟩
  | .hbm, ⟨11, _⟩ => ⟨S16x256, .i32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S1024x256, .f32⟩
  | .hbm, ⟨17, _⟩ => ⟨S256x1024, .f32⟩
  | .hbm, ⟨18, _⟩ => ⟨S256x1024, .bf16⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S1024x256, .f32⟩
  | .hbm, ⟨24, _⟩ => ⟨S256x1024, .f32⟩
  | .hbm, ⟨25, _⟩ => ⟨S256x1024, .bf16⟩
  | .hbm, ⟨26, _⟩ => ⟨S1024, .f32⟩
  | .hbm, ⟨27, _⟩ => ⟨S256, .f32⟩
  | .hbm, ⟨28, _⟩ => ⟨S256, .f32⟩
  | .hbm, ⟨29, _⟩ => ⟨S256, .f32⟩
  | .hbm, ⟨30, _⟩ => ⟨S256, .f32⟩
  | .hbm, ⟨31, _⟩ => ⟨S1024, .f32⟩
  | .hbm, ⟨32, _⟩ => ⟨S1x1024, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S1024x256, .f32⟩
  | .hbm, ⟨38, _⟩ => ⟨S256x1024, .f32⟩
  | .hbm, ⟨39, _⟩ => ⟨S256x1024, .bf16⟩
  | .hbm, ⟨40, _⟩ => ⟨S256x256, .f32⟩
  | .hbm, ⟨41, _⟩ => ⟨S256x256, .f32⟩
  | .hbm, ⟨42, _⟩ => ⟨S256x256, .f32⟩
  | .hbm, ⟨43, _⟩ => ⟨S256x256, .f32⟩
  | .hbm, ⟨44, _⟩ => ⟨S1024x256, .f32⟩
  | .hbm, ⟨45, _⟩ => ⟨S256x1024, .f32⟩
  | .hbm, ⟨46, _⟩ => ⟨S256x1024, .bf16⟩
  | .hbm, ⟨47, _⟩ => ⟨S1024, .f32⟩
  | .hbm, ⟨48, _⟩ => ⟨S256, .f32⟩
  | .hbm, ⟨49, _⟩ => ⟨S256, .f32⟩
  | .hbm, ⟨50, _⟩ => ⟨S256, .f32⟩
  | .hbm, ⟨51, _⟩ => ⟨S256, .f32⟩
  | .hbm, ⟨52, _⟩ => ⟨S1024, .f32⟩
  | .hbm, ⟨53, _⟩ => ⟨S1x1024, .f32⟩
  | .hbm, ⟨54, _⟩ => ⟨S16x2048x512, .f32⟩
  | .local _ .vmem, ⟨0, _⟩ => ⟨S16x256, .i32⟩
  | .local _ .vmem, ⟨1, _⟩ => ⟨S16x128x256, .f32⟩
  | .local _ .vmem, ⟨2, _⟩ => ⟨S16x128x256, .f32⟩
  | .local _ .vmem, ⟨3, _⟩ => ⟨S16x128x256, .f32⟩
  | .local _ .vmem, ⟨4, _⟩ => ⟨S16x128x256, .f32⟩
  | .local _ .vmem, ⟨5, _⟩ => ⟨S256x1024, .bf16⟩
  | .local _ .vmem, ⟨6, _⟩ => ⟨S256x1024, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | .local _ .vmem, ⟨11, _⟩ => ⟨S16x128x256, .f32⟩
  | .local _ .vmem, ⟨12, _⟩ => ⟨S16x128x256, .f32⟩
  | .local _ .vmem, ⟨13, _⟩ => ⟨S128x16x1024, .f32⟩
  | .local _ .vmem, ⟨14, _⟩ => ⟨S128x16x1024, .f32⟩
  | .local _ .vmem, ⟨15, _⟩ => ⟨S16x256, .f32⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S128x16x256, .f32⟩
  | .local _ .vmem, ⟨20, _⟩ => ⟨S128x16x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![16, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_38 : BitVec 32 := 0#32
  let c128_i32_39 : BitVec 32 := 128#32
  let v51 : BitVec 32 := Scalar.addi c0_i32_38 c128_i32_39
  let c1_i32_40 : BitVec 32 := 1#32
  ⟨c0_i32_38, v51, c1_i32_40⟩
def k0_off1 (k0_t1 : Fin k0_t1_loop.trips) : Fin 3 → Nat :=
  let c0_i32_38 : BitVec 32 := 0#32
  let c1_i32_40 : BitVec 32 := 1#32
  let arg20 : BitVec 32 := Scf.iv c0_i32_38 c1_i32_40 k0_t1
  let v79 : Index := Scalar.indexCast arg20
  let c0_60 : Index := 0#32
  let c0_61 : Index := 0#32
  ![v79.toNat, 0, 0]
def k0_off2 (k0_t1 : Fin k0_t1_loop.trips) : Fin 3 → Nat :=
  let c0_i32_38 : BitVec 32 := 0#32
  let c1_i32_40 : BitVec 32 := 1#32
  let arg20 : BitVec 32 := Scf.iv c0_i32_38 c1_i32_40 k0_t1
  let v103 : Index := Scalar.indexCast arg20
  let c0_66 : Index := 0#32
  let c0_67 : Index := 0#32
  ![v103.toNat, 0, 0]
def k0_off3 (k0_t1 : Fin k0_t1_loop.trips) : Fin 3 → Nat :=
  let c127_i32 : BitVec 32 := 127#32
  let c0_i32_38 : BitVec 32 := 0#32
  let c1_i32_40 : BitVec 32 := 1#32
  let arg20 : BitVec 32 := Scf.iv c0_i32_38 c1_i32_40 k0_t1
  let v107 : BitVec 32 := Scalar.subi c127_i32 arg20
  let v117 : Index := Scalar.indexCast v107
  let c0_71 : Index := 0#32
  let c0_72 : Index := 0#32
  ![v117.toNat, 0, 0]
def k0_off4 (k0_t1 : Fin k0_t1_loop.trips) : Fin 3 → Nat :=
  let c127_i32 : BitVec 32 := 127#32
  let c0_i32_38 : BitVec 32 := 0#32
  let c1_i32_40 : BitVec 32 := 1#32
  let arg20 : BitVec 32 := Scf.iv c0_i32_38 c1_i32_40 k0_t1
  let v107 : BitVec 32 := Scalar.subi c127_i32 arg20
  let v141 : Index := Scalar.indexCast v107
  let c0_77 : Index := 0#32
  let c0_78 : Index := 0#32
  ![v141.toNat, 0, 0]
def k0_cond3 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c15_i32 : BitVec 32 := 15#32
  let v1 : BitVec 32 := Scalar.subi c15_i32 arg0
  let v2 : BitVec 32 := Scalar.select v0 arg0 v1
  let c0_i32_0 : BitVec 32 := 0#32
  let c0_i32_1 : BitVec 32 := 0#32
  ![c0_i32_0.toNat, v2.toNat, arg1.toNat]

abbrev stage0_0 : Fin 1 → Memref sig .tc .vmem S16x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2048x256 : Shape := ⟨3, ![16, 2048, 256]⟩
abbrev S16 : Shape := ⟨1, ![16]⟩
abbrev S1024x256 : Shape := ⟨2, ![1024, 256]⟩
abbrev S1024 : Shape := ⟨1, ![1024]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S2048x16x256 : Shape := ⟨3, ![2048, 16, 256]⟩
abbrev S_ : Shape := ⟨0, ![]⟩
abbrev S16x256 : Shape := ⟨2, ![16, 256]⟩
abbrev S1x16x256 : Shape := ⟨3, ![1, 16, 256]⟩
abbrev S256x1024 : Shape := ⟨2, ![256, 1024]⟩
abbrev S16x1024 : Shape := ⟨2, ![16, 1024]⟩
abbrev S1x1024 : Shape := ⟨2, ![1, 1024]⟩
abbrev S16x2048x1 : Shape := ⟨3, ![16, 2048, 1]⟩
abbrev S16x2048x256x1 : Shape := ⟨4, ![16, 2048, 256, 1]⟩
abbrev S1 : Shape := ⟨1, ![1]⟩
abbrev S1x1x1x1 : Shape := ⟨4, ![1, 1, 1, 1]⟩
abbrev S16x2048x512 : Shape := ⟨3, ![16, 2048, 512]⟩

abbrev nBuf : Space → Nat
  | .hbm => 239
  | .vmem => 0
  | .smem => 0
  | _ => 0

abbrev hbmTy0_0 (i : Nat) : BufTy := match i % 128 with
  | 0 => ⟨S16x2048x256, .f32⟩
  | 1 => ⟨S16, .i32⟩
  | 2 => ⟨S1024x256, .f32⟩
  | 3 => ⟨S1024x256, .f32⟩
  | 4 => ⟨S1024, .f32⟩
  | 5 => ⟨S1024, .f32⟩
  | 6 => ⟨S1024x256, .f32⟩
  | 7 => ⟨S1024x256, .f32⟩
  | 8 => ⟨S1024, .f32⟩
  | 9 => ⟨S1024, .f32⟩
  | 10 => ⟨S2048, .i32⟩
  | 11 => ⟨S1x2048, .i32⟩
  | 12 => ⟨S16x1, .i32⟩
  | 13 => ⟨S16x2048, .i32⟩
  | 14 => ⟨S16x2048, .i32⟩
  | 15 => ⟨S16x2048, .i1⟩
  | 16 => ⟨S16x2048, .f32⟩
  | 17 => ⟨S2048x16x256, .f32⟩
  | 18 => ⟨S_, .f32⟩
  | 19 => ⟨S16x256, .f32⟩
  | 20 => ⟨S_, .f32⟩
  | 21 => ⟨S16x256, .f32⟩
  | 22 => ⟨S_, .f32⟩
  | 23 => ⟨S2048x16x256, .f32⟩
  | 24 => ⟨S_, .i32⟩
  | 25 => ⟨S2048x16x256, .f32⟩
  | 26 => ⟨S1024x256, .f32⟩
  | 27 => ⟨S1024x256, .f32⟩
  | 28 => ⟨S1024, .f32⟩
  | 29 => ⟨S1024, .f32⟩
  | 30 => ⟨S_, .i32⟩
  | 31 => ⟨S16x256, .f32⟩
  | 32 => ⟨S16x256, .f32⟩
  | 33 => ⟨S2048x16x256, .f32⟩
  | 34 => ⟨S_, .i32⟩
  | 35 => ⟨S_, .i1⟩
  | 36 => ⟨S_, .i32⟩
  | 37 => ⟨S_, .i32⟩
  | 38 => ⟨S1x16x256, .f32⟩
  | 39 => ⟨S16x256, .f32⟩
  | 40 => ⟨S256x1024, .f32⟩
  | 41 => ⟨S16x1024, .f32⟩
  | 42 => ⟨S256x1024, .f32⟩
  | 43 => ⟨S16x1024, .f32⟩
  | 44 => ⟨S16x1024, .f32⟩
  | 45 => ⟨S1x1024, .f32⟩
  | 46 => ⟨S16x1024, .f32⟩
  | 47 => ⟨S16x1024, .f32⟩
  | 48 => ⟨S1x1024, .f32⟩
  | 49 => ⟨S16x1024, .f32⟩
  | 50 => ⟨S16x1024, .f32⟩
  | 51 => ⟨S16x256, .f32⟩
  | 52 => ⟨S16x256, .f32⟩
  | 53 => ⟨S16x256, .f32⟩
  | 54 => ⟨S16x256, .f32⟩
  | 55 => ⟨S16x256, .f32⟩
  | 56 => ⟨S16x256, .f32⟩
  | 57 => ⟨S_, .f32⟩
  | 58 => ⟨S16x256, .f32⟩
  | 59 => ⟨S16x256, .f32⟩
  | 60 => ⟨S_, .f32⟩
  | 61 => ⟨S16x256, .f32⟩
  | 62 => ⟨S16x256, .f32⟩
  | 63 => ⟨S16x256, .f32⟩
  | 64 => ⟨S16x256, .f32⟩
  | 65 => ⟨S_, .f32⟩
  | 66 => ⟨S16x256, .f32⟩
  | 67 => ⟨S16x256, .f32⟩
  | 68 => ⟨S_, .f32⟩
  | 69 => ⟨S16x256, .f32⟩
  | 70 => ⟨S16x256, .f32⟩
  | 71 => ⟨S16x256, .f32⟩
  | 72 => ⟨S16x256, .f32⟩
  | 73 => ⟨S16x256, .f32⟩
  | 74 => ⟨S_, .f32⟩
  | 75 => ⟨S16x256, .f32⟩
  | 76 => ⟨S16x256, .f32⟩
  | 77 => ⟨S_, .f32⟩
  | 78 => ⟨S16x256, .f32⟩
  | 79 => ⟨S16x256, .f32⟩
  | 80 => ⟨S16x256, .f32⟩
  | 81 => ⟨S16x256, .f32⟩
  | 82 => ⟨S16x256, .f32⟩
  | 83 => ⟨S16x256, .f32⟩
  | 84 => ⟨S16x256, .f32⟩
  | 85 => ⟨S1x16x256, .f32⟩
  | 86 => ⟨S_, .i32⟩
  | 87 => ⟨S_, .i32⟩
  | 88 => ⟨S2048x16x256, .f32⟩
  | 89 => ⟨S_, .i32⟩
  | 90 => ⟨S_, .i32⟩
  | 91 => ⟨S16x2048x256, .f32⟩
  | 92 => ⟨S16x2048x1, .f32⟩
  | 93 => ⟨S16x2048x256, .f32⟩
  | 94 => ⟨S16x2048x256, .f32⟩
  | 95 => ⟨S1x2048, .i32⟩
  | 96 => ⟨S16x1, .i32⟩
  | 97 => ⟨S16x2048, .i32⟩
  | 98 => ⟨S16x2048, .i32⟩
  | 99 => ⟨S16x2048, .i1⟩
  | 100 => ⟨S16x1, .i32⟩
  | 101 => ⟨S_, .i32⟩
  | 102 => ⟨S16x1, .i32⟩
  | 103 => ⟨S16x1, .i32⟩
  | 104 => ⟨S1x2048, .i32⟩
  | 105 => ⟨S16x2048, .i32⟩
  | 106 => ⟨S16x2048, .i32⟩
  | 107 => ⟨S16x2048, .i32⟩
  | 108 => ⟨S_, .i32⟩
  | 109 => ⟨S_, .i32⟩
  | 110 => ⟨S16x2048, .i32⟩
  | 111 => ⟨S16x2048, .i32⟩
  | 112 => ⟨S16x2048x1, .i32⟩
  | 113 => ⟨S16x2048x256, .i32⟩
  | 114 => ⟨S_, .i32⟩
  | 115 => ⟨S16x2048x256, .i32⟩
  | 116 => ⟨S16x2048x256, .i1⟩
  | 117 => ⟨S_, .i32⟩
  | 118 => ⟨S16x2048x256, .i32⟩
  | 119 => ⟨S16x2048x256, .i32⟩
  | 120 => ⟨S16x2048x256, .i32⟩
  | 121 => ⟨S16x2048x256x1, .i32⟩
  | 122 => ⟨S1, .i32⟩
  | 123 => ⟨S_, .i32⟩
  | 124 => ⟨S16x2048x256x1, .i32⟩
  | 125 => ⟨S16x2048x256x1, .i1⟩
  | 126 => ⟨S1x1x1x1, .i32⟩
  | 127 => ⟨S16x2048x256x1, .i32⟩
  | _ => ⟨S16x2048x256, .f32⟩

abbrev hbmTy0_1 (i : Nat) : BufTy := match i % 128 with
  | 0 => ⟨S16x2048x256x1, .i1⟩
  | 1 => ⟨S16x2048x256x1, .i1⟩
  | 2 => ⟨S_, .i1⟩
  | 3 => ⟨S16x2048x256, .i1⟩
  | 4 => ⟨S16x2048x256, .f32⟩
  | 5 => ⟨S_, .f32⟩
  | 6 => ⟨S16x2048x256, .f32⟩
  | 7 => ⟨S16x2048x256, .f32⟩
  | 8 => ⟨S2048x16x256, .f32⟩
  | 9 => ⟨S_, .f32⟩
  | 10 => ⟨S16x256, .f32⟩
  | 11 => ⟨S_, .f32⟩
  | 12 => ⟨S16x256, .f32⟩
  | 13 => ⟨S_, .f32⟩
  | 14 => ⟨S2048x16x256, .f32⟩
  | 15 => ⟨S_, .i32⟩
  | 16 => ⟨S2048x16x256, .f32⟩
  | 17 => ⟨S1024x256, .f32⟩
  | 18 => ⟨S1024x256, .f32⟩
  | 19 => ⟨S1024, .f32⟩
  | 20 => ⟨S1024, .f32⟩
  | 21 => ⟨S_, .i32⟩
  | 22 => ⟨S16x256, .f32⟩
  | 23 => ⟨S16x256, .f32⟩
  | 24 => ⟨S2048x16x256, .f32⟩
  | 25 => ⟨S_, .i32⟩
  | 26 => ⟨S_, .i1⟩
  | 27 => ⟨S_, .i32⟩
  | 28 => ⟨S_, .i32⟩
  | 29 => ⟨S1x16x256, .f32⟩
  | 30 => ⟨S16x256, .f32⟩
  | 31 => ⟨S256x1024, .f32⟩
  | 32 => ⟨S16x1024, .f32⟩
  | 33 => ⟨S256x1024, .f32⟩
  | 34 => ⟨S16x1024, .f32⟩
  | 35 => ⟨S16x1024, .f32⟩
  | 36 => ⟨S1x1024, .f32⟩
  | 37 => ⟨S16x1024, .f32⟩
  | 38 => ⟨S16x1024, .f32⟩
  | 39 => ⟨S1x1024, .f32⟩
  | 40 => ⟨S16x1024, .f32⟩
  | 41 => ⟨S16x1024, .f32⟩
  | 42 => ⟨S16x256, .f32⟩
  | 43 => ⟨S16x256, .f32⟩
  | 44 => ⟨S16x256, .f32⟩
  | 45 => ⟨S16x256, .f32⟩
  | 46 => ⟨S16x256, .f32⟩
  | 47 => ⟨S16x256, .f32⟩
  | 48 => ⟨S_, .f32⟩
  | 49 => ⟨S16x256, .f32⟩
  | 50 => ⟨S16x256, .f32⟩
  | 51 => ⟨S_, .f32⟩
  | 52 => ⟨S16x256, .f32⟩
  | 53 => ⟨S16x256, .f32⟩
  | 54 => ⟨S16x256, .f32⟩
  | 55 => ⟨S16x256, .f32⟩
  | 56 => ⟨S_, .f32⟩
  | 57 => ⟨S16x256, .f32⟩
  | 58 => ⟨S16x256, .f32⟩
  | 59 => ⟨S_, .f32⟩
  | 60 => ⟨S16x256, .f32⟩
  | 61 => ⟨S16x256, .f32⟩
  | 62 => ⟨S16x256, .f32⟩
  | 63 => ⟨S16x256, .f32⟩
  | 64 => ⟨S16x256, .f32⟩
  | 65 => ⟨S_, .f32⟩
  | 66 => ⟨S16x256, .f32⟩
  | 67 => ⟨S16x256, .f32⟩
  | 68 => ⟨S_, .f32⟩
  | 69 => ⟨S16x256, .f32⟩
  | 70 => ⟨S16x256, .f32⟩
  | 71 => ⟨S16x256, .f32⟩
  | 72 => ⟨S16x256, .f32⟩
  | 73 => ⟨S16x256, .f32⟩
  | 74 => ⟨S16x256, .f32⟩
  | 75 => ⟨S16x256, .f32⟩
  | 76 => ⟨S1x16x256, .f32⟩
  | 77 => ⟨S_, .i32⟩
  | 78 => ⟨S_, .i32⟩
  | 79 => ⟨S2048x16x256, .f32⟩
  | 80 => ⟨S_, .i32⟩
  | 81 => ⟨S_, .i32⟩
  | 82 => ⟨S16x2048x256, .f32⟩
  | 83 => ⟨S16x2048x1, .i32⟩
  | 84 => ⟨S16x2048x256, .i32⟩
  | 85 => ⟨S_, .i32⟩
  | 86 => ⟨S16x2048x256, .i32⟩
  | 87 => ⟨S16x2048x256, .i1⟩
  | 88 => ⟨S_, .i32⟩
  | 89 => ⟨S16x2048x256, .i32⟩
  | 90 => ⟨S16x2048x256, .i32⟩
  | 91 => ⟨S16x2048x256, .i32⟩
  | 92 => ⟨S16x2048x256x1, .i32⟩
  | 93 => ⟨S1, .i32⟩
  | 94 => ⟨S_, .i32⟩
  | 95 => ⟨S16x2048x256x1, .i32⟩
  | 96 => ⟨S16x2048x256x1, .i1⟩
  | 97 => ⟨S1x1x1x1, .i32⟩
  | 98 => ⟨S16x2048x256x1, .i32⟩
  | 99 => ⟨S16x2048x256x1, .i1⟩
  | 100 => ⟨S16x2048x256x1, .i1⟩
  | 101 => ⟨S_, .i1⟩
  | 102 => ⟨S16x2048x256, .i1⟩
  | 103 => ⟨S16x2048x256, .f32⟩
  | 104 => ⟨S_, .f32⟩
  | 105 => ⟨S16x2048x256, .f32⟩
  | 106 => ⟨S16x2048x256, .f32⟩
  | 107 => ⟨S16x2048x1, .f32⟩
  | 108 => ⟨S16x2048x256, .f32⟩
  | 109 => ⟨S16x2048x256, .f32⟩
  | 110 => ⟨S16x2048x512, .f32⟩
  | _ => ⟨S16x2048x256, .f32⟩

abbrev hbmTy (i : Nat) : BufTy := match i / 128 with
  | 0 => hbmTy0_0 i
  | 1 => hbmTy0_1 i
  | _ => ⟨S16x2048x256, .f32⟩

abbrev bufTy : (tb : Table) → Fin (tcTables nBuf tb) → BufTy
  | .hbm, ⟨i, _⟩ => hbmTy i
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_c : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev main_v11_5 : Ref sig .tc := ⟨.hbm, 30, rfl⟩
abbrev main_v11_6 : Ref sig .tc := ⟨.hbm, 31, rfl⟩
abbrev main_v11_7 : Ref sig .tc := ⟨.hbm, 32, rfl⟩
abbrev main_v11_8 : Ref sig .tc := ⟨.hbm, 33, rfl⟩
abbrev main_while0c_c_16 : Ref sig .tc := ⟨.hbm, 34, rfl⟩
abbrev main_while0c_v45 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v45 : Ref sig .tc := ⟨.hbm, 39, rfl⟩
abbrev main_while0b_v46 : Ref sig .tc := ⟨.hbm, 40, rfl⟩
abbrev main_while0b_v47 : Ref sig .tc := ⟨.hbm, 41, rfl⟩
abbrev main_while0b_v48 : Ref sig .tc := ⟨.hbm, 42, rfl⟩
abbrev main_while0b_v49 : Ref sig .tc := ⟨.hbm, 43, rfl⟩
abbrev main_while0b_v50 : Ref sig .tc := ⟨.hbm, 44, rfl⟩
abbrev main_while0b_v51 : Ref sig .tc := ⟨.hbm, 45, rfl⟩
abbrev main_while0b_v52 : Ref sig .tc := ⟨.hbm, 46, rfl⟩
abbrev main_while0b_v53 : Ref sig .tc := ⟨.hbm, 47, rfl⟩
abbrev main_while0b_v54 : Ref sig .tc := ⟨.hbm, 48, rfl⟩
abbrev main_while0b_v55 : Ref sig .tc := ⟨.hbm, 49, rfl⟩
abbrev main_while0b_v56 : Ref sig .tc := ⟨.hbm, 50, rfl⟩
abbrev main_while0b_v57 : Ref sig .tc := ⟨.hbm, 51, rfl⟩
abbrev main_while0b_v58 : Ref sig .tc := ⟨.hbm, 52, rfl⟩
abbrev main_while0b_v59 : Ref sig .tc := ⟨.hbm, 53, rfl⟩
abbrev main_while0b_v60 : Ref sig .tc := ⟨.hbm, 54, rfl⟩
abbrev main_while0b_v61 : Ref sig .tc := ⟨.hbm, 55, rfl⟩
abbrev main_while0b_v62 : Ref sig .tc := ⟨.hbm, 56, rfl⟩
abbrev main_while0b_cst_16 : Ref sig .tc := ⟨.hbm, 57, rfl⟩
abbrev main_while0b_v63 : Ref sig .tc := ⟨.hbm, 58, rfl⟩
abbrev main_while0b_v64 : Ref sig .tc := ⟨.hbm, 59, rfl⟩
abbrev main_while0b_cst_17 : Ref sig .tc := ⟨.hbm, 60, rfl⟩
abbrev main_while0b_v65 : Ref sig .tc := ⟨.hbm, 61, rfl⟩
abbrev main_while0b_v66 : Ref sig .tc := ⟨.hbm, 62, rfl⟩
abbrev main_while0b_v67 : Ref sig .tc := ⟨.hbm, 63, rfl⟩
abbrev main_while0b_v68 : Ref sig .tc := ⟨.hbm, 64, rfl⟩
abbrev main_while0b_cst_18 : Ref sig .tc := ⟨.hbm, 65, rfl⟩
abbrev main_while0b_v69 : Ref sig .tc := ⟨.hbm, 66, rfl⟩
abbrev main_while0b_v70 : Ref sig .tc := ⟨.hbm, 67, rfl⟩
abbrev main_while0b_cst_19 : Ref sig .tc := ⟨.hbm, 68, rfl⟩
abbrev main_while0b_v71 : Ref sig .tc := ⟨.hbm, 69, rfl⟩
abbrev main_while0b_v72 : Ref sig .tc := ⟨.hbm, 70, rfl⟩
abbrev main_while0b_v73 : Ref sig .tc := ⟨.hbm, 71, rfl⟩
abbrev main_while0b_v74 : Ref sig .tc := ⟨.hbm, 72, rfl⟩
abbrev main_while0b_v75 : Ref sig .tc := ⟨.hbm, 73, rfl⟩
abbrev main_while0b_cst_20 : Ref sig .tc := ⟨.hbm, 74, rfl⟩
abbrev main_while0b_v76 : Ref sig .tc := ⟨.hbm, 75, rfl⟩
abbrev main_while0b_v77 : Ref sig .tc := ⟨.hbm, 76, rfl⟩
abbrev main_while0b_cst_21 : Ref sig .tc := ⟨.hbm, 77, rfl⟩
abbrev main_while0b_v78 : Ref sig .tc := ⟨.hbm, 78, rfl⟩
abbrev main_while0b_v79 : Ref sig .tc := ⟨.hbm, 79, rfl⟩
abbrev main_while0b_v80 : Ref sig .tc := ⟨.hbm, 80, rfl⟩
abbrev main_while0b_v81 : Ref sig .tc := ⟨.hbm, 81, rfl⟩
abbrev main_while0b_v82 : Ref sig .tc := ⟨.hbm, 82, rfl⟩
abbrev main_while0b_v83 : Ref sig .tc := ⟨.hbm, 83, rfl⟩
abbrev main_while0b_v84 : Ref sig .tc := ⟨.hbm, 84, rfl⟩
abbrev main_while0b_call1_v0 : Ref sig .tc := ⟨.hbm, 85, rfl⟩
abbrev main_while0b_call1_c : Ref sig .tc := ⟨.hbm, 86, rfl⟩
abbrev main_while0b_call1_c_0 : Ref sig .tc := ⟨.hbm, 87, rfl⟩
abbrev main_while0b_v85 : Ref sig .tc := ⟨.hbm, 88, rfl⟩
abbrev main_while0b_c_22 : Ref sig .tc := ⟨.hbm, 89, rfl⟩
abbrev main_while0b_v86 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_v15 : Ref sig .tc := ⟨.hbm, 94, rfl⟩
abbrev main_v16 : Ref sig .tc := ⟨.hbm, 95, rfl⟩
abbrev main_v17 : Ref sig .tc := ⟨.hbm, 96, rfl⟩
abbrev main_v18 : Ref sig .tc := ⟨.hbm, 97, rfl⟩
abbrev main_v19 : Ref sig .tc := ⟨.hbm, 98, rfl⟩
abbrev main_v20 : Ref sig .tc := ⟨.hbm, 99, rfl⟩
abbrev main_v21 : Ref sig .tc := ⟨.hbm, 100, rfl⟩
abbrev main_c_2 : Ref sig .tc := ⟨.hbm, 101, rfl⟩
abbrev main_v22 : Ref sig .tc := ⟨.hbm, 102, rfl⟩
abbrev main_v23 : Ref sig .tc := ⟨.hbm, 103, rfl⟩
abbrev main_v24 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_c_3 : Ref sig .tc := ⟨.hbm, 108, rfl⟩
abbrev main_call2_v0 : Ref sig .tc := ⟨.hbm, 109, rfl⟩
abbrev main_call2_v1 : Ref sig .tc := ⟨.hbm, 110, rfl⟩
abbrev main_v28 : Ref sig .tc := ⟨.hbm, 111, rfl⟩
abbrev main_v29 : Ref sig .tc := ⟨.hbm, 112, rfl⟩
abbrev main_v30 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_cst : Ref sig .tc := ⟨.hbm, 133, rfl⟩
abbrev main_call3_v14 : Ref sig .tc := ⟨.hbm, 134, rfl⟩
abbrev main_v31 : Ref sig .tc := ⟨.hbm, 135, rfl⟩
abbrev main_v32 : Ref sig .tc := ⟨.hbm, 136, rfl⟩
abbrev main_cst_4 : Ref sig .tc := ⟨.hbm, 137, rfl⟩
abbrev main_v33 : Ref sig .tc := ⟨.hbm, 138, rfl⟩
abbrev main_cst_5 : Ref sig .tc := ⟨.hbm, 139, rfl⟩
abbrev main_v34 : Ref sig .tc := ⟨.hbm, 140, rfl⟩
abbrev main_cst_6 : Ref sig .tc := ⟨.hbm, 141, rfl⟩
abbrev main_v35 : Ref sig .tc := ⟨.hbm, 142, rfl⟩
abbrev main_c_7 : Ref sig .tc := ⟨.hbm, 143, rfl⟩
abbrev main_v36_0 : Ref sig .tc := ⟨.hbm, 144, rfl⟩
abbrev main_v36_1 : Ref sig .tc := ⟨.hbm, 145, rfl⟩
abbrev main_v36_2 : Ref sig .tc := ⟨.hbm, 146, rfl⟩
abbrev main_v36_3 : Ref sig .tc := ⟨.hbm, 147, rfl⟩
abbrev main_v36_4 : Ref sig .tc := ⟨.hbm, 148, rfl⟩
abbrev main_v36_5 : Ref sig .tc := ⟨.hbm, 149, rfl⟩
abbrev main_v36_6 : Ref sig .tc := ⟨.hbm, 150, rfl⟩
abbrev main_v36_7 : Ref sig .tc := ⟨.hbm, 151, rfl⟩
abbrev main_v36_8 : Ref sig .tc := ⟨.hbm, 152, rfl⟩
abbrev main_while1c_c_16 : Ref sig .tc := ⟨.hbm, 153, rfl⟩
abbrev main_while1c_v45 : Ref sig .tc := ⟨.hbm, 154, rfl⟩
abbrev main_while1b_call4_c : Ref sig .tc := ⟨.hbm, 155, rfl⟩
abbrev main_while1b_call4_c_0 : Ref sig .tc := ⟨.hbm, 156, rfl⟩
abbrev main_while1b_call4_v0 : Ref sig .tc := ⟨.hbm, 157, rfl⟩
abbrev main_while1b_v45 : Ref sig .tc := ⟨.hbm, 158, rfl⟩
abbrev main_while1b_v46 : Ref sig .tc := ⟨.hbm, 159, rfl⟩
abbrev main_while1b_v47 : Ref sig .tc := ⟨.hbm, 160, rfl⟩
abbrev main_while1b_v48 : Ref sig .tc := ⟨.hbm, 161, rfl⟩
abbrev main_while1b_v49 : Ref sig .tc := ⟨.hbm, 162, rfl⟩
abbrev main_while1b_v50 : Ref sig .tc := ⟨.hbm, 163, rfl⟩
abbrev main_while1b_v51 : Ref sig .tc := ⟨.hbm, 164, rfl⟩
abbrev main_while1b_v52 : Ref sig .tc := ⟨.hbm, 165, rfl⟩
abbrev main_while1b_v53 : Ref sig .tc := ⟨.hbm, 166, rfl⟩
abbrev main_while1b_v54 : Ref sig .tc := ⟨.hbm, 167, rfl⟩
abbrev main_while1b_v55 : Ref sig .tc := ⟨.hbm, 168, rfl⟩
abbrev main_while1b_v56 : Ref sig .tc := ⟨.hbm, 169, rfl⟩
abbrev main_while1b_v57 : Ref sig .tc := ⟨.hbm, 170, rfl⟩
abbrev main_while1b_v58 : Ref sig .tc := ⟨.hbm, 171, rfl⟩
abbrev main_while1b_v59 : Ref sig .tc := ⟨.hbm, 172, rfl⟩
abbrev main_while1b_v60 : Ref sig .tc := ⟨.hbm, 173, rfl⟩
abbrev main_while1b_v61 : Ref sig .tc := ⟨.hbm, 174, rfl⟩
abbrev main_while1b_v62 : Ref sig .tc := ⟨.hbm, 175, rfl⟩
abbrev main_while1b_cst_16 : Ref sig .tc := ⟨.hbm, 176, rfl⟩
abbrev main_while1b_v63 : Ref sig .tc := ⟨.hbm, 177, rfl⟩
abbrev main_while1b_v64 : Ref sig .tc := ⟨.hbm, 178, rfl⟩
abbrev main_while1b_cst_17 : Ref sig .tc := ⟨.hbm, 179, rfl⟩
abbrev main_while1b_v65 : Ref sig .tc := ⟨.hbm, 180, rfl⟩
abbrev main_while1b_v66 : Ref sig .tc := ⟨.hbm, 181, rfl⟩
abbrev main_while1b_v67 : Ref sig .tc := ⟨.hbm, 182, rfl⟩
abbrev main_while1b_v68 : Ref sig .tc := ⟨.hbm, 183, rfl⟩
abbrev main_while1b_cst_18 : Ref sig .tc := ⟨.hbm, 184, rfl⟩
abbrev main_while1b_v69 : Ref sig .tc := ⟨.hbm, 185, rfl⟩
abbrev main_while1b_v70 : Ref sig .tc := ⟨.hbm, 186, rfl⟩
abbrev main_while1b_cst_19 : Ref sig .tc := ⟨.hbm, 187, rfl⟩
abbrev main_while1b_v71 : Ref sig .tc := ⟨.hbm, 188, rfl⟩
abbrev main_while1b_v72 : Ref sig .tc := ⟨.hbm, 189, rfl⟩
abbrev main_while1b_v73 : Ref sig .tc := ⟨.hbm, 190, rfl⟩
abbrev main_while1b_v74 : Ref sig .tc := ⟨.hbm, 191, rfl⟩
abbrev main_while1b_v75 : Ref sig .tc := ⟨.hbm, 192, rfl⟩
abbrev main_while1b_cst_20 : Ref sig .tc := ⟨.hbm, 193, rfl⟩
abbrev main_while1b_v76 : Ref sig .tc := ⟨.hbm, 194, rfl⟩
abbrev main_while1b_v77 : Ref sig .tc := ⟨.hbm, 195, rfl⟩
abbrev main_while1b_cst_21 : Ref sig .tc := ⟨.hbm, 196, rfl⟩
abbrev main_while1b_v78 : Ref sig .tc := ⟨.hbm, 197, rfl⟩
abbrev main_while1b_v79 : Ref sig .tc := ⟨.hbm, 198, rfl⟩
abbrev main_while1b_v80 : Ref sig .tc := ⟨.hbm, 199, rfl⟩
abbrev main_while1b_v81 : Ref sig .tc := ⟨.hbm, 200, rfl⟩
abbrev main_while1b_v82 : Ref sig .tc := ⟨.hbm, 201, rfl⟩
abbrev main_while1b_v83 : Ref sig .tc := ⟨.hbm, 202, rfl⟩
abbrev main_while1b_v84 : Ref sig .tc := ⟨.hbm, 203, rfl⟩
abbrev main_while1b_call5_v0 : Ref sig .tc := ⟨.hbm, 204, rfl⟩
abbrev main_while1b_call5_c : Ref sig .tc := ⟨.hbm, 205, rfl⟩
abbrev main_while1b_call5_c_0 : Ref sig .tc := ⟨.hbm, 206, rfl⟩
abbrev main_while1b_v85 : Ref sig .tc := ⟨.hbm, 207, rfl⟩
abbrev main_while1b_c_22 : Ref sig .tc := ⟨.hbm, 208, rfl⟩
abbrev main_while1b_v86 : Ref sig .tc := ⟨.hbm, 209, rfl⟩
abbrev main_v37 : Ref sig .tc := ⟨.hbm, 210, rfl⟩
abbrev main_v38 : Ref sig .tc := ⟨.hbm, 211, rfl⟩
abbrev main_v39 : Ref sig .tc := ⟨.hbm, 212, rfl⟩
abbrev main_call6_c : Ref sig .tc := ⟨.hbm, 213, rfl⟩
abbrev main_call6_v0 : Ref sig .tc := ⟨.hbm, 214, rfl⟩
abbrev main_call6_v1 : Ref sig .tc := ⟨.hbm, 215, rfl⟩
abbrev main_call6_c_0 : Ref sig .tc := ⟨.hbm, 216, rfl⟩
abbrev main_call6_v2 : Ref sig .tc := ⟨.hbm, 217, rfl⟩
abbrev main_call6_v3 : Ref sig .tc := ⟨.hbm, 218, rfl⟩
abbrev main_call6_v4 : Ref sig .tc := ⟨.hbm, 219, rfl⟩
abbrev main_call6_v5 : Ref sig .tc := ⟨.hbm, 220, rfl⟩
abbrev main_call6_c_1 : Ref sig .tc := ⟨.hbm, 221, rfl⟩
abbrev main_call6_c_2 : Ref sig .tc := ⟨.hbm, 222, rfl⟩
abbrev main_call6_v6 : Ref sig .tc := ⟨.hbm, 223, rfl⟩
abbrev main_call6_v7 : Ref sig .tc := ⟨.hbm, 224, rfl⟩
abbrev main_call6_v8 : Ref sig .tc := ⟨.hbm, 225, rfl⟩
abbrev main_call6_v9 : Ref sig .tc := ⟨.hbm, 226, rfl⟩
abbrev main_call6_v10 : Ref sig .tc := ⟨.hbm, 227, rfl⟩
abbrev main_call6_v11 : Ref sig .tc := ⟨.hbm, 228, rfl⟩
abbrev main_call6_c_3 : Ref sig .tc := ⟨.hbm, 229, rfl⟩
abbrev main_call6_v12 : Ref sig .tc := ⟨.hbm, 230, rfl⟩
abbrev main_call6_v13 : Ref sig .tc := ⟨.hbm, 231, rfl⟩
abbrev main_call6_cst : Ref sig .tc := ⟨.hbm, 232, rfl⟩
abbrev main_call6_v14 : Ref sig .tc := ⟨.hbm, 233, rfl⟩
abbrev main_v40 : Ref sig .tc := ⟨.hbm, 234, rfl⟩
abbrev main_v41 : Ref sig .tc := ⟨.hbm, 235, rfl⟩
abbrev main_v42 : Ref sig .tc := ⟨.hbm, 236, rfl⟩
abbrev main_v43 : Ref sig .tc := ⟨.hbm, 237, rfl⟩
abbrev main_v44 : Ref sig .tc := ⟨.hbm, 238, rfl⟩

abbrev nD : Nat := 1
abbrev τ : Topo := Topo.v7x

variable {F : FTy → Type} [FloatOps F]

abbrev main_while0_count : Scf.Loop 32 := ⟨0#32, 2048#32, 1#32⟩

abbrev main_while1_count : Scf.Loop 32 := ⟨0#32, 2048#32, 1#32⟩
-- ==== Proof.KernelIdeal.Chunk.lean ====
module

public import proofs.«01_k».proof.Proof.Gen.KernelIdeal.Loops
public import Idealize.ShloMosaic.Lib.VecWindow
public import Idealize.ShloMosaic.Lib.WritesUnit
public import Idealize.ShloMosaic.Lib.ValueIdxCore
public import Idealize.ShloMosaic.Lib.ValueLayout

/-! # One chunk of 128 time steps

What the kernel's counted loop computes: from the four states it is entered with and the two arrays of gate rows, the
states after every trip, and what the two row buffers hold when it is left. -/

@[expose] public section

set_option maxRecDepth 16384

noncomputable section

namespace Cert.KernelIdeal.Lstm

open Idealize.ShloMosaic Idealize.ShloMosaic.TcCoe Idealize.ShloMosaic.Tactic Idealize.ShloMosaic.ValueIdx
open Idealize.SL Idealize.SL.RA Idealize.SL.BI Idealize.SL.Sem
open Cert.KernelIdeal.Gen

variable {F : FTy → Type} [FloatOps F]

/-- The four states the loop carries: forward hidden and cell state, backward hidden and cell state. -/
abbrev Carry (F : FTy → Type) : Type :=
  Vec F S16x256 .f32 × Vec F S16x256 .f32 × Vec F S16x256 .f32 × Vec F S16x256 .f32

/-- Row `j` of an array of 128 gate rows, as the one-row block a load of it yields. -/
def gateRow (G : Vec F S128x16x1024 .f32) (j : Fin 128) : Vec F S1x16x1024 .f32 :=
  fun y => G (ix3 j (y 1) (y 2))

/-- The loop makes 128 turns. -/
theorem trips_eq : k0_t1_loop.trips = 128 := by decide +kernel

/-- The trip number as a number below 128. -/
def fwdRow (k : Fin k0_t1_loop.trips) : Fin 128 := k.cast trips_eq

/-- The row the backward pass works on in a trip: it goes through the chunk from its end. -/
def bwdRow (k : Fin k0_t1_loop.trips) : Fin 128 := ⟨127 - k.val, by omega⟩

/-- One trip: the forward cell on row `k` of the forward gates; the backward cell on row `127 - k` of the backward
gates, from states that are reset where the step is not before the sequence's last one. -/
def turn (seq : Vec F S16x256 .i32) (wf wb : Vec F S256x1024 .bf16) (base : BitVec 32)
    (gf gb : Vec F S128x16x1024 .f32) (k : Fin k0_t1_loop.trips) (a : Carry F) : Carry F :=
  (k0_pay6 (k0_pay19 wf) a.1 a.2.1 (gateRow gf (fwdRow k)),
   k0_pay5 (k0_pay19 wf) a.1 a.2.1 (gateRow gf (fwdRow k)),
   k0_pay24 (k0_pay9 (k0_pay18 seq) base 0#32 1#32 k a.2.2.2) (k0_pay10 (gateRow gb (bwdRow k)))
     (k0_pay11 (k0_pay18 seq) (k0_pay20 wb) base 0#32 1#32 k a.2.2.1),
   k0_pay23 (k0_pay9 (k0_pay18 seq) base 0#32 1#32 k a.2.2.2) (k0_pay10 (gateRow gb (bwdRow k)))
     (k0_pay11 (k0_pay18 seq) (k0_pay20 wb) base 0#32 1#32 k a.2.2.1))

/-- The states before trip `k`. -/
def statesAt (seq : Vec F S16x256 .i32) (wf wb : Vec F S256x1024 .bf16) (base : BitVec 32)
    (gf gb : Vec F S128x16x1024 .f32) (a : Carry F) : ℕ → Carry F
  | 0 => a
  | k + 1 => if h : k < k0_t1_loop.trips then turn seq wf wb base gf gb ⟨k, h⟩ (statesAt seq wf wb base gf gb a k)
      else statesAt seq wf wb base gf gb a k

/-- The states after one more turn. -/
theorem statesAt_succ (seq : Vec F S16x256 .i32) (wf wb : Vec F S256x1024 .bf16) (base : BitVec 32)
    (gf gb : Vec F S128x16x1024 .f32) (a : Carry F) (k : Fin k0_t1_loop.trips) :
    statesAt seq wf wb base gf gb a (k.val + 1)
      = turn seq wf wb base gf gb k (statesAt seq wf wb base gf gb a k.val) := by
  rw [statesAt]; exact dif_pos k.isLt

/-- The forward row buffer after the loop: row `j` is the forward hidden state after trip `j`. -/
def fwdRows (seq : Vec F S16x256 .i32) (wf wb : Vec F S256x1024 .bf16) (base : BitVec 32)
    (gf gb : Vec F S128x16x1024 .f32) (a : Carry F) : Vec F S128x16x256 .f32 :=
  fun y => (statesAt seq wf wb base gf gb a ((y 0).val + 1)).1 (ix2 (y 1) (y 2))

/-- The backward row buffer after the loop: row `j` is the backward hidden state after trip `127 - j`. -/
def bwdRows (seq : Vec F S16x256 .i32) (wf wb : Vec F S256x1024 .bf16) (base : BitVec 32)
    (gf gb : Vec F S128x16x1024 .f32) (a : Carry F) : Vec F S128x16x256 .f32 :=
  fun y => (statesAt seq wf wb base gf gb a (127 - (y 0).val + 1)).2.2.1 (ix2 (y 1) (y 2))

/-! ## From the generated loop state to these -/

/-- A load of one gate row at a closed offset. -/
theorem readAt_gateRow (v : View sig .tc .vmem S128x16x1024 .f32) (X : v.ty.Contents (Elt F)) (off : Fin 3 → ℕ) (j : Fin 128)
    (inb : ∀ a, off a + S1x16x1024.size a ≤ S128x16x1024.size a) (h : off = ![j.val, 0, 0]) :
    v.readAt (Elt F) (Rect.unit (s := S128x16x1024) off S1x16x1024.size inb).toLoadRect X = gateRow (v.read (Elt F) X) j := by
  subst h
  funext y
  exact congrArg (v.read (Elt F) X) (funext fun a => Fin.ext (by
    match a with
    | ⟨0, _⟩ =>
      have h0 : (y 0).val < 1 := (y 0).isLt
      show j.val + 1 * (y 0).val = j.val
      omega
    | ⟨1, _⟩ => show 0 + 1 * (y 1).val = (y 1).val; omega
    | ⟨2, _⟩ => show 0 + 1 * (y 2).val = (y 2).val; omega))

/-- A state as a one-row block reads the state. -/
theorem oneRow_apply (x : Vec F S16x256 .f32) (y : S1x16x256.Idx) :
    shapeCast S1x16x256 x shapeCasts_S16x256_S1x16x256 y = x (ix2 (y 1) (y 2)) := by
  obtain ⟨u, b, h, rfl⟩ : ∃ (u : Fin 1) (b : Fin 16) (h : Fin 256), y = ix3 u b h := ⟨y 0, y 1, y 2, eq_ix3 y⟩
  exact shapeCast_ab_1ab_apply x _ u b h

/-- Rows written one per trip at distinct places read back: the last written at a place is that trip's. -/
theorem rows_read (v : View sig .tc .vmem S128x16x256 .f32) (f : v.ty.Contents (Elt F))
    (off : Fin k0_t1_loop.trips → Fin 3 → ℕ) (place : Fin k0_t1_loop.trips → ℕ)
    (inb : ∀ k, ∀ a, off k a + S1x16x256.size a ≤ S128x16x256.size a) (hoff : ∀ k, off k = ![place k, 0, 0])
    (hinj : ∀ k l, place k = place l → k = l) (W : Fin k0_t1_loop.trips → Vec F S16x256 .f32)
    (L : ℕ → List (View.Piece (Elt F) S128x16x256 .f32))
    (hL : ∀ k : Fin k0_t1_loop.trips, L (k.val + 1)
      = ⟨Rect.unit (s := S128x16x256) (off k) S1x16x256.size (inb k), shapeCast S1x16x256 (W k) shapeCasts_S16x256_S1x16x256⟩ :: L k.val)
    (n : ℕ) (hn : n ≤ k0_t1_loop.trips) (k : Fin k0_t1_loop.trips) (hk : k.val < n) (y : S128x16x256.Idx)
    (hy : (y 0).val = place k) :
    v.read (Elt F) (v.writes (Elt F) f (L n)) y = W k (ix2 (y 1) (y 2)) := by
  induction n with
  | zero => omega
  | succ n ih =>
    have e := hL ⟨n, by omega⟩
    simp only at e
    rw [e]
    by_cases hkn : k.val = n
    · have hkk : k = ⟨n, by omega⟩ := Fin.ext hkn
      rw [← hkk]
      rw [View.read_writes_cons_unit_of_mem v f (inb k) _ _ y (ix3 (n0 := 1) (n1 := 16) (n2 := 256) 0 (y 1) (y 2)) (hoff k)]
      · exact oneRow_apply (W k) _
      · intro a
        match a with
        | ⟨0, _⟩ => show (y 0).val = place k + 0; omega
        | ⟨1, _⟩ => show (y 1).val = 0 + (y 1).val; omega
        | ⟨2, _⟩ => show (y 2).val = 0 + (y 2).val; omega
    · rw [View.read_writes_cons_unit_of_not_mem v f (inb ⟨n, by omega⟩) _ _ y (hoff ⟨n, by omega⟩) (0 : Fin 3)]
      · exact ih (by omega) (by omega)
      · have hne : place ⟨n, by omega⟩ ≠ (y 0).val := fun h => hkn (congrArg Fin.val (hinj k ⟨n, by omega⟩ (by omega)))
        show (y 0).val < place ⟨n, by omega⟩ ∨ place ⟨n, by omega⟩ + 1 ≤ (y 0).val
        omega

section
variable (𝒱 : Variants) (c : Dev nD) (bd : Option 𝒱.V) (i : grid0.Coords)
  (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
  (arg0 : BitVec 32) (k0_h1 : k0_cond1 i = 1#1) (seq : Vec F S16x256 .i32) (wf wb : Vec F S256x1024 .bf16) (base : BitVec 32)
  (X12 : BufTy.Contents (Elt F) arg12.view.ty) (X13 : BufTy.Contents (Elt F) arg13.view.ty)

/-- What one generated trip yields is one turn. -/
theorem tripR_eq (k : Fin k0_t1_loop.trips) (a : Carry F) :
    tripR_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 k a
      = turn seq wf wb base (arg12.view.read (Elt F) X12) (arg13.view.read (Elt F) X13) k a := by
  unfold tripR_k0_t1 trip_k0_t1
  have h12 := readAt_gateRow arg12.view X12 (k0_off1 k) (fwdRow k) (k0_off1_inb i k k0_h1) (k0_off1_eq k)
  have h13 := readAt_gateRow arg13.view X13 (k0_off3 k) (bwdRow k) (k0_off3_inb i k k0_h1) (k0_off3_eq k)
  unfold turn
  rw [← h12, ← h13]
  rfl

/-- What one generated trip writes is the two hidden states of the turn, each as one row. -/
theorem tripL_eq (k : Fin k0_t1_loop.trips) (a : Carry F) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 k a
      = ([⟨Rect.unit (k0_off2 k) S1x16x256.size (k0_off2_inb i k k0_h1), shapeCast S1x16x256
            (turn seq wf wb base (arg12.view.read (Elt F) X12) (arg13.view.read (Elt F) X13) k a).1 shapeCasts_S16x256_S1x16x256⟩],
         [⟨Rect.unit (k0_off4 k) S1x16x256.size (k0_off4_inb i k k0_h1), shapeCast S1x16x256
            (turn seq wf wb base (arg12.view.read (Elt F) X12) (arg13.view.read (Elt F) X13) k a).2.2.1 shapeCasts_S16x256_S1x16x256⟩]) := by
  unfold tripL_k0_t1 trip_k0_t1
  have h12 := readAt_gateRow arg12.view X12 (k0_off1 k) (fwdRow k) (k0_off1_inb i k k0_h1) (k0_off1_eq k)
  have h13 := readAt_gateRow arg13.view X13 (k0_off3 k) (bwdRow k) (k0_off3_inb i k k0_h1) (k0_off3_eq k)
  unfold turn
  rw [← h12, ← h13]
  rfl

/-- The generated carried value before trip `k` is the states before trip `k`. -/
theorem st_fst (a : Carry F) (k : ℕ) (hk : k ≤ k0_t1_loop.trips) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 a k).1
      = statesAt seq wf wb base (arg12.view.read (Elt F) X12) (arg13.view.read (Elt F) X13) a k := by
  induction k with
  | zero => rfl
  | succ k ih =>
    have e := statesAt_succ seq wf wb base (arg12.view.read (Elt F) X12) (arg13.view.read (Elt F) X13) a ⟨k, by omega⟩
    have e' := congrArg Prod.fst (st_k0_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 a ⟨k, by omega⟩)
    refine e'.trans ?_
    rw [tripR_eq]
    exact (congrArg (turn _ _ _ _ _ _ _) (ih (by omega))).trans e.symm

/-- The forward row buffer after the loop, over any contents it had. -/
theorem read_fwd (a : Carry F) (G : arg18.view.ty.Contents (Elt F)) :
    arg18.view.read (Elt F) (arg18.view.writes (Elt F) G
        (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 a k0_t1_loop.trips).2.1)
      = fwdRows seq wf wb base (arg12.view.read (Elt F) X12) (arg13.view.read (Elt F) X13) a := by
  funext y
  have hy : (y 0).val < 128 := (y 0).isLt
  refine (rows_read arg18.view G k0_off2 (fun k => k.val) (fun k => k0_off2_inb i k k0_h1) k0_off2_eq
    (fun k l h => Fin.ext h)
    (fun k => (statesAt seq wf wb base (arg12.view.read (Elt F) X12) (arg13.view.read (Elt F) X13) a (k.val + 1)).1)
    (fun n => (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 a n).2.1)
    (fun k => ?_) k0_t1_loop.trips le_rfl ⟨(y 0).val, by rw [trips_eq]; exact hy⟩ (Fin.isLt _) y rfl)
  beta_reduce
  rw [st_k0_t1_succ, tripL_eq, st_fst (hk := k.isLt.le), statesAt_succ]
  rfl

/-- The backward row buffer after the loop, over any contents it had. -/
theorem read_bwd (a : Carry F) (G : arg19.view.ty.Contents (Elt F)) :
    arg19.view.read (Elt F) (arg19.view.writes (Elt F) G
        (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 a k0_t1_loop.trips).2.2)
      = bwdRows seq wf wb base (arg12.view.read (Elt F) X12) (arg13.view.read (Elt F) X13) a := by
  funext y
  have hy : (y 0).val < 128 := (y 0).isLt
  refine (rows_read arg19.view G k0_off4 (fun k => 127 - k.val) (fun k => k0_off4_inb i k k0_h1) k0_off4_eq
    (fun k l h => Fin.ext (by have := k.isLt; have := l.isLt; have := trips_eq; omega))
    (fun k => (statesAt seq wf wb base (arg12.view.read (Elt F) X12) (arg13.view.read (Elt F) X13) a (k.val + 1)).2.2.1)
    (fun n => (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 a n).2.2)
    (fun k => ?_) k0_t1_loop.trips le_rfl ⟨127 - (y 0).val, by rw [trips_eq]; omega⟩ (Fin.isLt _) y
    (by simp only; omega))
  beta_reduce
  rw [st_k0_t1_succ, tripL_eq, st_fst (hk := k.isLt.le), statesAt_succ]
  rfl

end

end Cert.KernelIdeal.Lstm
end
-- ==== Proof.KernelIdeal.Body.lean ====
module

public import proofs.«01_k».proof.Proof.KernelIdeal.Chunk
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic

/-! # One grid point

The kernel's body run at one grid point, in its three cases: the first point (the states are zeroed, the chunk is
computed), a later point of the forward direction (the chunk is computed from the states the point before left), and a
point of the backward direction (the row buffer left by the point before is written out). -/

@[expose] public section

set_option maxRecDepth 16384

noncomputable section

namespace Cert.KernelIdeal.Lstm

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The time step at which the backward direction's chunk of a grid point starts. -/
def chunkBase (i : grid0.Coords) : BitVec 32 := Scalar.muli (Scalar.subi 15#32 (BitVec.ofNat 32 (i 0).val)) 128#32

/-- The states a forward point leaves, from the blocks it reads and the states it finds. -/
def chunkEnd (i : grid0.Coords) (x0 : Vec F S16x256 .i32) (x1 : Vec F S16x128x256 .f32) (x2 : Vec F S16x128x256 .f32) (x3 : Vec F S256x1024 .bf16) (x4 : Vec F S256x1024 .bf16) (x5 : Vec F S1x1024 .f32) (x6 : Vec F S256x1024 .bf16) (x7 : Vec F S256x1024 .bf16) (x8 : Vec F S1x1024 .f32) (s : Carry F) : Carry F :=
  statesAt x0 x4 x7 (chunkBase i) (k0_pay16 x1 x3 x5) (k0_pay17 x2 x6 x8) s k0_t1_loop.trips

/-- The forward hidden states of the chunk, a row per step. -/
def chunkFwd (i : grid0.Coords) (x0 : Vec F S16x256 .i32) (x1 : Vec F S16x128x256 .f32) (x2 : Vec F S16x128x256 .f32) (x3 : Vec F S256x1024 .bf16) (x4 : Vec F S256x1024 .bf16) (x5 : Vec F S1x1024 .f32) (x6 : Vec F S256x1024 .bf16) (x7 : Vec F S256x1024 .bf16) (x8 : Vec F S1x1024 .f32) (s : Carry F) : Vec F S128x16x256 .f32 :=
  fwdRows x0 x4 x7 (chunkBase i) (k0_pay16 x1 x3 x5) (k0_pay17 x2 x6 x8) s

/-- The backward hidden states of the chunk, a row per step. -/
def chunkBwd (i : grid0.Coords) (x0 : Vec F S16x256 .i32) (x1 : Vec F S16x128x256 .f32) (x2 : Vec F S16x128x256 .f32) (x3 : Vec F S256x1024 .bf16) (x4 : Vec F S256x1024 .bf16) (x5 : Vec F S1x1024 .f32) (x6 : Vec F S256x1024 .bf16) (x7 : Vec F S256x1024 .bf16) (x8 : Vec F S1x1024 .f32) (s : Carry F) : Vec F S128x16x256 .f32 :=
  bwdRows x0 x4 x7 (chunkBase i) (k0_pay16 x1 x3 x5) (k0_pay17 x2 x6 x8) s

/-- The states the first point sets. -/
def zeroStates : Carry F := (k0_pay12, k0_pay13, k0_pay14, k0_pay15)

/-- A load of a whole buffer held at a value reads the value. -/
theorem load_whole {sp : Space} {S : Shape} {e : EltTy} {a : Memref sig .tc sp S e} (h : a.IsWhole) (x : S.Idx → Elt F e)
    {off : Fin S.rank → ℕ} (inb : ∀ d, off d + S.size d ≤ S.size d) :
    a.view.readAt (Elt F) (Rect.unit off S.size inb).toLoadRect (h.unread x) = x :=
  (View.readAt_full _ _ _).trans (h.read_unread x)

/-- Equal inputs have equal forward gate rows. -/
theorem pay16_congr {a x : Vec F S16x128x256 .f32} {b y : Vec F S256x1024 .bf16} {d z : Vec F S1x1024 .f32} (h1 : a = x) (h2 : b = y)
    (h3 : d = z) : k0_pay16 a b d = k0_pay16 x y z := by rw [h1, h2, h3]

/-- Equal inputs have equal backward gate rows. -/
theorem pay17_congr {a x : Vec F S16x128x256 .f32} {b y : Vec F S256x1024 .bf16} {d z : Vec F S1x1024 .f32} (h1 : a = x) (h2 : b = y)
    (h3 : d = z) : k0_pay17 a b d = k0_pay17 x y z := by rw [h1, h2, h3]

/-- Equal rows and lengths have equal forward output blocks. -/
theorem pay1_congr (i : grid0.Coords) {a x : Vec F S128x16x256 .f32} {b y : Vec F S16x256 .i32} (h1 : a = x) (h2 : b = y) :
    k0_pay1 i a b = k0_pay1 i x y := by rw [h1, h2]

/-- Equal rows and lengths have equal backward output blocks. -/
theorem pay2_congr (i : grid0.Coords) {a x : Vec F S128x16x256 .f32} {b y : Vec F S16x256 .i32} (h1 : a = x) (h2 : b = y) :
    k0_pay2 i a b = k0_pay2 i x y := by rw [h1, h2]

/-- States with equal parts are equal. -/
theorem carry_congr {a1 b1 a2 b2 a3 b3 a4 b4 : Vec F S16x256 .f32} (h1 : a1 = b1) (h2 : a2 = b2) (h3 : a3 = b3) (h4 : a4 = b4) :
    ((a1, a2, a3, a4) : Carry F) = (b1, b2, b3, b4) := by rw [h1, h2, h3, h4]

/-- The states the loop yields, from what its operands hold. -/
theorem st_end (𝒱 : Variants) (c : Dev nD) (bd : Option 𝒱.V) (i : grid0.Coords)
    (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
    (arg0 : BitVec 32) (k0_h1 : k0_cond1 i = 1#1) {seq x0 : Vec F S16x256 .i32} {wf x4 wb x7 : Vec F S256x1024 .bf16} {base : BitVec 32}
    {X12 : BufTy.Contents (Elt F) arg12.view.ty} {X13 : BufTy.Contents (Elt F) arg13.view.ty} {gf gb : Vec F S128x16x1024 .f32}
    {init s : Carry F} (h0 : seq = x0) (h4 : wf = x4) (h7 : wb = x7) (h12 : arg12.view.read (Elt F) X12 = gf)
    (h13 : arg13.view.read (Elt F) X13 = gb) (hs : init = s) :
    (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 init k0_t1_loop.trips).1 = statesAt x0 x4 x7 base gf gb s k0_t1_loop.trips := by
  subst h0 h4 h7 h12 h13 hs
  exact st_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 init _ le_rfl

/-- The forward row buffer the loop leaves, from what its operands hold. -/
theorem fwd_end (𝒱 : Variants) (c : Dev nD) (bd : Option 𝒱.V) (i : grid0.Coords)
    (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
    (arg0 : BitVec 32) (k0_h1 : k0_cond1 i = 1#1) {seq x0 : Vec F S16x256 .i32} {wf x4 wb x7 : Vec F S256x1024 .bf16} {base : BitVec 32}
    {X12 : BufTy.Contents (Elt F) arg12.view.ty} {X13 : BufTy.Contents (Elt F) arg13.view.ty} {gf gb : Vec F S128x16x1024 .f32}
    {init s : Carry F} (h0 : seq = x0) (h4 : wf = x4) (h7 : wb = x7) (h12 : arg12.view.read (Elt F) X12 = gf)
    (h13 : arg13.view.read (Elt F) X13 = gb) (hs : init = s) (G : arg18.view.ty.Contents (Elt F)) :
    arg18.view.read (Elt F) (arg18.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 init k0_t1_loop.trips).2.1) = fwdRows x0 x4 x7 base gf gb s := by
  subst h0 h4 h7 h12 h13 hs
  exact read_fwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 init G

/-- The backward row buffer the loop leaves, from what its operands hold. -/
theorem bwd_end (𝒱 : Variants) (c : Dev nD) (bd : Option 𝒱.V) (i : grid0.Coords)
    (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
    (arg0 : BitVec 32) (k0_h1 : k0_cond1 i = 1#1) {seq x0 : Vec F S16x256 .i32} {wf x4 wb x7 : Vec F S256x1024 .bf16} {base : BitVec 32}
    {X12 : BufTy.Contents (Elt F) arg12.view.ty} {X13 : BufTy.Contents (Elt F) arg13.view.ty} {gf gb : Vec F S128x16x1024 .f32}
    {init s : Carry F} (h0 : seq = x0) (h4 : wf = x4) (h7 : wb = x7) (h12 : arg12.view.read (Elt F) X12 = gf)
    (h13 : arg13.view.read (Elt F) X13 = gb) (hs : init = s) (G : arg19.view.ty.Contents (Elt F)) :
    arg19.view.read (Elt F) (arg19.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 init k0_t1_loop.trips).2.2) = bwdRows x0 x4 x7 base gf gb s := by
  subst h0 h4 h7 h12 h13 hs
  exact read_bwd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 k0_h1 seq wf wb base X12 X13 init G

set_option maxHeartbeats 2000000 in
/-- A later point of the forward direction. -/
theorem run_later (c : Dev nD) (i : grid0.Coords)
    (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
    (hc0 : k0_cond1 i = 1#1) (hc1 : ¬ ((Scalar.cmpi .ne (Scalar.extui (Scalar.cmpi .eq (BitVec.ofNat 32 (i 0).val) 0#32)) 0#32) = 1#1)) (hc2 : ¬ (k0_cond3 i = 1#1))
    (x0 : Vec F S16x256 .i32) (x1 : Vec F S16x128x256 .f32) (x2 : Vec F S16x128x256 .f32) (x3 : Vec F S256x1024 .bf16) (x4 : Vec F S256x1024 .bf16) (x5 : Vec F S1x1024 .f32) (x6 : Vec F S256x1024 .bf16) (x7 : Vec F S256x1024 .bf16) (x8 : Vec F S1x1024 .f32) (s : Carry F)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s.1 ∗ owns (c : Thread nD τ) arg15 fullShare s.2.1 ∗ owns (c : Thread nD τ) arg16 fullShare s.2.2.1 ∗ owns (c : Thread nD τ) arg17 fullShare s.2.2.2 ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay1 i (chunkFwd i x0 x1 x2 x3 x4 x5 x6 x7 x8 s) x0) ∗ (∃ d, owns (c : Thread nD τ) arg12 fullShare d) ∗ (∃ d, owns (c : Thread nD τ) arg13 fullShare d) ∗ owns (c : Thread nD τ) arg14 fullShare (chunkEnd i x0 x1 x2 x3 x4 x5 x6 x7 x8 s).1 ∗ owns (c : Thread nD τ) arg15 fullShare (chunkEnd i x0 x1 x2 x3 x4 x5 x6 x7 x8 s).2.1 ∗ owns (c : Thread nD τ) arg16 fullShare (chunkEnd i x0 x1 x2 x3 x4 x5 x6 x7 x8 s).2.2.1 ∗ owns (c : Thread nD τ) arg17 fullShare (chunkEnd i x0 x1 x2 x3 x4 x5 x6 x7 x8 s).2.2.2 ∗ (∃ d, owns (c : Thread nD τ) arg18 fullShare d) ∗ owns (c : Thread nD τ) arg19 fullShare (chunkBwd i x0 x1 x2 x3 x4 x5 x6 x7 x8 s)) -∗ K ⟨⟩))
      ⊢ wp frame (wpE (defs₀ (F := F)) Variants.none c none) E (cc0__bilstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__bilstm_kernel_eq_skeleton]; unfold cc0__bilstm_kernel_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%fs2, %hs2, HS2⟩, ⟨%fs3, %hs3, HS3⟩, ⟨%fs4, %hs4, HS4⟩, ⟨%fs5, %hs5, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg14.eq_unread hs2; obtain rfl := harg15.eq_unread hs3; obtain rfl := harg16.eq_unread hs4; obtain rfl := harg17.eq_unread hs5
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact (View.read_writes_full _ _ _ _ _).trans (pay1_congr i ((View.readAt_full _ _ _).trans (fwd_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (load_whole harg14 s.1 _) (load_whole harg15 s.2.1 _) (load_whole harg16 s.2.2.1 _) (load_whole harg17 s.2.2.2 _)) _)) (load_whole harg2 x0 _))
  isplitl [HS0]
  · iexists _, _; isplitr; swap; · iexact HS0
    ipureintro; rfl
  isplitl [HS1]
  · iexists _, _; isplitr; swap; · iexact HS1
    ipureintro; rfl
  isplitl [HS2]
  · iexists _; isplitr; swap; · iexact HS2
    ipureintro
    exact ((View.read_writes_full _ _ _ _ _).trans (shapeCast_self _ _)).trans
      (congrArg (fun p : Carry F => p.1) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (load_whole harg14 s.1 _) (load_whole harg15 s.2.1 _) (load_whole harg16 s.2.2.1 _) (load_whole harg17 s.2.2.2 _))))
  isplitl [HS3]
  · iexists _; isplitr; swap; · iexact HS3
    ipureintro
    exact ((View.read_writes_full _ _ _ _ _).trans (shapeCast_self _ _)).trans
      (congrArg (fun p : Carry F => p.2.1) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (load_whole harg14 s.1 _) (load_whole harg15 s.2.1 _) (load_whole harg16 s.2.2.1 _) (load_whole harg17 s.2.2.2 _))))
  isplitl [HS4]
  · iexists _; isplitr; swap; · iexact HS4
    ipureintro
    exact ((View.read_writes_full _ _ _ _ _).trans (shapeCast_self _ _)).trans
      (congrArg (fun p : Carry F => p.2.2.1) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (load_whole harg14 s.1 _) (load_whole harg15 s.2.1 _) (load_whole harg16 s.2.2.1 _) (load_whole harg17 s.2.2.2 _))))
  isplitl [HS5]
  · iexists _; isplitr; swap; · iexact HS5
    ipureintro
    exact ((View.read_writes_full _ _ _ _ _).trans (shapeCast_self _ _)).trans
      (congrArg (fun p : Carry F => p.2.2.2) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (load_whole harg14 s.1 _) (load_whole harg15 s.2.1 _) (load_whole harg16 s.2.2.1 _) (load_whole harg17 s.2.2.2 _))))
  isplitl [HS6]
  · iexists _, _; isplitr; swap; · iexact HS6
    ipureintro; rfl
  iexists _; isplitr; swap; · iexact HS7
  ipureintro
  exact bwd_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (load_whole harg14 s.1 _) (load_whole harg15 s.2.1 _) (load_whole harg16 s.2.2.1 _) (load_whole harg17 s.2.2.2 _)) _

set_option maxHeartbeats 2000000 in
/-- The first point: the states are set to zero, then the chunk is computed from them. -/
theorem run_first (c : Dev nD) (i : grid0.Coords)
    (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
    (hc0 : k0_cond1 i = 1#1) (hc1 : ((Scalar.cmpi .ne (Scalar.extui (Scalar.cmpi .eq (BitVec.ofNat 32 (i 0).val) 0#32)) 0#32) = 1#1)) (hc2 : ¬ (k0_cond3 i = 1#1))
    (x0 : Vec F S16x256 .i32) (x1 : Vec F S16x128x256 .f32) (x2 : Vec F S16x128x256 .f32) (x3 : Vec F S256x1024 .bf16) (x4 : Vec F S256x1024 .bf16) (x5 : Vec F S1x1024 .f32) (x6 : Vec F S256x1024 .bf16) (x7 : Vec F S256x1024 .bf16) (x8 : Vec F S1x1024 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay1 i (chunkFwd i x0 x1 x2 x3 x4 x5 x6 x7 x8 zeroStates) x0) ∗ (∃ d, owns (c : Thread nD τ) arg12 fullShare d) ∗ (∃ d, owns (c : Thread nD τ) arg13 fullShare d) ∗ owns (c : Thread nD τ) arg14 fullShare (chunkEnd i x0 x1 x2 x3 x4 x5 x6 x7 x8 zeroStates).1 ∗ owns (c : Thread nD τ) arg15 fullShare (chunkEnd i x0 x1 x2 x3 x4 x5 x6 x7 x8 zeroStates).2.1 ∗ owns (c : Thread nD τ) arg16 fullShare (chunkEnd i x0 x1 x2 x3 x4 x5 x6 x7 x8 zeroStates).2.2.1 ∗ owns (c : Thread nD τ) arg17 fullShare (chunkEnd i x0 x1 x2 x3 x4 x5 x6 x7 x8 zeroStates).2.2.2 ∗ (∃ d, owns (c : Thread nD τ) arg18 fullShare d) ∗ owns (c : Thread nD τ) arg19 fullShare (chunkBwd i x0 x1 x2 x3 x4 x5 x6 x7 x8 zeroStates)) -∗ K ⟨⟩))
      ⊢ wp frame (wpE (defs₀ (F := F)) Variants.none c none) E (cc0__bilstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__bilstm_kernel_eq_skeleton]; unfold cc0__bilstm_kernel_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact (View.read_writes_full _ _ _ _ _).trans (pay1_congr i ((View.readAt_full _ _ _).trans (fwd_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (View.readCov_full _ _ _ _ _) (View.readCov_full _ _ _ _ _) (View.readCov_full _ _ _ _ _) (View.readCov_full _ _ _ _ _)) _)) (load_whole harg2 x0 _))
  isplitl [HS0]
  · iexists _, _; isplitr; swap; · iexact HS0
    ipureintro; rfl
  isplitl [HS1]
  · iexists _, _; isplitr; swap; · iexact HS1
    ipureintro; rfl
  isplitl [HS2]
  · iexists _; isplitr; swap; · iexact HS2
    ipureintro
    exact ((View.read_writes_full _ _ _ _ _).trans (shapeCast_self _ _)).trans
      (congrArg (fun p : Carry F => p.1) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (View.readCov_full _ _ _ _ _) (View.readCov_full _ _ _ _ _) (View.readCov_full _ _ _ _ _) (View.readCov_full _ _ _ _ _))))
  isplitl [HS3]
  · iexists _; isplitr; swap; · iexact HS3
    ipureintro
    exact ((View.read_writes_full _ _ _ _ _).trans (shapeCast_self _ _)).trans
      (congrArg (fun p : Carry F => p.2.1) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (View.readCov_full _ _ _ _ _) (View.readCov_full _ _ _ _ _) (View.readCov_full _ _ _ _ _) (View.readCov_full _ _ _ _ _))))
  isplitl [HS4]
  · iexists _; isplitr; swap; · iexact HS4
    ipureintro
    exact ((View.read_writes_full _ _ _ _ _).trans (shapeCast_self _ _)).trans
      (congrArg (fun p : Carry F => p.2.2.1) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (View.readCov_full _ _ _ _ _) (View.readCov_full _ _ _ _ _) (View.readCov_full _ _ _ _ _) (View.readCov_full _ _ _ _ _))))
  isplitl [HS5]
  · iexists _; isplitr; swap; · iexact HS5
    ipureintro
    exact ((View.read_writes_full _ _ _ _ _).trans (shapeCast_self _ _)).trans
      (congrArg (fun p : Carry F => p.2.2.2) (st_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (View.readCov_full _ _ _ _ _) (View.readCov_full _ _ _ _ _) (View.readCov_full _ _ _ _ _) (View.readCov_full _ _ _ _ _))))
  isplitl [HS6]
  · iexists _, _; isplitr; swap; · iexact HS6
    ipureintro; rfl
  iexists _; isplitr; swap; · iexact HS7
  ipureintro
  exact bwd_end _ _ _ _ arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 _ _ (load_whole harg2 x0 _) (load_whole harg6 x4 _) (load_whole harg9 x7 _) ((View.read_writes_full _ _ _ _ _).trans (pay16_congr (load_whole harg3 x1 _) (load_whole harg5 x3 _) (load_whole harg7 x5 _))) ((View.read_writes_full _ _ _ _ _).trans (pay17_congr (load_whole harg4 x2 _) (load_whole harg8 x6 _) (load_whole harg10 x8 _)))
      (carry_congr (View.readCov_full _ _ _ _ _) (View.readCov_full _ _ _ _ _) (View.readCov_full _ _ _ _ _) (View.readCov_full _ _ _ _ _)) _

set_option maxHeartbeats 2000000 in
/-- A point of the backward direction: the row buffer the point before left is written out. -/
theorem run_back (c : Dev nD) (i : grid0.Coords)
    (arg2 : Memref sig .tc .vmem S16x256 .i32) (harg2 : arg2.IsWhole)
  (arg3 : Memref sig .tc .vmem S16x128x256 .f32) (harg3 : arg3.IsWhole)
  (arg4 : Memref sig .tc .vmem S16x128x256 .f32) (harg4 : arg4.IsWhole)
  (arg5 : Memref sig .tc .vmem S256x1024 .bf16) (harg5 : arg5.IsWhole)
  (arg6 : Memref sig .tc .vmem S256x1024 .bf16) (harg6 : arg6.IsWhole)
  (arg7 : Memref sig .tc .vmem S1x1024 .f32) (harg7 : arg7.IsWhole)
  (arg8 : Memref sig .tc .vmem S256x1024 .bf16) (harg8 : arg8.IsWhole)
  (arg9 : Memref sig .tc .vmem S256x1024 .bf16) (harg9 : arg9.IsWhole)
  (arg10 : Memref sig .tc .vmem S1x1024 .f32) (harg10 : arg10.IsWhole)
  (arg11 : Memref sig .tc .vmem S16x128x256 .f32) (harg11 : arg11.IsWhole)
  (arg12 : Memref sig .tc .vmem S128x16x1024 .f32) (harg12 : arg12.IsWhole)
  (arg13 : Memref sig .tc .vmem S128x16x1024 .f32) (harg13 : arg13.IsWhole)
  (arg14 : Memref sig .tc .vmem S16x256 .f32) (harg14 : arg14.IsWhole)
  (arg15 : Memref sig .tc .vmem S16x256 .f32) (harg15 : arg15.IsWhole)
  (arg16 : Memref sig .tc .vmem S16x256 .f32) (harg16 : arg16.IsWhole)
  (arg17 : Memref sig .tc .vmem S16x256 .f32) (harg17 : arg17.IsWhole)
  (arg18 : Memref sig .tc .vmem S128x16x256 .f32) (harg18 : arg18.IsWhole)
  (arg19 : Memref sig .tc .vmem S128x16x256 .f32) (harg19 : arg19.IsWhole)
    (hc0 : ¬ (k0_cond1 i = 1#1)) (hc2 : k0_cond3 i = 1#1)
    (x0 : Vec F S16x256 .i32) (x1 : Vec F S16x128x256 .f32) (x2 : Vec F S16x128x256 .f32) (x3 : Vec F S256x1024 .bf16) (x4 : Vec F S256x1024 .bf16) (x5 : Vec F S1x1024 .f32) (x6 : Vec F S256x1024 .bf16) (x7 : Vec F S256x1024 .bf16) (x8 : Vec F S1x1024 .f32) (s : Carry F) (o : Vec F S128x16x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare s.1 ∗ owns (c : Thread nD τ) arg15 fullShare s.2.1 ∗ owns (c : Thread nD τ) arg16 fullShare s.2.2.1 ∗ owns (c : Thread nD τ) arg17 fullShare s.2.2.2 ∗ (∃ d, owns (c : Thread nD τ) arg18 fullShare d) ∗ owns (c : Thread nD τ) arg19 fullShare o
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay2 i o x0) ∗ (∃ d, owns (c : Thread nD τ) arg12 fullShare d) ∗ (∃ d, owns (c : Thread nD τ) arg13 fullShare d) ∗ owns (c : Thread nD τ) arg14 fullShare s.1 ∗ owns (c : Thread nD τ) arg15 fullShare s.2.1 ∗ owns (c : Thread nD τ) arg16 fullShare s.2.2.1 ∗ owns (c : Thread nD τ) arg17 fullShare s.2.2.2 ∗ (∃ d, owns (c : Thread nD τ) arg18 fullShare d) ∗ owns (c : Thread nD τ) arg19 fullShare o) -∗ K ⟨⟩))
      ⊢ wp frame (wpE (defs₀ (F := F)) Variants.none c none) E (cc0__bilstm_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__bilstm_kernel_eq_skeleton]; unfold cc0__bilstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%fs2, %hs2, HS2⟩, ⟨%fs3, %hs3, HS3⟩, ⟨%fs4, %hs4, HS4⟩, ⟨%fs5, %hs5, HS5⟩, ⟨%ds6, %fs6, -, HS6⟩, ⟨%fs7, %hs7, HS7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  obtain rfl := harg14.eq_unread hs2; obtain rfl := harg15.eq_unread hs3; obtain rfl := harg16.eq_unread hs4; obtain rfl := harg17.eq_unread hs5
  obtain rfl := harg19.eq_unread hs7
  sl_exec (disch := first | sl_exact hc0 | sl_exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    exact (View.read_writes_full _ _ _ _ _).trans (pay2_congr i (load_whole harg19 o _) (load_whole harg2 x0 _))
  isplitl [HS0]
  · iexists _, _; isplitr; swap; · iexact HS0
    ipureintro; rfl
  isplitl [HS1]
  · iexists _, _; isplitr; swap; · iexact HS1
    ipureintro; rfl
  isplitl [HS2]
  · iexists _; isplitr; · ipureintro; exact harg14.read_unread _
    iexact HS2
  isplitl [HS3]
  · iexists _; isplitr; · ipureintro; exact harg15.read_unread _
    iexact HS3
  isplitl [HS4]
  · iexists _; isplitr; · ipureintro; exact harg16.read_unread _
    iexact HS4
  isplitl [HS5]
  · iexists _; isplitr; · ipureintro; exact harg17.read_unread _
    iexact HS5
  isplitl [HS6]
  · iexists _, _; isplitr; swap; · iexact HS6
    ipureintro; rfl
  iexists _; isplitr; · ipureintro; exact harg19.read_unread _
  iexact HS7

end Cert.KernelIdeal.Lstm
end
-- ==== Proof.KernelIdeal.Launch.lean ====
module

public import proofs.«01_k».proof.Proof.KernelIdeal.Body
public import proofs.«01_k».proof.Proof.Gen.KernelIdeal.Frame
public import Idealize.ShloMosaic.Lib.WordCmp
public import Idealize.ShloMosaic.Lib.Claim

/-! # The launch

The kernel's run over its 32 grid points: what the carried buffers hold before each point, what each point writes to the
result, and from them that the whole program terminates with its arguments unchanged and every counter at zero. -/

@[expose] public section

set_option maxRecDepth 16384

noncomputable section

namespace Cert.KernelIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

/-- Even points are the forward direction's. -/
theorem fwd_iff (t : Fin cfg0.N) : k0_cond1 (grid0.coords t) = 1#1 ↔ t.val % 2 = 0 :=
  (by decide +kernel : ∀ t : Fin grid0.N, k0_cond1 (grid0.coords t) = 1#1 ↔ t.val % 2 = 0) t

/-- The states are zeroed in the first chunk only. -/
theorem zero_iff (t : Fin cfg0.N) :
    (Scalar.cmpi .ne (Scalar.extui (Scalar.cmpi .eq (BitVec.ofNat 32 (grid0.coords t 0).val) 0#32)) 0#32) = 1#1 ↔ t.val < 2 :=
  (by decide +kernel : ∀ t : Fin grid0.N,
    (Scalar.cmpi .ne (Scalar.extui (Scalar.cmpi .eq (BitVec.ofNat 32 (grid0.coords t 0).val) 0#32)) 0#32) = 1#1 ↔ t.val < 2) t

/-- Odd points are the backward direction's. -/
theorem back_iff (t : Fin cfg0.N) : k0_cond3 (grid0.coords t) = 1#1 ↔ t.val % 2 = 1 :=
  (by decide +kernel : ∀ t : Fin grid0.N, k0_cond3 (grid0.coords t) = 1#1 ↔ t.val % 2 = 1) t

/-- No point leaves the result's window alone. -/
theorem result_live : ∀ t : Fin cfg0.N, cfg0.idle 9 (grid0.coords t) = false := by decide +kernel

/-! ## The buffers' contents point by point -/

/-- The states after the chunk of point `t`, from the states before it. -/
def endAt (c : Dev nD) (t : Fin cfg0.N) (s : Carry F) : Carry F := chunkEnd (grid0.coords t) (iblk m c 0 t) (iblk m c 1 t) (iblk m c 2 t) (iblk m c 3 t) (iblk m c 4 t) (iblk m c 5 t) (iblk m c 6 t) (iblk m c 7 t) (iblk m c 8 t) s

/-- The states before point `n`: zero at first, then those the last even point left. -/
def statesBefore (c : Dev nD) : ℕ → Carry F
  | 0 => zeroStates
  | n + 1 => if h : n < cfg0.N then if n % 2 = 0 then endAt m c ⟨n, h⟩ (statesBefore c n) else statesBefore c n
      else statesBefore c n

/-- An even point's chunk moves the states on. -/
theorem statesBefore_even (c : Dev nD) (t : Fin cfg0.N) (h : t.val % 2 = 0) :
    statesBefore m c (t.val + 1) = endAt m c t (statesBefore m c t.val) := by
  rw [statesBefore, dif_pos t.isLt, if_pos h]

/-- An odd point leaves the states alone. -/
theorem statesBefore_odd (c : Dev nD) (t : Fin cfg0.N) (h : t.val % 2 = 1) :
    statesBefore m c (t.val + 1) = statesBefore m c t.val := by
  rw [statesBefore, dif_pos t.isLt, if_neg (by omega)]

/-- The forward rows of the chunk of point `t`. -/
def fwdAt (c : Dev nD) (t : Fin cfg0.N) : Vec F S128x16x256 .f32 :=
  chunkFwd (grid0.coords t) (iblk m c 0 t) (iblk m c 1 t) (iblk m c 2 t) (iblk m c 3 t) (iblk m c 4 t) (iblk m c 5 t) (iblk m c 6 t) (iblk m c 7 t) (iblk m c 8 t) (statesBefore m c t.val)

/-- The backward rows of the chunk of point `t`. -/
def bwdAt (c : Dev nD) (t : Fin cfg0.N) : Vec F S128x16x256 .f32 :=
  chunkBwd (grid0.coords t) (iblk m c 0 t) (iblk m c 1 t) (iblk m c 2 t) (iblk m c 3 t) (iblk m c 4 t) (iblk m c 5 t) (iblk m c 6 t) (iblk m c 7 t) (iblk m c 8 t) (statesBefore m c t.val)

/-- The even point of the pair `t` is in. -/
def pairStart (t : Fin cfg0.N) : Fin cfg0.N := ⟨t.val / 2 * 2, by have := t.isLt; omega⟩

/-- An even point starts its pair. -/
theorem pairStart_even (t : Fin cfg0.N) (h : t.val % 2 = 0) : pairStart t = t := Fin.ext (by show t.val / 2 * 2 = t.val; omega)

/-- What point `t` leaves in the result's window. -/
def resultAt (c : Dev nD) (t : Fin cfg0.N) : Vec F S16x128x256 .f32 :=
  if t.val % 2 = 0 then k0_pay1 (grid0.coords t) (fwdAt m c t) (iblk m c 0 t)
  else k0_pay2 (grid0.coords t) (bwdAt m c (pairStart t)) (iblk m c 0 t)

/-! ## The buffers by name -/

/-- The windows' buffers. -/
abbrev win0 (t : Fin cfg0.N) : Memref sig .tc .vmem S16x256 .i32 := win0_0.stage (cfg0.slots t 0)
abbrev win1 (t : Fin cfg0.N) : Memref sig .tc .vmem S16x128x256 .f32 := win0_1.stage (cfg0.slots t 1)
abbrev win2 (t : Fin cfg0.N) : Memref sig .tc .vmem S16x128x256 .f32 := win0_2.stage (cfg0.slots t 2)
abbrev win3 (t : Fin cfg0.N) : Memref sig .tc .vmem S256x1024 .bf16 := win0_3.stage (cfg0.slots t 3)
abbrev win4 (t : Fin cfg0.N) : Memref sig .tc .vmem S256x1024 .bf16 := win0_4.stage (cfg0.slots t 4)
abbrev win5 (t : Fin cfg0.N) : Memref sig .tc .vmem S1x1024 .f32 := win0_5.stage (cfg0.slots t 5)
abbrev win6 (t : Fin cfg0.N) : Memref sig .tc .vmem S256x1024 .bf16 := win0_6.stage (cfg0.slots t 6)
abbrev win7 (t : Fin cfg0.N) : Memref sig .tc .vmem S256x1024 .bf16 := win0_7.stage (cfg0.slots t 7)
abbrev win8 (t : Fin cfg0.N) : Memref sig .tc .vmem S1x1024 .f32 := win0_8.stage (cfg0.slots t 8)
abbrev win9 (t : Fin cfg0.N) : Memref sig .tc .vmem S16x128x256 .f32 := win0_9.stage (cfg0.slots t 9)
/-- The scratch buffers. -/
abbrev scr0 : Memref sig .tc .vmem S128x16x1024 .f32 := Memref.whole cc0_scratch0
abbrev scr1 : Memref sig .tc .vmem S128x16x1024 .f32 := Memref.whole cc0_scratch1
abbrev scr2 : Memref sig .tc .vmem S16x256 .f32 := Memref.whole cc0_scratch2
abbrev scr3 : Memref sig .tc .vmem S16x256 .f32 := Memref.whole cc0_scratch3
abbrev scr4 : Memref sig .tc .vmem S16x256 .f32 := Memref.whole cc0_scratch4
abbrev scr5 : Memref sig .tc .vmem S16x256 .f32 := Memref.whole cc0_scratch5
abbrev scr6 : Memref sig .tc .vmem S128x16x256 .f32 := Memref.whole cc0_scratch6
abbrev scr7 : Memref sig .tc .vmem S128x16x256 .f32 := Memref.whole cc0_scratch7

/-- The launch's own invariant, buffer by buffer. -/
theorem anything_eq (c : Dev nD) : (Pipeline.ΦA spec0 c : sProp 𝕄) = iprop(iprop((∃ d, owns (c : Thread nD τ) scr0 fullShare d) ∗ (∃ d, owns (c : Thread nD τ) scr1 fullShare d) ∗ (∃ d, owns (c : Thread nD τ) scr2 fullShare d) ∗ (∃ d, owns (c : Thread nD τ) scr3 fullShare d) ∗ (∃ d, owns (c : Thread nD τ) scr4 fullShare d) ∗ (∃ d, owns (c : Thread nD τ) scr5 fullShare d) ∗ (∃ d, owns (c : Thread nD τ) scr6 fullShare d) ∗ (∃ d, owns (c : Thread nD τ) scr7 fullShare d)) ∗ (∃ r, prngReg c r)) := by
  unfold Pipeline.ΦA; rw [scopedRest0_eq]; simp only [scr0, scr1, scr2, scr3, scr4, scr5, scr6, scr7, owns_whole]; try rfl

/-- What is held before point `n`: at first anything; later the states, and the backward rows of the pair's chunk. -/
def heldBefore (c : Dev nD) : (n : ℕ) → n ≤ cfg0.N → sProp 𝕄
  | 0, _ => Pipeline.ΦA spec0 c
  | n + 1, hn => iprop(iprop((∃ d, owns (c : Thread nD τ) scr0 fullShare d) ∗ (∃ d, owns (c : Thread nD τ) scr1 fullShare d) ∗ owns (c : Thread nD τ) scr2 fullShare (statesBefore m c (n + 1)).1 ∗ owns (c : Thread nD τ) scr3 fullShare (statesBefore m c (n + 1)).2.1 ∗ owns (c : Thread nD τ) scr4 fullShare (statesBefore m c (n + 1)).2.2.1 ∗ owns (c : Thread nD τ) scr5 fullShare (statesBefore m c (n + 1)).2.2.2 ∗ (∃ d, owns (c : Thread nD τ) scr6 fullShare d) ∗ owns (c : Thread nD τ) scr7 fullShare (bwdAt m c (pairStart ⟨n, hn⟩))) ∗ (∃ r, prngReg c r))

/-- Before the first point anything is held. -/
theorem heldBefore_zero (c : Dev nD) (n : ℕ) (h : n ≤ cfg0.N) (hz : n = 0) : heldBefore m c n h = Pipeline.ΦA spec0 c := by
  subst hz; rfl

/-- What is held after a point. -/
theorem heldBefore_succ (c : Dev nD) (t : Fin cfg0.N) : heldBefore m c (t.val + 1) t.isLt
    = iprop(iprop((∃ d, owns (c : Thread nD τ) scr0 fullShare d) ∗ (∃ d, owns (c : Thread nD τ) scr1 fullShare d) ∗ owns (c : Thread nD τ) scr2 fullShare (statesBefore m c (t.val + 1)).1 ∗ owns (c : Thread nD τ) scr3 fullShare (statesBefore m c (t.val + 1)).2.1 ∗ owns (c : Thread nD τ) scr4 fullShare (statesBefore m c (t.val + 1)).2.2.1 ∗ owns (c : Thread nD τ) scr5 fullShare (statesBefore m c (t.val + 1)).2.2.2 ∗ (∃ d, owns (c : Thread nD τ) scr6 fullShare d) ∗ owns (c : Thread nD τ) scr7 fullShare (bwdAt m c (pairStart t))) ∗ (∃ r, prngReg c r)) := rfl

/-- What is held before a point that is not the first. -/
theorem heldBefore_pos (c : Dev nD) (n : ℕ) (h : n ≤ cfg0.N) (hz : n ≠ 0) : heldBefore m c n h
    = iprop(iprop((∃ d, owns (c : Thread nD τ) scr0 fullShare d) ∗ (∃ d, owns (c : Thread nD τ) scr1 fullShare d) ∗ owns (c : Thread nD τ) scr2 fullShare (statesBefore m c n).1 ∗ owns (c : Thread nD τ) scr3 fullShare (statesBefore m c n).2.1 ∗ owns (c : Thread nD τ) scr4 fullShare (statesBefore m c n).2.2.1 ∗ owns (c : Thread nD τ) scr5 fullShare (statesBefore m c n).2.2.2 ∗ (∃ d, owns (c : Thread nD τ) scr6 fullShare d) ∗ owns (c : Thread nD τ) scr7 fullShare (bwdAt m c (pairStart ⟨n - 1, by omega⟩))) ∗ (∃ r, prngReg c r)) := by
  cases n with
  | zero => exact absurd rfl hz
  | succ n => rfl

/-! ## The proof data -/

/-- The arrays as the region finds them; after a point the inputs' windows as they were and the result's at `resultAt`;
between points `heldBefore`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => resultAt m c t
  Φ t := heldBefore m c t.val (Nat.le_of_lt_succ t.isLt)
  q w := Pipeline.shareOf spec0 w
  owed _ := 0

/-- Every window's array is what the region finds. -/
theorem array_eq (c : Dev nD) (w : Fin cfg0.W) : (dats m 0 c).A w = V m c (Pipeline.arrRef spec0 w) := by
  dsimp only [dats]

/-- What the launch holds before a point. -/
theorem held_start (c : Dev nD) (t : Fin cfg0.N) : (dats m 0 c).Φ t.castSucc = heldBefore m c t.val (Nat.le_of_lt t.isLt) := by
  dsimp only [dats]; exact Pipeline.Dat.Φ_castSucc (heldBefore m c) t

/-- What a point leaves in each window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = resultAt m c t := by dsimp only [dats]

/-- What a point finds in each input window. -/
theorem before_0 (c : Dev nD) (t : Fin cfg0.N) (d) : (dats m 0 c).before 0 t d = iblk m c 0 t :=
  before0_0_of m (dats m 0 c) (array_eq m c 0) (after_0 m c) t d
theorem before_1 (c : Dev nD) (t : Fin cfg0.N) (d) : (dats m 0 c).before 1 t d = iblk m c 1 t :=
  before0_1_of m (dats m 0 c) (array_eq m c 1) (after_1 m c) t d
theorem before_2 (c : Dev nD) (t : Fin cfg0.N) (d) : (dats m 0 c).before 2 t d = iblk m c 2 t :=
  before0_2_of m (dats m 0 c) (array_eq m c 2) (after_2 m c) t d
theorem before_3 (c : Dev nD) (t : Fin cfg0.N) (d) : (dats m 0 c).before 3 t d = iblk m c 3 t :=
  before0_3_of m (dats m 0 c) (array_eq m c 3) (after_3 m c) t d
theorem before_4 (c : Dev nD) (t : Fin cfg0.N) (d) : (dats m 0 c).before 4 t d = iblk m c 4 t :=
  before0_4_of m (dats m 0 c) (array_eq m c 4) (after_4 m c) t d
theorem before_5 (c : Dev nD) (t : Fin cfg0.N) (d) : (dats m 0 c).before 5 t d = iblk m c 5 t :=
  before0_5_of m (dats m 0 c) (array_eq m c 5) (after_5 m c) t d
theorem before_6 (c : Dev nD) (t : Fin cfg0.N) (d) : (dats m 0 c).before 6 t d = iblk m c 6 t :=
  before0_6_of m (dats m 0 c) (array_eq m c 6) (after_6 m c) t d
theorem before_7 (c : Dev nD) (t : Fin cfg0.N) (d) : (dats m 0 c).before 7 t d = iblk m c 7 t :=
  before0_7_of m (dats m 0 c) (array_eq m c 7) (after_7 m c) t d
theorem before_8 (c : Dev nD) (t : Fin cfg0.N) (d) : (dats m 0 c).before 8 t d = iblk m c 8 t :=
  before0_8_of m (dats m 0 c) (array_eq m c 8) (after_8 m c) t d

/-- The same as ownership of the buffers. -/
theorem leaves_0 (c : Dev nD) (t : Fin cfg0.N) : (dats m 0 c).leavesExact 0 t = owns (c : Thread nD τ) (win0 t) fullShare (iblk m c 0 t) := by
  rw [← after_0]
theorem leaves_1 (c : Dev nD) (t : Fin cfg0.N) : (dats m 0 c).leavesExact 1 t = owns (c : Thread nD τ) (win1 t) fullShare (iblk m c 1 t) := by
  rw [← after_1]
theorem leaves_2 (c : Dev nD) (t : Fin cfg0.N) : (dats m 0 c).leavesExact 2 t = owns (c : Thread nD τ) (win2 t) fullShare (iblk m c 2 t) := by
  rw [← after_2]
theorem leaves_3 (c : Dev nD) (t : Fin cfg0.N) : (dats m 0 c).leavesExact 3 t = owns (c : Thread nD τ) (win3 t) fullShare (iblk m c 3 t) := by
  rw [← after_3]
theorem leaves_4 (c : Dev nD) (t : Fin cfg0.N) : (dats m 0 c).leavesExact 4 t = owns (c : Thread nD τ) (win4 t) fullShare (iblk m c 4 t) := by
  rw [← after_4]
theorem leaves_5 (c : Dev nD) (t : Fin cfg0.N) : (dats m 0 c).leavesExact 5 t = owns (c : Thread nD τ) (win5 t) fullShare (iblk m c 5 t) := by
  rw [← after_5]
theorem leaves_6 (c : Dev nD) (t : Fin cfg0.N) : (dats m 0 c).leavesExact 6 t = owns (c : Thread nD τ) (win6 t) fullShare (iblk m c 6 t) := by
  rw [← after_6]
theorem leaves_7 (c : Dev nD) (t : Fin cfg0.N) : (dats m 0 c).leavesExact 7 t = owns (c : Thread nD τ) (win7 t) fullShare (iblk m c 7 t) := by
  rw [← after_7]
theorem leaves_8 (c : Dev nD) (t : Fin cfg0.N) : (dats m 0 c).leavesExact 8 t = owns (c : Thread nD τ) (win8 t) fullShare (iblk m c 8 t) := by
  rw [← after_8]
theorem leaves_9 (c : Dev nD) (t : Fin cfg0.N) : (dats m 0 c).leavesExact 9 t = owns (c : Thread nD τ) (win9 t) fullShare (resultAt m c t) := by
  rw [← after_9]; unfold Dat.leavesExact; rw [result_live t]

/-! ## The body at every point -/

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare ((dats m 0 c).before 9 t d)))

/-- What the body gives back at a point. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point, from what is held before it to what is held after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, leaves_0, leaves_1, leaves_2, leaves_3, leaves_4, leaves_5, leaves_6, leaves_7, leaves_8, leaves_9]
  rw [show (dats m 0 c).owesAt () t.succ = (dats m 0 c).owesAt () t.castSucc from rfl]
  rw [show (dats m 0 c).Φ t.succ = heldBefore m c (t.val + 1) t.isLt from rfl, heldBefore_succ, held_start]
  have hN : t.val < 32 := lt_of_lt_of_eq t.isLt (show cfg0.N = 32 from N_0)
  by_cases h0 : t.val % 2 = 0
  · have hb : ¬ (k0_cond3 (grid0.coords t) = 1#1) := fun h => by have := (back_iff t).mp h; omega
    rw [statesBefore_even m c t h0, pairStart_even t h0, show resultAt m c t = k0_pay1 (grid0.coords t) (fwdAt m c t) (iblk m c 0 t) from if_pos h0]
    unfold endAt fwdAt bwdAt
    by_cases h1 : t.val < 2
    · have hz : t.val = 0 := by omega
      rw [heldBefore_zero m c _ _ hz, anything_eq, show statesBefore m c t.val = zeroStates from by rw [hz]; rfl]
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_first c (grid0.coords t) _ _ _ _ _ _ _ _ _ _ _ _ _ _ _ _ _ _ _ _ _ _ _ _ _ _ _ _ _ _ _ _ _ _ _ _ ((fwd_iff t).mpr h0) ((zero_iff t).mpr h1) hb (iblk m c 0 t) (iblk m c 1 t) (iblk m c 2 t) (iblk m c 3 t) (iblk m c 4 t) (iblk m c 5 t) (iblk m c 6 t) (iblk m c 7 t) (iblk m c 8 t)  Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      iintro ⟨H0, H1, H2, H3, H4, H5, H6, H7, H8, H9, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [heldBefore_pos m c _ _ (by omega)]
      generalize bwdAt m c (pairStart ⟨t.val - 1, _⟩) = o
      iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (run_later c (grid0.coords t) _ _ _ _ _ _ _ _ _ _ _ _ _ _ _ _ _ _ _ _ _ _ _ _ _ _ _ _ _ _ _ _ _ _ _ _ ((fwd_iff t).mpr h0) (fun h => h1 ((zero_iff t).mp h)) hb (iblk m c 0 t) (iblk m c 1 t) (iblk m c 2 t) (iblk m c 3 t) (iblk m c 4 t) (iblk m c 5 t) (iblk m c 6 t) (iblk m c 7 t) (iblk m c 8 t) (statesBefore m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexists _; iexact HS7
      iintro ⟨H0, H1, H2, H3, H4, H5, H6, H7, H8, H9, HS0, HS1, HS2, HS3, HS4, HS5, HS6, HS7⟩
      isplitl [HS0 HS1 HS2 HS3 HS4 HS5 HS6 HS7 Hg]
      · isplitl [HS0 HS1 HS2 HS3 HS4 HS5 HS6 HS7]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          iexact HS7
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have hodd : t.val % 2 = 1 := by omega
    have hp : pairStart ⟨t.val - 1, by omega⟩ = pairStart t := Fin.ext (by show (t.val - 1) / 2 * 2 = t.val / 2 * 2; omega)
    rw [statesBefore_odd m c t hodd, show resultAt m c t = k0_pay2 (grid0.coords t) (bwdAt m c (pairStart t)) (iblk m c 0 t) from if_neg h0]
    rw [heldBefore_pos m c _ _ (by omega), hp]
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_back c (grid0.coords t) _ _ _ _ _ _ _ _ _ _ _ _ _ _ _ _ _ _ _ _ _ _ _ _ _ _ _ _ _ _ _ _ _ _ _ _ (fun h => h0 ((fwd_iff t).mp h)) ((back_iff t).mpr hodd) (iblk m c 0 t) (iblk m c 1 t) (iblk m c 2 t) (iblk m c 3 t) (iblk m c 4 t) (iblk m c 5 t) (iblk m c 6 t) (iblk m c 7 t) (iblk m c 8 t) (statesBefore m c t.val) (bwdAt m c (pairStart t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    iintro ⟨H0, H1, H2, H3, H4, H5, H6, H7, H8, H9, HS0, HS1, HS2, HS3, HS4, HS5, HS6, HS7⟩
    isplitl [HS0 HS1 HS2 HS3 HS4 HS5 HS6 HS7 Hg]
    · isplitl [HS0 HS1 HS2 HS3 HS4 HS5 HS6 HS7]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iexact HS7
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The launch's body at a point. -/
theorem body_row (t : Fin cfg0.N) : defs₀ (F := F) .tc cfg0.body (cfg0.bodyArgs t (cfg0.slots t)) = bodyAt0 t := by
  unfold defs₀; rw [Defs.onTc_tc]

/-- The body meets what the launch asks of it at every point. -/
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The run -/

/-- What the launch starts with is what is held before the first point. -/
theorem held_first (c : Dev nD) : Pipeline.ΦA spec0 c ⊢ (dats m 0 c).Φ 0 := by
  rw [show (dats m 0 c).Φ 0 = heldBefore m c 0 (Nat.zero_le _) from rfl, heldBefore_zero m c 0 _ rfl]

/-- What is held after the last point is what the launch ends with. -/
theorem held_last (c : Dev nD) : (dats m 0 c).Φ (Fin.last cfg0.N) ⊢ Pipeline.ΦA spec0 c := by
  have hN : cfg0.N = 32 := N_0
  rw [show (dats m 0 c).Φ (Fin.last cfg0.N) = heldBefore m c (Fin.last cfg0.N).val (Nat.le_of_lt_succ (Fin.last cfg0.N).isLt) from rfl,
    heldBefore_pos m c _ _ (by rw [Fin.val_last]; omega), anything_eq]
  iintro ⟨⟨HS0, HS1, HS2, HS3, HS4, HS5, HS6, HS7⟩, Hg⟩
  isplitl [HS0 HS1 HS2 HS3 HS4 HS5 HS6 HS7]
  · isplitl [HS0]; · iexact HS0
    isplitl [HS1]; · iexact HS1
    isplitl [HS2]; · iexists _; iexact HS2
    isplitl [HS3]; · iexists _; iexact HS3
    isplitl [HS4]; · iexists _; iexact HS4
    isplitl [HS5]; · iexists _; iexact HS5
    isplitl [HS6]; · iexact HS6
    iexists _; iexact HS7
  iexact Hg

set_option backward.isDefEq.respectTransparency.types false in
/-- The launch: the program ends with every array of the pipeline at what the proof data gives, every other buffer as the
region found it, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl) (howed := fun _ _ => rfl) (V := V m)
    (hmain := hmain m Variants.none) (hA := array_eq m) (hin := held_first m) (hout := held_last m)

/-- The run, with every array's final contents. -/
theorem run_post : θ_run defs (onTc (τ := τ) (main (F := F))) (s₀ m ρ) (Pipeline.FramePost cfgs (dats m) 0 (V m)) :=
  (θ_run defs _ _).mono (fun _ h => h.1) (run_quiet m ρ)

/-- The frame: from any memory with zero counters the program terminates, its arguments unchanged and its counters zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (array_eq m) (run_post m ρ)) ((θ_run defs _ _).mono (fun _ h => h.2) (run_quiet m ρ))

end Cert.KernelIdeal.Lstm
end
-- ==== Proof.Value.Spec.lean ====
/-
  A bidirectional LSTM as a function of its arguments, at the extended reals: the value that both the kernel and the
  reference are shown to compute. One row of the batch at a time: a row's states depend on no other row.
-/
module

public import Idealize.ShloMosaic.PureOps.Ideal
public import Idealize.ShloMosaic.Lib.Pointwise
public import Mathlib.Analysis.SpecialFunctions.Trigonometric.DerivHyp

@[expose] public section

noncomputable section

namespace Cert.Lstm

open Idealize.ShloMosaic
open scoped BigOperators

/-- The weights of one direction: a row of each matrix, and an entry of each bias, per gate value; the gate values stand
in the order input, forget, cell, output, 256 of each. -/
structure Weights where
  wih : Fin 1024 → Fin 256 → EReal
  whh : Fin 1024 → Fin 256 → EReal
  bih : Fin 1024 → EReal
  bhh : Fin 1024 → EReal

/-- The hidden state and the cell state of one batch row. -/
abbrev State : Type := (Fin 256 → EReal) × (Fin 256 → EReal)

/-- Place `j` of the `q`-th group of 256 gate values. -/
def place (q : Fin 4) (j : Fin 256) : Fin 1024 := ⟨256 * q.val + j.val, by omega⟩

/-- The gate value at place `r` for the input `x` and the hidden state `h`. -/
def gate (w : Weights) (x h : Fin 256 → EReal) (r : Fin 1024) : EReal :=
  (∑ k, x k * w.wih r k) + (∑ k, h k * w.whh r k) + w.bih r + w.bhh r

/-- The cell state after a step. -/
def cellState (w : Weights) (x : Fin 256 → EReal) (s : State) (j : Fin 256) : EReal :=
  Ideal.logistic (gate w x s.1 (place 1 j)) * s.2 j
    + Ideal.logistic (gate w x s.1 (place 0 j)) * Ideal.tanh (gate w x s.1 (place 2 j))

/-- The hidden state after a step. -/
def hiddenState (w : Weights) (x : Fin 256 → EReal) (s : State) (j : Fin 256) : EReal :=
  Ideal.logistic (gate w x s.1 (place 3 j)) * Ideal.tanh (cellState w x s j)

/-- One step of the recurrence. -/
def step (w : Weights) (x : Fin 256 → EReal) (s : State) : State := (hiddenState w x s, cellState w x s)

/-- The states before any step. -/
def start : State := (fun _ => 0, fun _ => 0)

/-- The states after `n` steps over the inputs `xs 0, xs 1, …`, from zero states. -/
def states (w : Weights) (xs : ℕ → Fin 256 → EReal) : ℕ → State
  | 0 => start
  | n + 1 => step w (xs n) (states w xs n)

/-- Only the first `n` inputs matter to the states after `n` steps. -/
theorem states_congr (w : Weights) (xs ys : ℕ → Fin 256 → EReal) (n : ℕ) (h : ∀ t, t < n → xs t = ys t) :
    states w xs n = states w ys n := by
  induction n with
  | zero => rfl
  | succ n ih => rw [states, states, ih (fun t ht => h t (by omega)), h n (by omega)]

/-- The forward output of a row of length `len`, at position `t` and unit `j`: zero at and beyond the length. -/
def forward (w : Weights) (xs : ℕ → Fin 256 → EReal) (len : Int) (t : ℕ) (j : Fin 256) : EReal :=
  if (t : Int) < len then (states w xs (t + 1)).1 j else 0

/-- The backward output: the row's first `len` inputs are gone through from the last to the first, and the hidden state
after the input at position `t` is given out at position `t`; zero at and beyond the length. -/
def backward (w : Weights) (xs : ℕ → Fin 256 → EReal) (len : Int) (t : ℕ) (j : Fin 256) : EReal :=
  if (t : Int) < len then (states w (fun s => xs (len.toNat - 1 - s)) (len.toNat - t)).1 j else 0

/-- The result at batch row, position `t` and place `u` among 512: the forward output at the first 256 places, the
backward one at the last 256. -/
def output (wf wb : Weights) (xs : ℕ → Fin 256 → EReal) (len : Int) (t : ℕ) (u : Fin 512) : EReal :=
  if h : u.val < 256 then forward wf xs len t ⟨u.val, h⟩ else backward wb xs len t ⟨u.val - 256, by omega⟩

/-! ## Out of the argument arrays -/

/-- The weights of one direction, out of the four argument arrays. -/
def weightsOf (wih whh : FVec Ideal ⟨2, ![1024, 256]⟩ .f32) (bih bhh : FVec Ideal ⟨1, ![1024]⟩ .f32) : Weights where
  wih r k := wih (ix2 r k)
  whh r k := whh (ix2 r k)
  bih r := bih (ix1 r)
  bhh r := bhh (ix1 r)

/-- Row `n` of the batch as a sequence of inputs; zero from position 2048 on. -/
def sequenceOf (x : FVec Ideal ⟨3, ![16, 2048, 256]⟩ .f32) (n : Fin 16) : ℕ → Fin 256 → EReal :=
  fun t j => if h : t < 2048 then x (ix3 n ⟨t, h⟩ j) else 0

/-- The whole result, out of the ten argument arrays. -/
def resultOf (x : FVec Ideal ⟨3, ![16, 2048, 256]⟩ .f32) (seq : IVec ⟨1, ![16]⟩ 32)
    (wihf whhf : FVec Ideal ⟨2, ![1024, 256]⟩ .f32) (bihf bhhf : FVec Ideal ⟨1, ![1024]⟩ .f32)
    (wihb whhb : FVec Ideal ⟨2, ![1024, 256]⟩ .f32) (bihb bhhb : FVec Ideal ⟨1, ![1024]⟩ .f32) :
    FVec Ideal ⟨3, ![16, 2048, 512]⟩ .f32 :=
  fun i => output (weightsOf wihf whhf bihf bhhf) (weightsOf wihb whhb bihb bhhb) (sequenceOf x (i 0)) (seq (ix1 (i 0))).toInt
    (i 1).val (i 2)

/-! ## The two spellings of the sigmoid -/

/-- On the reals, the sigmoid is half a hyperbolic tangent of half the argument, plus a half. -/
theorem real_sigmoid (r : ℝ) : (1 / 2 : ℝ) * Real.tanh ((1 / 2) * r) + 1 / 2 = (1 + Real.exp (-r))⁻¹ := by
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, e1]
  generalize Real.exp (1 / 2 * r) = a at *
  generalize Real.exp (-(1 / 2 * r)) = b at *
  have : 1 + b * b ≠ 0 := by positivity
  field_simp
  nlinarith

/-- The same on the extended reals. -/
theorem sigmoid_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [show (1 : EReal) = ((1 : ℝ) : EReal) by simp, ← EReal.coe_mul, ← EReal.coe_add]; norm_num
  | coe r =>
    rw [← EReal.coe_mul, Ideal.tanh_coe, Ideal.logistic_coe, ← EReal.coe_mul, ← EReal.coe_add, real_sigmoid]

end Cert.Lstm

end
-- ==== Proof.Value.Words.lean ====
module

public import Idealize.ShloMosaic.Lib.Pointwise
public import Idealize.ShloMosaic.Lib.WordCmp
public import Idealize.ShloMosaic.Lib.WordArith.Masks
public import Idealize.ShloMosaic.Lib.Scf.Counter

/-! # Facts of words

Facts of 32-bit words that both programs' masks and indices use. -/

@[expose] public section

namespace Cert.Lstm

open Idealize.ShloMosaic

/-- A position as a word, read signed. -/
theorem position_toInt (t : ℕ) (ht : t < 2048) : (BitVec.ofNat 32 t).toInt = (t : Int) := by
  rw [BitVec.toInt_eq_toNat_cond, BitVec.toNat_ofNat]
  omega

/-- The counter before step `k`, read signed. -/
theorem counter_toInt (k : ℕ) (hk : k < 2048) : (Scf.iv 0#32 1#32 k).toInt = (k : Int) := by
  rw [BitVec.toInt_eq_toNat_cond, WordArith.toNat_iv_zero_one k (by omega)]
  simp
  omega

/-- A signed comparison of words as a truth value of integers. -/
theorem cmpi_slt_if (x y : BitVec 32) : IntOp.cmpi .slt x y = if x.toInt < y.toInt then 1#1 else 0#1 := by
  rw [WordCmp.cmpi_slt_eq]
  by_cases h : x.toInt < y.toInt <;> simp [h]

/-- One less than a positive word, read signed. -/
theorem pred_toInt (x : BitVec 32) (h : 0 < x.toInt) : (x - 1#32).toInt = x.toInt - 1 := by
  have hx : x.toInt < 2 ^ 31 := by have := BitVec.toInt_lt (x := x); simpa using this
  rw [BitVec.toInt_sub, show (1#32 : BitVec 32).toInt = 1 from rfl, Int.bmod_eq_of_le] <;> simp <;> omega

/-- A choice by the truth value of an integer comparison. -/
theorem select_slt {α : Type} (x y : BitVec 32) (a b : α) :
    Scalar.select (IntOp.cmpi .slt x y) a b = if x.toInt < y.toInt then a else b := by
  rw [cmpi_slt_if]
  unfold Scalar.select
  by_cases h : x.toInt < y.toInt
  · rw [if_pos h, if_pos h]; exact if_pos rfl
  · rw [if_neg h, if_neg h]; exact if_neg (by decide)

end Cert.Lstm

end
-- ==== Proof.KernelIdeal.Pure.lean ====
module

public import proofs.«01_k».proof.Proof.KernelIdeal.Chunk
public import proofs.«01_k».proof.Proof.Value.Spec
public import proofs.«01_k».proof.Proof.Value.Words
public import Idealize.ShloMosaic.Lib.Pointwise
public import Idealize.ShloMosaic.Lib.IdealHost
public import Idealize.ShloMosaic.Lib.WordCmp
public import Idealize.ShloMosaic.Lib.WordArith.Masks
public import Idealize.ShloMosaic.Lib.Scf.Counter

/-! # The kernel's operations, read entry by entry

What a trip of the kernel's loop does to one batch row, in the words of the recurrence (`Cert.Lstm`), at the extended
reals. -/

@[expose] public section

set_option maxRecDepth 16384

noncomputable section

namespace Cert.KernelIdeal.Lstm

open Idealize.ShloMosaic
open Cert.KernelIdeal.Gen
open Cert.Lstm
open scoped BigOperators

/-! ## The order of the gates -/

/-- The kernel's gate columns stand in the order input, forget, output, cell; the weights' in the order input, forget,
cell, output. The weights' place of the kernel's column `r`. -/
def placeOf (r : Fin 1024) : Fin 1024 :=
  if r.val < 512 then r else if h : r.val < 768 then ⟨r.val + 256, by omega⟩ else ⟨r.val - 256, by omega⟩

/-- The kernel's first group of columns is the input gate's. -/
theorem placeOf_input (j : Fin 256) : placeOf (place 0 j) = place 0 j := by
  unfold placeOf; rw [if_pos (by show 256 * 0 + j.val < 512; omega)]

/-- The second is the forget gate's. -/
theorem placeOf_forget (j : Fin 256) : placeOf (place 1 j) = place 1 j := by
  unfold placeOf; rw [if_pos (by show 256 * 1 + j.val < 512; omega)]

/-- The third is the output gate's. -/
theorem placeOf_output (j : Fin 256) : placeOf (place 2 j) = place 3 j := by
  unfold placeOf
  rw [if_neg (by show ¬ 256 * 2 + j.val < 512; omega), dif_pos (by show 256 * 2 + j.val < 768; omega)]
  exact Fin.ext (by show 256 * 2 + j.val + 256 = 256 * 3 + j.val; omega)

/-- The fourth is the cell gate's. -/
theorem placeOf_cell (j : Fin 256) : placeOf (place 3 j) = place 2 j := by
  unfold placeOf
  rw [if_neg (by show ¬ 256 * 3 + j.val < 512; omega), dif_neg (by show ¬ 256 * 3 + j.val < 768; omega)]
  exact Fin.ext (by show 256 * 3 + j.val - 256 = 256 * 2 + j.val; omega)

/-- Two matrices and a row of biases hold the weights `w` in the kernel's layout: transposed, the columns in the kernel's
order, the two biases added. -/
structure Holds (w : Weights) (wx wh : Vec Ideal S256x1024 .bf16) (b : Vec Ideal S1x1024 .f32) : Prop where
  wx : ∀ k r, wx (ix2 k r) = w.wih (placeOf r) k
  wh : ∀ k r, wh (ix2 k r) = w.whh (placeOf r) k
  b : ∀ r, b (ix2 0 r) = w.bih (placeOf r) + w.bhh (placeOf r)

/-! ## Gate values -/

/-- The forward gate rows, entry by entry. -/
theorem gates_fwd_apply (x : Vec Ideal S16x128x256 .f32) (wx : Vec Ideal S256x1024 .bf16) (b : Vec Ideal S1x1024 .f32)
    (i : Fin 128) (n : Fin 16) (r : Fin 1024) :
    k0_pay16 x wx b (ix3 i n r) = (∑ k, x (ix3 n i k) * wx (ix2 k r)) + b (ix2 0 r) := by
  unfold k0_pay16
  simp only [pointwise, zero_add]
  rfl

/-- The backward gate rows, entry by entry. -/
theorem gates_bwd_apply (x : Vec Ideal S16x128x256 .f32) (wx : Vec Ideal S256x1024 .bf16) (b : Vec Ideal S1x1024 .f32)
    (i : Fin 128) (n : Fin 16) (r : Fin 1024) :
    k0_pay17 x wx b (ix3 i n r) = (∑ k, x (ix3 n i k) * wx (ix2 k r)) + b (ix2 0 r) :=
  gates_fwd_apply x wx b i n r

/-- A gate row plus the hidden state times the recurrent weights, entry by entry. -/
theorem sum_apply (W : FVec Ideal S256x1024 .bf16) (h : Vec Ideal S16x256 .f32) (row : Vec Ideal S1x16x1024 .f32)
    (n : Fin 16) (r : Fin 1024) :
    k0_pay3 W h row (ix2 n r) = row (ix3 0 n r) + ∑ k, h (ix2 n k) * W (ix2 k r) := by
  unfold k0_pay3
  simp only [pointwise, zero_add]

/-- The gate values of a step, once the input's share has been put in the gate row. -/
theorem gate_apply (w : Weights) (wx wh : Vec Ideal S256x1024 .bf16) (b : Vec Ideal S1x1024 .f32) (hw : Holds w wx wh b)
    (G : Vec Ideal S128x16x1024 .f32) (x : Fin 256 → EReal) (i : Fin 128) (n : Fin 16)
    (hG : ∀ r, G (ix3 i n r) = (∑ k, x k * wx (ix2 k r)) + b (ix2 0 r))
    (h : Vec Ideal S16x256 .f32) (r : Fin 1024) :
    k0_pay3 wh h (gateRow G i) (ix2 n r) = gate w x (fun k => h (ix2 n k)) (placeOf r) := by
  rw [sum_apply]
  show G (ix3 i n r) + _ = _
  rw [hG, hw.b]
  unfold gate
  simp only [hw.wx, hw.wh]
  rw [add_assoc, add_comm (w.bih _ + w.bhh _), ← add_assoc, ← add_assoc]

/-! ## The cell -/

/-- The sigmoids of the first 768 gate columns, as the kernel spells them. -/
def sigmoids (g : FVec Ideal S16x1024 .f32) : FVec Ideal S16x768 .f32 :=
  addf (mulf (broadcast S16x768 (Scalar.ofBits .f32 0x3F000000#32)) (tanh (mulf (broadcast S16x768 (Scalar.ofBits .f32 0x3F000000#32))
    (extractStridedSlice S16x768 ![0, 0] g slices_S16x1024_o0_0_S16x768)))) (broadcast S16x768 (Scalar.ofBits .f32 0x3F000000#32))

/-- The cell state out of the gate values. -/
def cellOf (g : FVec Ideal S16x1024 .f32) (c : Vec Ideal S16x256 .f32) : FVec Ideal S16x256 .f32 :=
  addf (mulf (extractStridedSlice S16x256 ![0, 256] (sigmoids g) slices_S16x768_o0_256_S16x256) c)
    (mulf (extractStridedSlice S16x256 ![0, 0] (sigmoids g) slices_S16x768_o0_0_S16x256)
      (tanh (extractStridedSlice S16x256 ![0, 768] g slices_S16x1024_o0_768_S16x256)))

/-- The hidden state out of the gate values. -/
def hiddenOf (g : FVec Ideal S16x1024 .f32) (c : Vec Ideal S16x256 .f32) : FVec Ideal S16x256 .f32 :=
  mulf (extractStridedSlice S16x256 ![0, 512] (sigmoids g) slices_S16x768_o0_512_S16x256) (tanh (cellOf g c))

/-- The literal one half. -/
theorem ofBits_half : Ideal.ofBits .f32 0x3F000000#32 = ((1 / 2 : ℝ) : EReal) := by
  simp [Ideal.ofBits, Ideal.ieee, -EReal.coe_mul]; norm_num

/-- Within the first three groups, the scaled and shifted tanh is the logistic function of the gate. -/
theorem sigmoids_apply (g : FVec Ideal S16x1024 .f32) (o : ℕ) (q : Fin 4) (hq3 : q.val < 3) (ho : o = 256 * q.val) (hs : S16x768.Slices ![0, o] S16x256)
    (n : Fin 16) (j : Fin 256) :
    extractStridedSlice S16x256 ![0, o] (sigmoids g) hs (ix2 n j) = Ideal.logistic (g (ix2 n (place q j))) := by
  subst ho
  have hq : 256 * q.val + j.val < 768 := by omega
  have e : extractStridedSlice S16x768 ![0, 0] g slices_S16x1024_o0_0_S16x768 (ix2 n ⟨256 * q.val + j.val, hq⟩) = g (ix2 n (place q j)) := by
    simp only [pointwise]
    refine congrArg g (funext fun a => Fin.ext ?_)
    match a with
    | ⟨0, _⟩ => show 0 + n.val = n.val; omega
    | ⟨1, _⟩ => show 0 + (256 * q.val + j.val) = 256 * q.val + j.val; omega
  have e2 : extractStridedSlice S16x256 ![0, 256 * q.val] (sigmoids g) hs (ix2 n j) = sigmoids g (ix2 n ⟨256 * q.val + j.val, hq⟩) := by
    refine extractStridedSlice_apply _ _ _ _ _ (fun a => ?_)
    match a with
    | ⟨0, _⟩ => show n.val = 0 + n.val; omega
    | ⟨1, _⟩ => rfl
  rw [e2, ← e, ← sigmoid_tanh]
  show Ideal.ofBits .f32 0x3F000000#32 * Ideal.tanh (Ideal.ofBits .f32 0x3F000000#32 * _) + Ideal.ofBits .f32 0x3F000000#32 = _
  rw [ofBits_half]

/-- The fourth group of columns, cut out, entry by entry. -/
theorem cellGate_apply (g : FVec Ideal S16x1024 .f32) (n : Fin 16) (j : Fin 256) :
    extractStridedSlice S16x256 ![0, 768] g slices_S16x1024_o0_768_S16x256 (ix2 n j) = g (ix2 n (place 3 j)) := by
  simp only [pointwise]
  refine congrArg g (funext fun a => Fin.ext ?_)
  match a with
  | ⟨0, _⟩ => show 0 + n.val = n.val; omega
  | ⟨1, _⟩ => rfl

/-- The new cell state, entry by entry. -/
theorem cellOf_apply (g : FVec Ideal S16x1024 .f32) (c : Vec Ideal S16x256 .f32) (n : Fin 16) (j : Fin 256) :
    cellOf g c (ix2 n j) = Ideal.logistic (g (ix2 n (place 1 j))) * c (ix2 n j)
      + Ideal.logistic (g (ix2 n (place 0 j))) * Ideal.tanh (g (ix2 n (place 3 j))) := by
  rw [← sigmoids_apply g 256 1 (by decide) rfl slices_S16x768_o0_256_S16x256, ← sigmoids_apply g 0 0 (by decide) rfl slices_S16x768_o0_0_S16x256,
    ← cellGate_apply g n j]
  rfl

/-- The new hidden state, entry by entry. -/
theorem hiddenOf_apply (g : FVec Ideal S16x1024 .f32) (c : Vec Ideal S16x256 .f32) (n : Fin 16) (j : Fin 256) :
    hiddenOf g c (ix2 n j) = Ideal.logistic (g (ix2 n (place 2 j))) * Ideal.tanh (cellOf g c (ix2 n j)) := by
  rw [← sigmoids_apply g 512 2 (by decide) rfl slices_S16x768_o0_512_S16x256]
  rfl

/-- Row `n` of a hidden and a cell state. -/
def rowState (h c : Vec Ideal S16x256 .f32) (n : Fin 16) : State := (fun j => h (ix2 n j), fun j => c (ix2 n j))

/-- Gate values that are the weights' give the recurrence's step. -/
theorem cell_step (w : Weights) (x : Fin 256 → EReal) (n : Fin 16) (s : State) (g : FVec Ideal S16x1024 .f32)
    (c : Vec Ideal S16x256 .f32) (hg : ∀ r, g (ix2 n r) = gate w x s.1 (placeOf r)) (hc : ∀ j, c (ix2 n j) = s.2 j) :
    rowState (hiddenOf g c) (cellOf g c) n = step w x s := by
  have e : ∀ j, cellOf g c (ix2 n j) = cellState w x s j := fun j => by
    rw [cellOf_apply, hg, hg, hg, hc, placeOf_input, placeOf_forget, placeOf_cell]; rfl
  refine Prod.ext (funext fun j => ?_) (funext e)
  show hiddenOf g c (ix2 n j) = _
  rw [hiddenOf_apply, e, hg, placeOf_output]
  rfl

/-! ## A trip -/

/-- Where the backward states are kept: before the last position of the sequence. -/
def kept (seq : Vec Ideal S16x256 .i32) (base : BitVec 32) (k : Fin k0_t1_loop.trips) (s : Vec Ideal S16x256 .f32) :
    Vec Ideal S16x256 .f32 :=
  select (k0_pay8 (k0_pay18 seq) base 0#32 1#32 k) s (broadcast S16x256 (Scalar.ofBits (F := Ideal) .f32 0x00000000#32))

/-- One turn, as cell and hidden states. -/
theorem turn_eq (seq : Vec Ideal S16x256 .i32) (wf wb : Vec Ideal S256x1024 .bf16) (base : BitVec 32)
    (gf gb : Vec Ideal S128x16x1024 .f32) (k : Fin k0_t1_loop.trips) (a : Carry Ideal) :
    turn seq wf wb base gf gb k a
      = (hiddenOf (k0_pay3 wf a.1 (gateRow gf (fwdRow k))) a.2.1, cellOf (k0_pay3 wf a.1 (gateRow gf (fwdRow k))) a.2.1,
         hiddenOf (k0_pay3 wb (kept seq base k a.2.2.1) (gateRow gb (bwdRow k))) (kept seq base k a.2.2.2),
         cellOf (k0_pay3 wb (kept seq base k a.2.2.1) (gateRow gb (bwdRow k))) (kept seq base k a.2.2.2)) := by
  have e1 : k0_pay19 wf = wf := shapeCast_self _ _
  have e2 : k0_pay20 wb = wb := shapeCast_self _ _
  unfold turn
  rw [e1, e2]
  rfl

/-- The kernel's backward recurrence at position `t`, for a row of length `len`: the states are set to zero first, unless
the position is before the last one. -/
def backStep (w : Weights) (len : Int) (t : ℕ) (x : Fin 256 → EReal) (s : State) : State :=
  step w x (if (t : Int) < len - 1 then s else start)

/-- The backward states are kept where the position is before the row's last one, and zero elsewhere. -/
theorem kept_apply (seq : Vec Ideal S16x256 .i32) (base : BitVec 32) (k : Fin k0_t1_loop.trips) (s : Vec Ideal S16x256 .f32)
    (n : Fin 16) (j : Fin 256) (len : Int) (t : ℕ) (hseq : (seq (ix2 n j)).toInt = len) (h0 : 0 < len)
    (hb : base.toInt + 127 - k.val = t) (ht : t < 2048) :
    kept seq base k s (ix2 n j) = if (t : Int) < len - 1 then s (ix2 n j) else 0 := by
  have e : k0_pay18 seq = seq := shapeCast_self _ _
  have hk : k.val < 128 := k.isLt.trans_eq trips_eq
  unfold kept k0_pay8
  rw [e]
  show Scalar.select (IntOp.cmpi .slt (base + (127#32 - Scf.iv 0#32 1#32 k.val)) (seq (ix2 n j) - 1#32)) (s (ix2 n j)) (Ideal.ofBits .f32 0x00000000#32) = _
  have e1 : (127#32 - Scf.iv 0#32 1#32 k.val).toInt = 127 - (k.val : Int) := by
    rw [BitVec.toInt_sub, counter_toInt k.val (by omega), show (127#32 : BitVec 32).toInt = 127 from rfl, Int.bmod_eq_of_le] <;> simp <;> omega
  have e2 : (base + (127#32 - Scf.iv 0#32 1#32 k.val)).toInt = (t : Int) := by
    rw [BitVec.toInt_add, e1, Int.bmod_eq_of_le] <;> (try simp) <;> omega
  rw [select_slt, e2, pred_toInt _ (by omega), hseq, Ideal.ofBits_zero_f32]

/-- What a trip does to the forward states of a row. -/
theorem turn_fwd (w : Weights) (wx wf wb : Vec Ideal S256x1024 .bf16) (b : Vec Ideal S1x1024 .f32) (hw : Holds w wx wf b)
    (seq : Vec Ideal S16x256 .i32) (base : BitVec 32) (gf gb : Vec Ideal S128x16x1024 .f32) (k : Fin k0_t1_loop.trips)
    (a : Carry Ideal) (n : Fin 16) (x : Fin 256 → EReal)
    (hG : ∀ r, gf (ix3 (fwdRow k) n r) = (∑ i, x i * wx (ix2 i r)) + b (ix2 0 r)) :
    rowState (turn seq wf wb base gf gb k a).1 (turn seq wf wb base gf gb k a).2.1 n = step w x (rowState a.1 a.2.1 n) := by
  rw [turn_eq]
  exact cell_step w x n _ _ _ (fun r => gate_apply w wx wf b hw gf x _ n hG _ r) (fun j => rfl)

/-- What a trip does to the backward states of a row of positive length. -/
theorem turn_bwd (w : Weights) (wx wf wb : Vec Ideal S256x1024 .bf16) (b : Vec Ideal S1x1024 .f32) (hw : Holds w wx wb b)
    (seq : Vec Ideal S16x256 .i32) (base : BitVec 32) (gf gb : Vec Ideal S128x16x1024 .f32) (k : Fin k0_t1_loop.trips)
    (a : Carry Ideal) (n : Fin 16) (x : Fin 256 → EReal)
    (hG : ∀ r, gb (ix3 (bwdRow k) n r) = (∑ i, x i * wx (ix2 i r)) + b (ix2 0 r))
    (len : Int) (t : ℕ) (hseq : ∀ j, (seq (ix2 n j)).toInt = len) (h0 : 0 < len)
    (hb : base.toInt + 127 - k.val = t) (ht : t < 2048) :
    rowState (turn seq wf wb base gf gb k a).2.2.1 (turn seq wf wb base gf gb k a).2.2.2 n
      = backStep w len t x (rowState a.2.2.1 a.2.2.2 n) := by
  have hh : ∀ (s : Vec Ideal S16x256 .f32) (j : Fin 256), kept seq base k s (ix2 n j) = if (t : Int) < len - 1 then s (ix2 n j) else 0 :=
    fun s j => kept_apply seq base k s n j len t (hseq j) h0 hb ht
  have e : rowState (kept seq base k a.2.2.1) (kept seq base k a.2.2.2) n
      = if (t : Int) < len - 1 then rowState a.2.2.1 a.2.2.2 n else start := by
    by_cases c : (t : Int) < len - 1
    · rw [if_pos c]
      exact Prod.ext (funext fun j => (hh _ j).trans (if_pos c)) (funext fun j => (hh _ j).trans (if_pos c))
    · rw [if_neg c]
      exact Prod.ext (funext fun j => (hh _ j).trans (if_neg c)) (funext fun j => (hh _ j).trans (if_neg c))
  unfold backStep
  rw [← e, turn_eq]
  exact cell_step w x n _ _ _ (fun r => gate_apply w wx wb b hw gb x _ n hG _ r) (fun j => rfl)

/-! ## A chunk, and the chunks in turn -/

/-- The backward states of a row after `s` of the kernel's 2048 backward steps, which go through the positions from the
last one down. -/
def backStates (w : Weights) (xs : ℕ → Fin 256 → EReal) (len : Int) : ℕ → State
  | 0 => start
  | s + 1 => backStep w len (2047 - s) (xs (2047 - s)) (backStates w xs len s)

/-- From the position before the length on, they are the recurrence's states over the reversed sequence. -/
theorem backStates_eq (w : Weights) (xs : ℕ → Fin 256 → EReal) (len : ℕ) (h0 : 0 < len) (hl : len ≤ 2048) (d : ℕ) (hd : d < len) :
    backStates w xs len (2048 - len + d + 1) = states w (fun s => xs (len - 1 - s)) (d + 1) := by
  induction d with
  | zero =>
    show backStep w len (2047 - (2048 - len + 0)) (xs (2047 - (2048 - len + 0))) _ = step w (xs (len - 1 - 0)) start
    unfold backStep
    rw [if_neg (by omega), show 2047 - (2048 - len + 0) = len - 1 - 0 by omega]
  | succ d ih =>
    show backStep w len (2047 - (2048 - len + (d + 1))) (xs (2047 - (2048 - len + (d + 1)))) (backStates w xs len (2048 - len + d + 1))
      = step w (xs (len - 1 - (d + 1))) (states w _ (d + 1))
    rw [ih (by omega)]
    unfold backStep
    rw [if_pos (by omega), show 2047 - (2048 - len + (d + 1)) = len - 1 - (d + 1) by omega]

/-- The result's backward half out of the kernel's backward states. -/
theorem backward_eq (w : Weights) (xs : ℕ → Fin 256 → EReal) (len : Int) (hl : len ≤ 2048) (t : ℕ) (j : Fin 256) :
    (if (t : Int) < len then (backStates w xs len (2048 - t)).1 j else 0) = backward w xs len t j := by
  unfold backward
  by_cases h : (t : Int) < len
  · rw [if_pos h, if_pos h]
    obtain ⟨l, rfl⟩ : ∃ l : ℕ, len = (l : Int) := ⟨len.toNat, by omega⟩
    have e := backStates_eq w xs l (by omega) (by omega) (l - t - 1) (by omega)
    rw [show 2048 - l + (l - t - 1) + 1 = 2048 - t by omega, show l - t - 1 + 1 = l - t by omega] at e
    rw [e]
    rfl
  · rw [if_neg h, if_neg h]

section Chunk

variable (wf wb : Weights) (wxf whf wxb whb : Vec Ideal S256x1024 .bf16) (bf bb : Vec Ideal S1x1024 .f32)
  (hwf : Holds wf wxf whf bf) (hwb : Holds wb wxb whb bb) (seq : Vec Ideal S16x256 .i32) (base : BitVec 32)
  (xf xb : Vec Ideal S16x128x256 .f32) (a : Carry Ideal) (k : ℕ) (hk : k < 16) (n : Fin 16)
  (xs : ℕ → Fin 256 → EReal) (len : Int)

include hwf in
/-- The forward states of a row inside chunk `k`. -/
theorem chunk_fwd (hxf : ∀ i : Fin 128, (fun q => xf (ix3 n i q)) = xs (128 * k + i.val))
    (ha : rowState a.1 a.2.1 n = states wf xs (128 * k)) (i : ℕ) (hi : i ≤ 128) :
    rowState (statesAt seq whf whb base (k0_pay16 xf wxf bf) (k0_pay17 xb wxb bb) a i).1
      (statesAt seq whf whb base (k0_pay16 xf wxf bf) (k0_pay17 xb wxb bb) a i).2.1 n = states wf xs (128 * k + i) := by
  induction i with
  | zero => exact ha
  | succ i ih =>
    have e := statesAt_succ seq whf whb base (k0_pay16 xf wxf bf) (k0_pay17 xb wxb bb) a ⟨i, by rw [trips_eq]; omega⟩
    simp only at e
    rw [e, turn_fwd wf wxf whf whb bf hwf seq base _ _ _ _ n (xs (128 * k + i))
      (fun r => by rw [gates_fwd_apply, ← hxf ⟨i, by omega⟩]; rfl), ih (by omega)]
    rfl

include hwb hk in
/-- The backward states of a row of positive length inside chunk `k`. -/
theorem chunk_bwd (hxb : ∀ i : Fin 128, (fun q => xb (ix3 n i q)) = xs (128 * (15 - k) + i.val))
    (hseq : ∀ j, (seq (ix2 n j)).toInt = len) (h0 : 0 < len) (hb : base.toInt = 128 * (15 - (k : Int)))
    (ha : rowState a.2.2.1 a.2.2.2 n = backStates wb xs len (128 * k)) (i : ℕ) (hi : i ≤ 128) :
    rowState (statesAt seq whf whb base (k0_pay16 xf wxf bf) (k0_pay17 xb wxb bb) a i).2.2.1
      (statesAt seq whf whb base (k0_pay16 xf wxf bf) (k0_pay17 xb wxb bb) a i).2.2.2 n = backStates wb xs len (128 * k + i) := by
  induction i with
  | zero => exact ha
  | succ i ih =>
    have e := statesAt_succ seq whf whb base (k0_pay16 xf wxf bf) (k0_pay17 xb wxb bb) a ⟨i, by rw [trips_eq]; omega⟩
    simp only at e
    have ex : xs (2047 - (128 * k + i)) = fun q => xb (ix3 n ⟨127 - i, by omega⟩ q) := by
      rw [hxb]; exact congrArg xs (by show 2047 - (128 * k + i) = 128 * (15 - k) + (127 - i); omega)
    rw [e, turn_bwd wb wxb whf whb bb hwb seq base _ _ _ _ n (xs (2047 - (128 * k + i)))
      (fun r => by rw [gates_bwd_apply, ex]; rfl) len (2047 - (128 * k + i)) hseq h0
      (by show base.toInt + 127 - (i : Int) = _; rw [hb]; omega) (by omega), ih (by omega)]
    rfl

end Chunk

/-! ## The masked output blocks -/

/-- The word of forward chunk `k`'s first position. -/
theorem fwdBase_eq (k : ℕ) (hk : k < 16) : Scalar.muli (BitVec.ofNat 32 k) 128#32 = BitVec.ofNat 32 (128 * k) := by
  have : ∀ k : Fin 16, Scalar.muli (BitVec.ofNat 32 k.val) 128#32 = BitVec.ofNat 32 (128 * k.val) := by decide
  exact this ⟨k, hk⟩

/-- The word of the first position of the backward chunk of step `k`. -/
theorem bwdBase_eq (k : ℕ) (hk : k < 16) :
    Scalar.muli (Scalar.subi 15#32 (BitVec.ofNat 32 k)) 128#32 = BitVec.ofNat 32 (128 * (15 - k)) := by
  have : ∀ k : Fin 16, Scalar.muli (Scalar.subi 15#32 (BitVec.ofNat 32 k.val)) 128#32 = BitVec.ofNat 32 (128 * (15 - k.val)) := by decide
  exact this ⟨k, hk⟩

/-- The word of a position within a chunk, read signed. -/
theorem chunkPosition_toInt (b p : ℕ) (h : b + p < 2048) :
    (IntOp.addi (BitVec.ofNat 32 b) (BitVec.ofNat 32 p)).toInt = ((b + p : ℕ) : Int) := by
  rw [show IntOp.addi (BitVec.ofNat 32 b) (BitVec.ofNat 32 p) = BitVec.ofNat 32 (b + p) from (BitVec.ofNat_add b p).symm]
  exact position_toInt _ h

/-- The forward output block, entry by entry. -/
theorem out_fwd_apply (i : grid0.Coords) (R : Vec Ideal S128x16x256 .f32) (seq : Vec Ideal S16x256 .i32) (n : Fin 16) (p : Fin 128)
    (j : Fin 256) :
    k0_pay1 i R seq (ix3 n p j)
      = if ((128 * (i 0).val + p.val : ℕ) : Int) < (seq (ix2 n j)).toInt then R (ix3 p n j) else 0 := by
  have hi : (i 0).val < 16 := (i 0).isLt
  unfold k0_pay1
  simp only [pointwise]
  rw [fwdBase_eq _ hi]
  refine (select_slt _ _ _ _).trans ?_
  rw [show BitVec.ofNat 32 (List.foldl (fun n_1 a => n_1 * ![16, 128, 256] a + (ix3 n p j a).val) 0 [1]) = BitVec.ofNat 32 p.val from
    congrArg _ (by show 0 * 128 + p.val = p.val; omega), chunkPosition_toInt _ _ (by omega)]
  rfl

/-- The backward output block, entry by entry. -/
theorem out_bwd_apply (i : grid0.Coords) (R : Vec Ideal S128x16x256 .f32) (seq : Vec Ideal S16x256 .i32) (n : Fin 16) (p : Fin 128)
    (j : Fin 256) :
    k0_pay2 i R seq (ix3 n p j)
      = if ((128 * (15 - (i 0).val) + p.val : ℕ) : Int) < (seq (ix2 n j)).toInt then R (ix3 p n j) else 0 := by
  have hi : (i 0).val < 16 := (i 0).isLt
  unfold k0_pay2
  simp only [pointwise]
  rw [bwdBase_eq _ hi]
  refine (select_slt _ _ _ _).trans ?_
  rw [show BitVec.ofNat 32 (List.foldl (fun n_1 a => n_1 * ![16, 128, 256] a + (ix3 n p j a).val) 0 [1]) = BitVec.ofNat 32 p.val from
    congrArg _ (by show 0 * 128 + p.val = p.val; omega), chunkPosition_toInt _ _ (by omega)]
  rfl

end Cert.KernelIdeal.Lstm

end
-- ==== Proof.KernelIdeal.Windows.lean ====
module

public import proofs.«01_k».proof.Proof.KernelIdeal.Launch
public import proofs.«01_k».proof.Proof.KernelIdeal.Pure
public import Idealize.ShloMosaic.Lib.Pipeline.ValueKit

/-! # What the kernel's windows hold

The arrays the host makes for the kernel, and the blocks of them at a grid point, entry by entry in the arguments. -/

@[expose] public section

set_option maxRecDepth 16384

noncomputable section

namespace Cert.KernelIdeal.Lstm

open Idealize.ShloMosaic Idealize.ShloMosaic.TcCoe
open Cert.KernelIdeal.Gen
open Cert.Lstm
open scoped BigOperators

/-- The number of the place of a column. -/
theorem placeOf_val (r : Fin 1024) :
    (placeOf r).val = if r.val < 512 then r.val else if r.val < 768 then r.val + 256 else r.val - 256 := by
  unfold placeOf; split_ifs <;> rfl

/-! ## The host's rearrangements -/

/-- A weight matrix with its rows in the kernel's order, transposed. -/
def reordered (w : FVec Ideal S1024x256 .f32) : FVec Ideal S256x1024 .bf16 :=
  truncf .bf16 (transpose S256x1024 [1, 0]
    (concatenate S1024x256 0 [⟨S256x256, extractStridedSlice S256x256 ![0, 0] w slices_S1024x256_S256x256_0_0⟩,
      ⟨S256x256, extractStridedSlice S256x256 ![256, 0] w slices_S1024x256_S256x256_256_0⟩,
      ⟨S256x256, extractStridedSlice S256x256 ![768, 0] w slices_S1024x256_S256x256_768_0⟩,
      ⟨S256x256, extractStridedSlice S256x256 ![512, 0] w slices_S1024x256_S256x256_512_0⟩]
      concatenates_S256x256_S256x256_S256x256_S256x256_S1024x256_d0) transposes_S1024x256_S256x1024_1_0) bitsLt_bf16_f32

/-- The reordered weights, entry by entry. -/
theorem reordered_apply (w : FVec Ideal S1024x256 .f32) (k : Fin 256) (r : Fin 1024) :
    reordered w (ix2 k r) = w (ix2 (placeOf r) k) := by
  have key : ∀ (a : Fin 1024) (b : Fin 256), a.val = (placeOf r).val → b.val = k.val → w (ix2 a b) = w (ix2 (placeOf r) k) :=
    fun a b ha hb => by rw [Fin.ext ha, Fin.ext hb]
  have hp := placeOf_val r
  unfold reordered
  simp only [pointwise]
  by_cases h1 : r.val < 256
  · refine (dif_pos h1).trans (key _ _ ?_ ?_)
    · show 0 + r.val = _; rw [hp, if_pos (by omega)]; omega
    · show 0 + k.val = k.val; omega
  refine (dif_neg h1).trans ?_
  by_cases h2 : r.val - 256 < 256
  · refine (dif_pos h2).trans (key _ _ ?_ ?_)
    · show 256 + (r.val - 256) = _; rw [hp, if_pos (by omega)]; omega
    · show 0 + k.val = k.val; omega
  refine (dif_neg h2).trans ?_
  by_cases h3 : r.val - 256 - 256 < 256
  · refine (dif_pos h3).trans (key _ _ ?_ ?_)
    · show 768 + (r.val - 256 - 256) = _; rw [hp, if_neg (by omega), if_pos (by omega)]; omega
    · show 0 + k.val = k.val; omega
  · refine (dif_neg h3).trans (key _ _ ?_ ?_)
    · show 512 + (r.val - 256 - 256 - 256) = _; rw [hp, if_neg (by omega), if_neg (by omega)]; omega
    · show 0 + k.val = k.val; omega

/-- The sum of two bias vectors in the kernel's order, as a row. -/
def biasRow (b b' : FVec Ideal S1024 .f32) : FVec Ideal S1x1024 .f32 :=
  broadcastInDim S1x1024 ![1] bcast_S1024_S1x1024_1
    (concatenate S1024 0 [⟨S256, extractStridedSlice S256 ![0] (addf b b') slices_S1024_S256_0⟩,
      ⟨S256, extractStridedSlice S256 ![256] (addf b b') slices_S1024_S256_256⟩,
      ⟨S256, extractStridedSlice S256 ![768] (addf b b') slices_S1024_S256_768⟩,
      ⟨S256, extractStridedSlice S256 ![512] (addf b b') slices_S1024_S256_512⟩]
      concatenates_S256_S256_S256_S256_S1024_d0)

/-- The bias row, entry by entry. -/
theorem biasRow_apply (b b' : FVec Ideal S1024 .f32) (r : Fin 1024) :
    biasRow b b' (ix2 0 r) = b (ix1 (placeOf r)) + b' (ix1 (placeOf r)) := by
  have key : ∀ a : Fin 1024, a.val = (placeOf r).val →
      b (ix1 a) + b' (ix1 a) = b (ix1 (placeOf r)) + b' (ix1 (placeOf r)) := fun a ha => by rw [Fin.ext ha]
  have hp := placeOf_val r
  unfold biasRow
  simp only [pointwise]
  by_cases h1 : r.val < 256
  · refine (dif_pos h1).trans (key _ ?_)
    show 0 + r.val = _; rw [hp, if_pos (by omega)]; omega
  refine (dif_neg h1).trans ?_
  by_cases h2 : r.val - 256 < 256
  · refine (dif_pos h2).trans (key _ ?_)
    show 256 + (r.val - 256) = _; rw [hp, if_pos (by omega)]; omega
  refine (dif_neg h2).trans ?_
  by_cases h3 : r.val - 256 - 256 < 256
  · refine (dif_pos h3).trans (key _ ?_)
    show 768 + (r.val - 256 - 256) = _; rw [hp, if_neg (by omega), if_pos (by omega)]; omega
  · refine (dif_neg h3).trans (key _ ?_)
    show 512 + (r.val - 256 - 256 - 256) = _; rw [hp, if_neg (by omega), if_neg (by omega)]; omega

/-- The lengths, one row each. -/
def lengthRows (s : IVec S16 32) : IVec S16x256 32 :=
  broadcastInDim S16x256 ![0, 1] bcast_S16x1_S16x256_0_1 (broadcastInDim S16x1 ![0] bcast_S16_S16x1_0 s)

/-- The length rows, entry by entry. -/
theorem lengthRows_apply (s : IVec S16 32) (n : Fin 16) (j : Fin 256) : lengthRows s (ix2 n j) = s (ix1 n) := by
  unfold lengthRows
  simp only [pointwise]
  rfl

variable (m : (ℓ : Loc nD τ sig) → Buf (Elt Ideal) ℓ)

/-- The argument arrays as launched. -/
abbrev arg (c : Dev nD) (b : Ref sig .tc) : Buf (Elt Ideal) ((c.tc : Thread nD τ).loc b) := m ((c.tc : Thread nD τ).loc b)

/-- What the region finds as lengths. -/
theorem V_lengths (c : Dev nD) : V m c main_v1 = lengthRows (arg m c main_arg1) := by
  entry_read; rfl

set_option maxRecDepth 100000 in
/-- What the region finds as forward input weights. -/
theorem V_wih_fwd (c : Dev nD) : V m c main_v8 = reordered (arg m c main_arg2) := by
  show StableHlo.after hostOps0 (fun b => m (c, b)) (Proc.devRef .tc main_v8) = _
  after_results
  rfl
set_option maxRecDepth 100000 in
/-- As forward recurrent weights. -/
theorem V_whh_fwd (c : Dev nD) : V m c main_v15 = reordered (arg m c main_arg3) := by
  show StableHlo.after hostOps0 (fun b => m (c, b)) (Proc.devRef .tc main_v15) = _
  after_results
  rfl
set_option maxRecDepth 100000 in
/-- As forward bias. -/
theorem V_bias_fwd (c : Dev nD) : V m c main_v22 = biasRow (arg m c main_arg4) (arg m c main_arg5) := by
  show StableHlo.after hostOps0 (fun b => m (c, b)) (Proc.devRef .tc main_v22) = _
  after_results
  rfl
set_option maxRecDepth 100000 in
/-- As backward input weights. -/
theorem V_wih_bwd (c : Dev nD) : V m c main_v29 = reordered (arg m c main_arg6) := by
  show StableHlo.after hostOps0 (fun b => m (c, b)) (Proc.devRef .tc main_v29) = _
  after_results
  rfl
set_option maxRecDepth 100000 in
/-- As backward recurrent weights. -/
theorem V_whh_bwd (c : Dev nD) : V m c main_v36 = reordered (arg m c main_arg7) := by
  show StableHlo.after hostOps0 (fun b => m (c, b)) (Proc.devRef .tc main_v36) = _
  after_results
  rfl
set_option maxRecDepth 100000 in
/-- As backward bias. -/
theorem V_bias_bwd (c : Dev nD) : V m c main_v43 = biasRow (arg m c main_arg8) (arg m c main_arg9) := by
  show StableHlo.after hostOps0 (fun b => m (c, b)) (Proc.devRef .tc main_v43) = _
  after_results
  rfl

/-! ## Grid points and blocks -/

/-- A point's chunk number. -/
theorem coord_eq (t : Fin cfg0.N) : (grid0.coords t 0).val = t.val / 2 :=
  (by decide +kernel : ∀ t : Fin grid0.N, (grid0.coords t 0).val = t.val / 2) t

/-- The block of each window at a point. -/
theorem index0 (t : Fin cfg0.N) : win0_0.index t = ![0, 0] := (by decide +kernel : ∀ t : Fin grid0.N, win0_0.index t = ![0, 0]) t
theorem index1 (t : Fin cfg0.N) : win0_1.index t = ![0, t.val / 2, 0] :=
  (by decide +kernel : ∀ t : Fin grid0.N, win0_1.index t = ![0, t.val / 2, 0]) t
theorem index2 (t : Fin cfg0.N) : win0_2.index t = ![0, 15 - t.val / 2, 0] :=
  (by decide +kernel : ∀ t : Fin grid0.N, win0_2.index t = ![0, 15 - t.val / 2, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![0, 0] := (by decide +kernel : ∀ t : Fin grid0.N, win0_5.index t = ![0, 0]) t
theorem index6 (t : Fin cfg0.N) : win0_6.index t = ![0, 0] := (by decide +kernel : ∀ t : Fin grid0.N, win0_6.index t = ![0, 0]) t
theorem index7 (t : Fin cfg0.N) : win0_7.index t = ![0, 0] := (by decide +kernel : ∀ t : Fin grid0.N, win0_7.index t = ![0, 0]) t
theorem index8 (t : Fin cfg0.N) : win0_8.index t = ![0, 0] := (by decide +kernel : ∀ t : Fin grid0.N, win0_8.index t = ![0, 0]) t
theorem index9 (t : Fin cfg0.N) : win0_9.index t = ![0, if t.val % 2 = 0 then t.val / 2 else 15 - t.val / 2, t.val % 2] :=
  (by decide +kernel : ∀ t : Fin grid0.N, win0_9.index t = ![0, if t.val % 2 = 0 then t.val / 2 else 15 - t.val / 2, t.val % 2]) t

/-- The length block, entry by entry. -/
theorem block0 (c : Dev nD) (t : Fin cfg0.N) (n : Fin 16) (j : Fin 256) :
    (iblk m c 0 t : Vec Ideal S16x256 .i32) (ix2 n j) = (arg m c main_arg1 : IVec S16 32) (ix1 n) := by
  refine Eq.trans ?_ ((congrFun (V_lengths m c) (ix2 n j)).trans (lengthRows_apply _ n j))
  blk_ext [iblk, index0 t]

/-- The forward input block, entry by entry. -/
theorem block1 (c : Dev nD) (t : Fin cfg0.N) (n : Fin 16) (i : Fin 128) (q : Fin 256) :
    (iblk m c 1 t : Vec Ideal S16x128x256 .f32) (ix3 n i q) = sequenceOf (arg m c main_arg0) n (128 * (t.val / 2) + i.val) q := by
  have ht : t.val < 32 := t.isLt.trans_eq N_0
  unfold sequenceOf
  rw [dif_pos (by omega)]
  blk_ext [iblk, V, index1 t]

/-- The backward input block, entry by entry. -/
theorem block2 (c : Dev nD) (t : Fin cfg0.N) (n : Fin 16) (i : Fin 128) (q : Fin 256) :
    (iblk m c 2 t : Vec Ideal S16x128x256 .f32) (ix3 n i q) = sequenceOf (arg m c main_arg0) n (128 * (15 - t.val / 2) + i.val) q := by
  have ht : t.val < 32 := t.isLt.trans_eq N_0
  unfold sequenceOf
  rw [dif_pos (by omega)]
  blk_ext [iblk, V, index2 t]

/-- The forward input weights, entry by entry. -/
theorem block3 (c : Dev nD) (t : Fin cfg0.N) (k : Fin 256) (r : Fin 1024) :
    (iblk m c 3 t : Vec Ideal S256x1024 .bf16) (ix2 k r) = (arg m c main_arg2 : FVec Ideal S1024x256 .f32) (ix2 (placeOf r) k) := by
  refine Eq.trans ?_ ((congrFun (V_wih_fwd m c) (ix2 k r)).trans (reordered_apply _ k r))
  blk_ext [iblk, index3 t]

/-- The forward recurrent weights, entry by entry. -/
theorem block4 (c : Dev nD) (t : Fin cfg0.N) (k : Fin 256) (r : Fin 1024) :
    (iblk m c 4 t : Vec Ideal S256x1024 .bf16) (ix2 k r) = (arg m c main_arg3 : FVec Ideal S1024x256 .f32) (ix2 (placeOf r) k) := by
  refine Eq.trans ?_ ((congrFun (V_whh_fwd m c) (ix2 k r)).trans (reordered_apply _ k r))
  blk_ext [iblk, index4 t]

/-- The forward bias, entry by entry. -/
theorem block5 (c : Dev nD) (t : Fin cfg0.N) (r : Fin 1024) :
    (iblk m c 5 t : Vec Ideal S1x1024 .f32) (ix2 0 r) = biasRow (arg m c main_arg4) (arg m c main_arg5) (ix2 0 r) := by
  refine Eq.trans ?_ (congrFun (V_bias_fwd m c) (ix2 0 r))
  blk_ext [iblk, index5 t]

/-- The backward input weights, entry by entry. -/
theorem block6 (c : Dev nD) (t : Fin cfg0.N) (k : Fin 256) (r : Fin 1024) :
    (iblk m c 6 t : Vec Ideal S256x1024 .bf16) (ix2 k r) = (arg m c main_arg6 : FVec Ideal S1024x256 .f32) (ix2 (placeOf r) k) := by
  refine Eq.trans ?_ ((congrFun (V_wih_bwd m c) (ix2 k r)).trans (reordered_apply _ k r))
  blk_ext [iblk, index6 t]

/-- The backward recurrent weights, entry by entry. -/
theorem block7 (c : Dev nD) (t : Fin cfg0.N) (k : Fin 256) (r : Fin 1024) :
    (iblk m c 7 t : Vec Ideal S256x1024 .bf16) (ix2 k r) = (arg m c main_arg7 : FVec Ideal S1024x256 .f32) (ix2 (placeOf r) k) := by
  refine Eq.trans ?_ ((congrFun (V_whh_bwd m c) (ix2 k r)).trans (reordered_apply _ k r))
  blk_ext [iblk, index7 t]

/-- The backward bias, entry by entry. -/
theorem block8 (c : Dev nD) (t : Fin cfg0.N) (r : Fin 1024) :
    (iblk m c 8 t : Vec Ideal S1x1024 .f32) (ix2 0 r) = biasRow (arg m c main_arg8) (arg m c main_arg9) (ix2 0 r) := by
  refine Eq.trans ?_ (congrFun (V_bias_bwd m c) (ix2 0 r))
  blk_ext [iblk, index8 t]

/-- The weights of the two directions. -/
def fwdWeights (c : Dev nD) : Weights := weightsOf (arg m c main_arg2) (arg m c main_arg3) (arg m c main_arg4) (arg m c main_arg5)
/-- The weights of the backward direction. -/
def bwdWeights (c : Dev nD) : Weights := weightsOf (arg m c main_arg6) (arg m c main_arg7) (arg m c main_arg8) (arg m c main_arg9)

/-- The forward weight blocks hold the forward weights. -/
theorem holds_fwd (c : Dev nD) (t : Fin cfg0.N) : Holds (fwdWeights m c) (iblk m c 3 t) (iblk m c 4 t) (iblk m c 5 t) :=
  ⟨block3 m c t, block4 m c t, fun r => (block5 m c t r).trans (biasRow_apply _ _ r)⟩

/-- The backward weight blocks hold the backward weights. -/
theorem holds_bwd (c : Dev nD) (t : Fin cfg0.N) : Holds (bwdWeights m c) (iblk m c 6 t) (iblk m c 7 t) (iblk m c 8 t) :=
  ⟨block6 m c t, block7 m c t, fun r => (block8 m c t r).trans (biasRow_apply _ _ r)⟩

end Cert.KernelIdeal.Lstm

end
-- ==== Proof.KernelIdeal.Value.lean ====
module

public import proofs.«01_k».proof.Proof.KernelIdeal.Windows

/-! # The result array of the kernel

The states before every chunk, the rows of every chunk, and the result array, as the specification's functions of the
arguments. -/

@[expose] public section

set_option maxRecDepth 16384

noncomputable section

namespace Cert.KernelIdeal.Lstm

open Idealize.ShloMosaic Idealize.ShloMosaic.TcCoe
open Cert.KernelIdeal.Gen
open Cert.Lstm
open scoped BigOperators

variable (m : (ℓ : Loc nD τ sig) → Buf (Elt Ideal) ℓ)

/-- The inputs of batch row `n`. -/
abbrev rowInput (c : Dev nD) (n : Fin 16) : ℕ → Fin 256 → EReal := sequenceOf (arg m c main_arg0) n

/-- The length of batch row `n`. -/
abbrev rowLength (c : Dev nD) (n : Fin 16) : Int := ((arg m c main_arg1 : IVec S16 32) (ix1 n)).toInt

/-- The word of the first position of the backward chunk at point `t`, read signed. -/
theorem base_toInt (t : Fin cfg0.N) : (chunkBase (grid0.coords t)).toInt = 128 * (15 - ((t.val / 2 : ℕ) : Int)) := by
  have ht : t.val < 32 := t.isLt.trans_eq N_0
  unfold chunkBase
  rw [coord_eq, bwdBase_eq _ (by omega), position_toInt _ (by omega)]
  omega

/-- The states after `i` turns of the chunk at point `t`. -/
abbrev chunkStates (c : Dev nD) (t : Fin cfg0.N) (i : ℕ) : Carry Ideal :=
  statesAt (iblk m c 0 t) (iblk m c 4 t) (iblk m c 7 t) (chunkBase (grid0.coords t))
    (k0_pay16 (iblk m c 1 t) (iblk m c 3 t) (iblk m c 5 t)) (k0_pay17 (iblk m c 2 t) (iblk m c 6 t) (iblk m c 8 t))
    (statesBefore m c t.val) i

/-- The forward states of a row within a chunk, from those before it. -/
theorem chunkStates_fwd (c : Dev nD) (t : Fin cfg0.N) (n : Fin 16)
    (ha : rowState (statesBefore m c t.val).1 (statesBefore m c t.val).2.1 n
      = states (fwdWeights m c) (rowInput m c n) (128 * (t.val / 2))) (i : ℕ) (hi : i ≤ 128) :
    rowState (chunkStates m c t i).1 (chunkStates m c t i).2.1 n
      = states (fwdWeights m c) (rowInput m c n) (128 * (t.val / 2) + i) :=
  chunk_fwd _ _ _ _ _ _ _ (holds_fwd m c t) _ _ _ _ _ (t.val / 2) n (rowInput m c n)
    (fun i => funext fun q => block1 m c t n i q) ha i hi

/-- The backward states of a row within a chunk, from those before it. -/
theorem chunkStates_bwd (c : Dev nD) (t : Fin cfg0.N) (n : Fin 16) (h0 : 0 < rowLength m c n)
    (ha : rowState (statesBefore m c t.val).2.2.1 (statesBefore m c t.val).2.2.2 n
      = backStates (bwdWeights m c) (rowInput m c n) (rowLength m c n) (128 * (t.val / 2))) (i : ℕ) (hi : i ≤ 128) :
    rowState (chunkStates m c t i).2.2.1 (chunkStates m c t i).2.2.2 n
      = backStates (bwdWeights m c) (rowInput m c n) (rowLength m c n) (128 * (t.val / 2) + i) := by
  have ht : t.val < 32 := t.isLt.trans_eq N_0
  exact chunk_bwd _ _ _ _ _ _ _ (holds_bwd m c t) _ _ _ _ _ (t.val / 2) (by omega) n (rowInput m c n) (rowLength m c n)
    (fun i => funext fun q => block2 m c t n i q) (fun j => congrArg BitVec.toInt (block0 m c t n j)) h0 (base_toInt t) ha i hi

/-- The states before a pair of points, from those before the pair before it. -/
theorem before_next (c : Dev nD) (k : ℕ) (hk : k < 16) :
    statesBefore m c (2 * (k + 1)) = chunkStates m c ⟨2 * k, Nat.lt_of_lt_of_eq (by omega) N_0.symm⟩ 128 := by
  have e1 := statesBefore_odd m c ⟨2 * k + 1, Nat.lt_of_lt_of_eq (by omega) N_0.symm⟩ (by show (2 * k + 1) % 2 = 1; omega)
  have e2 := statesBefore_even m c ⟨2 * k, Nat.lt_of_lt_of_eq (by omega) N_0.symm⟩ (by show (2 * k) % 2 = 0; omega)
  refine e1.trans (e2.trans ?_)
  unfold endAt chunkEnd
  rw [trips_eq]

/-- The states at first are zero. -/
theorem zeroStates_apply (n : Fin 16) :
    rowState (zeroStates (F := Ideal)).1 (zeroStates (F := Ideal)).2.1 n = start
      ∧ rowState (zeroStates (F := Ideal)).2.2.1 (zeroStates (F := Ideal)).2.2.2 n = start := by
  unfold zeroStates rowState start k0_pay12 k0_pay13 k0_pay14 k0_pay15
  simp only [pointwise, Ideal.ofBits_zero_f32]
  exact ⟨trivial, trivial⟩

/-- The forward states of a row before chunk `k`. -/
theorem before_fwd (c : Dev nD) (n : Fin 16) (k : ℕ) (hk : k ≤ 16) :
    rowState (statesBefore m c (2 * k)).1 (statesBefore m c (2 * k)).2.1 n
      = states (fwdWeights m c) (rowInput m c n) (128 * k) := by
  induction k with
  | zero => exact (zeroStates_apply n).1
  | succ k ih =>
    have hd : 2 * k / 2 = k := by omega
    have h := chunkStates_fwd m c ⟨2 * k, Nat.lt_of_lt_of_eq (by omega) N_0.symm⟩ n (by rw [hd]; exact ih (by omega)) 128 le_rfl
    rw [before_next m c k (by omega), h]
    show states _ _ (128 * (2 * k / 2) + 128) = _
    rw [hd]; rfl

/-- The backward states of a row of positive length before chunk `k`. -/
theorem before_bwd (c : Dev nD) (n : Fin 16) (h0 : 0 < rowLength m c n) (k : ℕ) (hk : k ≤ 16) :
    rowState (statesBefore m c (2 * k)).2.2.1 (statesBefore m c (2 * k)).2.2.2 n
      = backStates (bwdWeights m c) (rowInput m c n) (rowLength m c n) (128 * k) := by
  induction k with
  | zero => exact (zeroStates_apply n).2
  | succ k ih =>
    have hd : 2 * k / 2 = k := by omega
    have h := chunkStates_bwd m c ⟨2 * k, Nat.lt_of_lt_of_eq (by omega) N_0.symm⟩ n h0 (by rw [hd]; exact ih (by omega)) 128 le_rfl
    rw [before_next m c k (by omega), h]
    show backStates _ _ _ (128 * (2 * k / 2) + 128) = _
    rw [hd]; rfl

/-- The forward rows of the chunk at an even point. -/
theorem fwdAt_apply (c : Dev nD) (t : Fin cfg0.N) (he : t.val % 2 = 0) (p : Fin 128) (n : Fin 16) (j : Fin 256) :
    fwdAt m c t (ix3 p n j) = (states (fwdWeights m c) (rowInput m c n) (128 * (t.val / 2) + (p.val + 1))).1 j := by
  have ht : t.val < 32 := t.isLt.trans_eq N_0
  have hb := before_fwd m c n (t.val / 2) (by omega)
  rw [show 2 * (t.val / 2) = t.val by omega] at hb
  exact congrFun (congrArg Prod.fst (chunkStates_fwd m c t n hb (p.val + 1) (by omega))) j

/-- The backward rows of the chunk at an even point. -/
theorem bwdAt_apply (c : Dev nD) (t : Fin cfg0.N) (he : t.val % 2 = 0) (p : Fin 128) (n : Fin 16)
    (h0 : 0 < rowLength m c n) (j : Fin 256) :
    bwdAt m c t (ix3 p n j) = (backStates (bwdWeights m c) (rowInput m c n) (rowLength m c n)
      (128 * (t.val / 2) + (127 - p.val + 1))).1 j := by
  have ht : t.val < 32 := t.isLt.trans_eq N_0
  have hb := before_bwd m c n h0 (t.val / 2) (by omega)
  rw [show 2 * (t.val / 2) = t.val by omega] at hb
  exact congrFun (congrArg Prod.fst (chunkStates_bwd m c t n h0 hb (127 - p.val + 1) (by omega))) j

/-- The block an even point leaves. -/
theorem resultAt_even (c : Dev nD) (t : Fin cfg0.N) (he : t.val % 2 = 0) (n : Fin 16) (p : Fin 128) (j : Fin 256) :
    resultAt m c t (ix3 n p j)
      = forward (fwdWeights m c) (rowInput m c n) (rowLength m c n) (128 * (t.val / 2) + p.val) j := by
  unfold resultAt forward
  rw [if_pos he, out_fwd_apply, coord_eq, fwdAt_apply m c t he, block0]
  rfl

/-- The block an odd point leaves, when no length is above the number of positions. -/
theorem resultAt_odd (c : Dev nD) (hl : ∀ n, rowLength m c n ≤ 2048) (t : Fin cfg0.N) (ho : t.val % 2 = 1) (n : Fin 16)
    (p : Fin 128) (j : Fin 256) :
    resultAt m c t (ix3 n p j)
      = backward (bwdWeights m c) (rowInput m c n) (rowLength m c n) (128 * (15 - t.val / 2) + p.val) j := by
  have ht : t.val < 32 := t.isLt.trans_eq N_0
  have hd : (pairStart t).val / 2 = t.val / 2 := by show t.val / 2 * 2 / 2 = _; omega
  unfold resultAt
  rw [if_neg (by omega), out_bwd_apply, coord_eq, block0, ← backward_eq _ _ _ (hl n)]
  show (if _ < rowLength m c n then _ else _) = _
  by_cases h : ((128 * (15 - t.val / 2) + p.val : ℕ) : Int) < rowLength m c n
  · rw [if_pos h, if_pos h, bwdAt_apply m c (pairStart t) (by show t.val / 2 * 2 % 2 = 0; omega) p n (by omega), hd]
    rw [show 128 * (t.val / 2) + (127 - p.val + 1) = 2048 - (128 * (15 - t.val / 2) + p.val) by omega]
  · rw [if_neg h, if_neg h]

/-- The result, out of the arguments as launched. -/
abbrev wanted (c : Dev nD) : FVec Ideal S16x2048x512 .f32 :=
  resultOf (arg m c main_arg0) (arg m c main_arg1) (arg m c main_arg2) (arg m c main_arg3) (arg m c main_arg4)
    (arg m c main_arg5) (arg m c main_arg6) (arg m c main_arg7) (arg m c main_arg8) (arg m c main_arg9)

/-- The result at an index whose place is among the first 256. -/
theorem wanted_fwd (c : Dev nD) (i : S16x2048x512.Idx) (n : Fin 16) (p : ℕ) (j : Fin 256) (h0 : (i 0).val = n.val)
    (h1 : (i 1).val = p) (h2 : (i 2).val = j.val) :
    wanted m c i = forward (fwdWeights m c) (rowInput m c n) (rowLength m c n) p j := by
  obtain rfl : i 0 = n := Fin.ext h0
  subst h1
  exact (dif_pos (h2.trans_lt j.isLt)).trans (congrArg _ (Fin.ext h2))

/-- The result at an index whose place is among the last 256. -/
theorem wanted_bwd (c : Dev nD) (i : S16x2048x512.Idx) (n : Fin 16) (p : ℕ) (j : Fin 256) (h0 : (i 0).val = n.val)
    (h1 : (i 1).val = p) (h2 : (i 2).val = 256 + j.val) :
    wanted m c i = backward (bwdWeights m c) (rowInput m c n) (rowLength m c n) p j := by
  obtain rfl : i 0 = n := Fin.ext h0
  subst h1
  exact (dif_neg (by omega)).trans (congrArg _ (Fin.ext (by show (i 2).val - 256 = j.val; omega)))

/-- The result array after the last point. -/
theorem array_value (c : Dev nD) (hl : ∀ n, rowLength m c n ≤ 2048) : (dats m 0 c).arrAt 9 cfg0.N = wanted m c := by
  refine (dats m 0 c).arrAt_eq_of_covers 9 _ (by decide +kernel) fun t hf y => ?_
  have ht : t.val < 32 := t.isLt.trans_eq N_0
  have e0 : (((cfg0.win 9).blk t).view.emb y 0 : ℕ) = (y 0).val := by blk_simp [index9 t]
  have e1 : (((cfg0.win 9).blk t).view.emb y 1 : ℕ)
      = (if t.val % 2 = 0 then t.val / 2 else 15 - t.val / 2) * 128 + (y 1).val := by blk_simp [index9 t]
  have e2 : (((cfg0.win 9).blk t).view.emb y 2 : ℕ) = t.val % 2 * 256 + (y 2).val := by blk_simp [index9 t]
  have hy : y = (ix3 (y 0) (y 1) (y 2) : S16x128x256.Idx) := by
    funext a; match a with | ⟨0, _⟩ => rfl | ⟨1, _⟩ => rfl | ⟨2, _⟩ => rfl
  blk_simp
  rw [after_9]
  by_cases he : t.val % 2 = 0
  · rw [if_pos he] at e1
    rw [he] at e2
    refine (congrArg (resultAt m c t) hy).trans ((resultAt_even m c t he (y 0) (y 1) (y 2)).trans ?_)
    exact (wanted_fwd m c _ (y 0) _ (y 2) e0 (e1.trans (by omega)) (e2.trans (by omega))).symm
  · rw [if_neg he] at e1
    have ho : t.val % 2 = 1 := by omega
    rw [ho] at e2
    refine (congrArg (resultAt m c t) hy).trans ((resultAt_odd m c hl t ho (y 0) (y 1) (y 2)).trans ?_)
    exact (wanted_bwd m c _ (y 0) _ (y 2) e0 (e1.trans (by omega)) (e2.trans (by omega))).symm

variable (ρ : Dev nD → PrngReg)

/-- The run: the result array ends at the wanted one, where no length is above the number of positions. -/
theorem run_value (hl : ∀ c n, rowLength m c n ≤ 2048) : θ_run defs (onTc (τ := τ) (main (F := Ideal))) ⟨m, fun _ => 0, ρ⟩
    (fun r => ∀ c : Dev nD, r.2.mem ((c.tc : Thread nD τ).loc main_v44) = wanted m c) :=
  (θ_run defs _ _).mono (fun r h c => (Pipeline.FramePost.out_eq h c 9).trans (array_value m c (hl c))) (run_post m ρ)

end Cert.KernelIdeal.Lstm

end
-- ==== Proof.ReferenceIdeal.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

/-! # The reference's operations

The reference is two scans with stretches of operations around them. Each stretch is listed here, with what it writes. -/

@[expose] public section

set_option maxRecDepth 16384

noncomputable section

namespace Cert.ReferenceIdeal.Lstm

open Idealize.ShloMosaic Idealize.ShloMosaic.TcCoe
open Idealize.SL Idealize.SL.RA Idealize.SL.BI
open scoped Idealize.SL.BI
open Idealize.SL.BI.BIBase Idealize.SL.Sem
open Cert.ReferenceIdeal.Gen

variable {F : FTy → Type} [FloatOps F]

/-- The operations of @main before the first scan: the positions, the mask of the valid ones, the input with time first, the zero states. -/
abbrev opsStart : List (HloOp τ sig (Elt F)) :=
  [ StableHlo.nullary main_v0 (iotaInDim S2048 32 0),
    StableHlo.unary main_v0 main_v1 (broadcastInDim S1x2048 ![1] bcast_S2048_S1x2048_1 : (⟨S2048, .i32⟩ : BufTy).Contents (Elt F) → (⟨S1x2048, .i32⟩ : BufTy).Contents (Elt F)),
    StableHlo.unary main_arg1 main_v2 (broadcastInDim S16x1 ![0] bcast_S16_S16x1_0 : (⟨S16, .i32⟩ : BufTy).Contents (Elt F) → (⟨S16x1, .i32⟩ : BufTy).Contents (Elt F)),
    StableHlo.unary main_v1 main_v3 (broadcastInDim S16x2048 ![0, 1] bcast_S1x2048_S16x2048_0_1 : (⟨S1x2048, .i32⟩ : BufTy).Contents (Elt F) → (⟨S16x2048, .i32⟩ : BufTy).Contents (Elt F)),
    StableHlo.unary main_v2 main_v4 (broadcastInDim S16x2048 ![0, 1] bcast_S16x1_S16x2048_0_1 : (⟨S16x1, .i32⟩ : BufTy).Contents (Elt F) → (⟨S16x2048, .i32⟩ : BufTy).Contents (Elt F)),
    StableHlo.binary main_v3 main_v4 main_v5 (cmpi .slt : (⟨S16x2048, .i32⟩ : BufTy).Contents (Elt F) → (⟨S16x2048, .i32⟩ : BufTy).Contents (Elt F) → (⟨S16x2048, .i1⟩ : BufTy).Contents (Elt F)),
    StableHlo.unary main_v5 main_v6 (uitofp .f32 : (⟨S16x2048, .i1⟩ : BufTy).Contents (Elt F) → (⟨S16x2048, .f32⟩ : BufTy).Contents (Elt F)),
    StableHlo.unary main_arg0 main_v7 ((transpose S2048x16x256 [1, 0, 2] · transposes_S16x2048x256_S2048x16x256_1_0_2) : (⟨S16x2048x256, .f32⟩ : BufTy).Contents (Elt F) → (⟨S2048x16x256, .f32⟩ : BufTy).Contents (Elt F)),
    StableHlo.nullary main_cst (constant S_ .f32 0x00000000#32),
    StableHlo.unary main_cst main_v8 (broadcastInDim S16x256 ![] bcast_S_S16x256 : (⟨S_, .f32⟩ : BufTy).Contents (Elt F) → (⟨S16x256, .f32⟩ : BufTy).Contents (Elt F)),
    StableHlo.nullary main_cst_0 (constant S_ .f32 0x00000000#32),
    StableHlo.unary main_cst_0 main_v9 (broadcastInDim S16x256 ![] bcast_S_S16x256 : (⟨S_, .f32⟩ : BufTy).Contents (Elt F) → (⟨S16x256, .f32⟩ : BufTy).Contents (Elt F)),
    StableHlo.nullary main_cst_1 (constant S_ .f32 0x00000000#32),
    StableHlo.unary main_cst_1 main_v10 (broadcastInDim S2048x16x256 ![] bcast_S_S2048x16x256 : (⟨S_, .f32⟩ : BufTy).Contents (Elt F) → (⟨S2048x16x256, .f32⟩ : BufTy).Contents (Elt F)),
    StableHlo.nullary main_c (constantI S_ 32 0#32),
    StableHlo.unary main_v7 main_v11_0 id,
    StableHlo.unary main_arg2 main_v11_1 id,
    StableHlo.unary main_arg3 main_v11_2 id,
    StableHlo.unary main_arg4 main_v11_3 id,
    StableHlo.unary main_arg5 main_v11_4 id,
    StableHlo.unary main_c main_v11_5 id,
    StableHlo.unary main_v8 main_v11_6 id,
    StableHlo.unary main_v9 main_v11_7 id,
    StableHlo.unary main_v10 main_v11_8 id ]
/-- They touch the program's own buffers only. -/
theorem opsStart_sub : (opsStart : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- None of them allocates. -/
theorem opsStart_fresh : (opsStart : List (HloOp τ sig (Elt F))).Forall fun op => op.fresh = ∅ :=
  StableHlo.forall_fresh_of_map rfl
/-- The buffers they write. -/
abbrev opsStart_dst : List (Ref sig .tc) := [main_v0, main_v1, main_v2, main_v3, main_v4, main_v5, main_v6, main_v7, main_cst, main_v8, main_cst_0, main_v9, main_cst_1, main_v10, main_c, main_v11_0, main_v11_1, main_v11_2, main_v11_3, main_v11_4, main_v11_5, main_v11_6, main_v11_7, main_v11_8]
/-- They write no other buffer. -/
theorem opsStart_writes : (opsStart : List (HloOp τ sig (Elt F))).Forall fun op => op.writes ⊆ (opsStart_dst.map (Proc.devRef (τ := τ) .tc)).toFinset :=
  StableHlo.forall_writes_sub_of_map rfl

/-- The operations of @main after the first scan: its output with the batch first and masked, and the reversed positions. -/
abbrev opsMask : List (HloOp τ sig (Elt F)) :=
  [ StableHlo.unary main_v11_8 main_v12 ((transpose S16x2048x256 [1, 0, 2] · transposes_S2048x16x256_S16x2048x256_1_0_2) : (⟨S2048x16x256, .f32⟩ : BufTy).Contents (Elt F) → (⟨S16x2048x256, .f32⟩ : BufTy).Contents (Elt F)),
    StableHlo.unary main_v6 main_v13 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v13 main_v14 (broadcastInDim S16x2048x256 ![0, 1, 2] bcast_S16x2048x1_S16x2048x256_0_1_2 : (⟨S16x2048x1, .f32⟩ : BufTy).Contents (Elt F) → (⟨S16x2048x256, .f32⟩ : BufTy).Contents (Elt F)),
    StableHlo.binary main_v12 main_v14 main_v15 (mulf : (⟨S16x2048x256, .f32⟩ : BufTy).Contents (Elt F) → (⟨S16x2048x256, .f32⟩ : BufTy).Contents (Elt F) → (⟨S16x2048x256, .f32⟩ : BufTy).Contents (Elt F)),
    StableHlo.unary main_v0 main_v16 (broadcastInDim S1x2048 ![1] bcast_S2048_S1x2048_1 : (⟨S2048, .i32⟩ : BufTy).Contents (Elt F) → (⟨S1x2048, .i32⟩ : BufTy).Contents (Elt F)),
    StableHlo.unary main_arg1 main_v17 (broadcastInDim S16x1 ![0] bcast_S16_S16x1_0 : (⟨S16, .i32⟩ : BufTy).Contents (Elt F) → (⟨S16x1, .i32⟩ : BufTy).Contents (Elt F)),
    StableHlo.unary main_v16 main_v18 (broadcastInDim S16x2048 ![0, 1] bcast_S1x2048_S16x2048_0_1 : (⟨S1x2048, .i32⟩ : BufTy).Contents (Elt F) → (⟨S16x2048, .i32⟩ : BufTy).Contents (Elt F)),
    StableHlo.unary main_v17 main_v19 (broadcastInDim S16x2048 ![0, 1] bcast_S16x1_S16x2048_0_1 : (⟨S16x1, .i32⟩ : BufTy).Contents (Elt F) → (⟨S16x2048, .i32⟩ : BufTy).Contents (Elt F)),
    StableHlo.binary main_v18 main_v19 main_v20 (cmpi .slt : (⟨S16x2048, .i32⟩ : BufTy).Contents (Elt F) → (⟨S16x2048, .i32⟩ : BufTy).Contents (Elt F) → (⟨S16x2048, .i1⟩ : BufTy).Contents (Elt F)),
    StableHlo.unary main_arg1 main_v21 (broadcastInDim S16x1 ![0] bcast_S16_S16x1_0 : (⟨S16, .i32⟩ : BufTy).Contents (Elt F) → (⟨S16x1, .i32⟩ : BufTy).Contents (Elt F)),
    StableHlo.nullary main_c_2 (constantI S_ 32 1#32),
    StableHlo.unary main_c_2 main_v22 (broadcastInDim S16x1 ![] bcast_S_S16x1 : (⟨S_, .i32⟩ : BufTy).Contents (Elt F) → (⟨S16x1, .i32⟩ : BufTy).Contents (Elt F)),
    StableHlo.binary main_v21 main_v22 main_v23 (subi : (⟨S16x1, .i32⟩ : BufTy).Contents (Elt F) → (⟨S16x1, .i32⟩ : BufTy).Contents (Elt F) → (⟨S16x1, .i32⟩ : BufTy).Contents (Elt F)),
    StableHlo.unary main_v0 main_v24 (broadcastInDim S1x2048 ![1] bcast_S2048_S1x2048_1 : (⟨S2048, .i32⟩ : BufTy).Contents (Elt F) → (⟨S1x2048, .i32⟩ : BufTy).Contents (Elt F)),
    StableHlo.unary main_v23 main_v25 (broadcastInDim S16x2048 ![0, 1] bcast_S16x1_S16x2048_0_1 : (⟨S16x1, .i32⟩ : BufTy).Contents (Elt F) → (⟨S16x2048, .i32⟩ : BufTy).Contents (Elt F)),
    StableHlo.unary main_v24 main_v26 (broadcastInDim S16x2048 ![0, 1] bcast_S1x2048_S16x2048_0_1 : (⟨S1x2048, .i32⟩ : BufTy).Contents (Elt F) → (⟨S16x2048, .i32⟩ : BufTy).Contents (Elt F)),
    StableHlo.binary main_v25 main_v26 main_v27 (subi : (⟨S16x2048, .i32⟩ : BufTy).Contents (Elt F) → (⟨S16x2048, .i32⟩ : BufTy).Contents (Elt F) → (⟨S16x2048, .i32⟩ : BufTy).Contents (Elt F)),
    StableHlo.nullary main_c_3 (constantI S_ 32 0#32) ]
/-- They touch the program's own buffers only. -/
theorem opsMask_sub : (opsMask : List (HloOp τ sig (Elt F))).Forall fun op => op.bufs ⊆ StableHlo.tcRefs τ sig :=
  ⟨StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub ..⟩
/-- None of them allocates. -/
theorem opsMask_fresh : (opsMask : List (HloOp τ sig (Elt F))).Forall fun op => op.fresh = ∅ :=
  StableHlo.forall_fresh_of_map rfl
/-- The buffers they write. -/
abbrev opsMask_dst : List (Ref sig .tc) := [main_v12, main_v13, main_v14, main_v15, main_v16, main_v17, main_v18, main_v19, main_v20, main_v21, main_c_2, main_v22, main_v23, main_v24, main_v25, main_v26, main_v27, main_c_3]
/-- They write no other buffer. -/
theorem opsMask_writes : (opsMask : List (HloOp τ sig (Elt F))).Forall fun op => op.writes ⊆ (opsMask_dst.map (Proc.devRef (τ := τ) .tc)).toFinset :=
  StableHlo.forall_writes_sub_of_map rfl

/-- The operations of the choice of the reversed position where the position is valid and of zero elsewhere. -/
abbrev opsWhere : List (HloOp τ sig (Elt F)) :=
  [ StableHlo.TRef.unary (.of main_c_3 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S16x2048, .i32⟩) (broadcastInDim S16x2048 ![] bcast_S_S16x2048),
    StableHlo.TRef.ternary (.of main_v20 : StableHlo.TRef sig ⟨S16x2048, .i1⟩) (.of main_v27 : StableHlo.TRef sig ⟨S16x2048, .i32⟩) (.of main_call2_v1 : StableHlo.TRef sig ⟨S16x2048, .i32⟩) (.of main_v28 : StableHlo.TRef sig ⟨S16x2048, .i32⟩) select ]
/-- They touch the program's own buffers only. -/
theorem opsWhere_sub : (opsWhere : List (HloOp τ sig (Elt F))).Forall fun op => op.bufs ⊆ StableHlo.tcRefs τ sig :=
  ⟨StableHlo.unary_bufs_sub .., StableHlo.unary_bufs_sub .., StableHlo.ternary_bufs_sub ..⟩
/-- None of them allocates. -/
theorem opsWhere_fresh : (opsWhere : List (HloOp τ sig (Elt F))).Forall fun op => op.fresh = ∅ :=
  StableHlo.forall_fresh_of_map rfl
/-- The buffers they write. -/
abbrev opsWhere_dst : List (Ref sig .tc) := [main_call2_v0, main_call2_v1, main_v28]
/-- They write no other buffer. -/
theorem opsWhere_writes : (opsWhere : List (HloOp τ sig (Elt F))).Forall fun op => op.writes ⊆ (opsWhere_dst.map (Proc.devRef (τ := τ) .tc)).toFinset :=
  StableHlo.forall_writes_sub_of_map rfl

/-- The operations of @main that spread the reversed positions over the features. -/
abbrev opsSpread : List (HloOp τ sig (Elt F)) :=
  [ StableHlo.unary main_v28 main_v29 (broadcastInDim S16x2048x1 ![0, 1] bcast_S16x2048_S16x2048x1_0_1 : (⟨S16x2048, .i32⟩ : BufTy).Contents (Elt F) → (⟨S16x2048x1, .i32⟩ : BufTy).Contents (Elt F)),
    StableHlo.unary main_v29 main_v30 (broadcastInDim S16x2048x256 ![0, 1, 2] bcast_S16x2048x1_S16x2048x256_0_1_2 : (⟨S16x2048x1, .i32⟩ : BufTy).Contents (Elt F) → (⟨S16x2048x256, .i32⟩ : BufTy).Contents (Elt F)) ]
/-- They touch the program's own buffers only. -/
theorem opsSpread_sub : (opsSpread : List (HloOp τ sig (Elt F))).Forall fun op => op.bufs ⊆ StableHlo.tcRefs τ sig :=
  ⟨StableHlo.unary_bufs_sub .., StableHlo.unary_bufs_sub ..⟩
/-- None of them allocates. -/
theorem opsSpread_fresh : (opsSpread : List (HloOp τ sig (Elt F))).Forall fun op => op.fresh = ∅ :=
  StableHlo.forall_fresh_of_map rfl
/-- The buffers they write. -/
abbrev opsSpread_dst : List (Ref sig .tc) := [main_v29, main_v30]
/-- They write no other buffer. -/
theorem opsSpread_writes : (opsSpread : List (HloOp τ sig (Elt F))).Forall fun op => op.writes ⊆ (opsSpread_dst.map (Proc.devRef (τ := τ) .tc)).toFinset :=
  StableHlo.forall_writes_sub_of_map rfl

/-- The operations of the gather of the input at the reversed positions. -/
abbrev opsTake : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S16x2048x256, .i32⟩) (broadcastInDim S16x2048x256 ![] bcast_S_S16x2048x256),
    StableHlo.TRef.binary (.of main_v30 : StableHlo.TRef sig ⟨S16x2048x256, .i32⟩) (.of main_call3_v0 : StableHlo.TRef sig ⟨S16x2048x256, .i32⟩) (.of main_call3_v1 : StableHlo.TRef sig ⟨S16x2048x256, .i1⟩) (cmpi .slt),
    StableHlo.TRef.nullary (.of main_call3_c_0 : StableHlo.TRef sig ⟨S_, .i32⟩) (constantI S_ 32 2048#32),
    StableHlo.TRef.unary (.of main_call3_c_0 : StableHlo.TRef sig ⟨S_, .i32⟩) (.of main_call3_v2 : StableHlo.TRef sig ⟨S16x2048x256, .i32⟩) (broadcastInDim S16x2048x256 ![] bcast_S_S16x2048x256),
    StableHlo.TRef.binary (.of main_v30 : StableHlo.TRef sig ⟨S16x2048x256, .i32⟩) (.of main_call3_v2 : StableHlo.TRef sig ⟨S16x2048x256, .i32⟩) (.of main_call3_v3 : StableHlo.TRef sig ⟨S16x2048x256, .i32⟩) addi,
    StableHlo.TRef.ternary (.of main_call3_v1 : StableHlo.TRef sig ⟨S16x2048x256, .i1⟩) (.of main_call3_v3 : StableHlo.TRef sig ⟨S16x2048x256, .i32⟩) (.of main_v30 : StableHlo.TRef sig ⟨S16x2048x256, .i32⟩) (.of main_call3_v4 : StableHlo.TRef sig ⟨S16x2048x256, .i32⟩) select,
    StableHlo.TRef.reshape (.of main_call3_v4 : StableHlo.TRef sig ⟨S16x2048x256, .i32⟩) (.of main_call3_v5 : StableHlo.TRef sig ⟨S16x2048x256x1, .i32⟩) (rfl : (.i32 : EltTy) = .i32) shapeCasts_S16x2048x256_S16x2048x256x1,
    StableHlo.TRef.nullary (.of main_call3_c_1 : StableHlo.TRef sig ⟨S1, .i32⟩) (constantI S1 32 2047#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S16x2048x256x1, .i32⟩) (broadcastInDim S16x2048x256x1 ![] bcast_S_S16x2048x256x1),
    StableHlo.TRef.binary (.of main_call3_v5 : StableHlo.TRef sig ⟨S16x2048x256x1, .i32⟩) (.of main_call3_v6 : StableHlo.TRef sig ⟨S16x2048x256x1, .i32⟩) (.of main_call3_v7 : StableHlo.TRef sig ⟨S16x2048x256x1, .i1⟩) (cmpi .sge),
    StableHlo.TRef.unary (.of main_call3_c_1 : StableHlo.TRef sig ⟨S1, .i32⟩) (.of main_call3_v8 : StableHlo.TRef sig ⟨S1x1x1x1, .i32⟩) (broadcastInDim S1x1x1x1 ![3] bcast_S1_S1x1x1x1_3),
    StableHlo.TRef.unary (.of main_call3_v8 : StableHlo.TRef sig ⟨S1x1x1x1, .i32⟩) (.of main_call3_v9 : StableHlo.TRef sig ⟨S16x2048x256x1, .i32⟩) (broadcastInDim S16x2048x256x1 ![0, 1, 2, 3] bcast_S1x1x1x1_S16x2048x256x1_0_1_2_3),
    StableHlo.TRef.binary (.of main_call3_v5 : StableHlo.TRef sig ⟨S16x2048x256x1, .i32⟩) (.of main_call3_v9 : StableHlo.TRef sig ⟨S16x2048x256x1, .i32⟩) (.of main_call3_v10 : StableHlo.TRef sig ⟨S16x2048x256x1, .i1⟩) (cmpi .sle),
    StableHlo.TRef.binary (.of main_call3_v7 : StableHlo.TRef sig ⟨S16x2048x256x1, .i1⟩) (.of main_call3_v10 : StableHlo.TRef sig ⟨S16x2048x256x1, .i1⟩) (.of main_call3_v11 : StableHlo.TRef sig ⟨S16x2048x256x1, .i1⟩) andi,
    StableHlo.TRef.nullary (.of main_call3_c_3 : StableHlo.TRef sig ⟨S_, .i1⟩) (constantI S_ 1 1#1),
    StableHlo.TRef.binary (.of main_call3_v11 : StableHlo.TRef sig ⟨S16x2048x256x1, .i1⟩) (.of main_call3_c_3 : StableHlo.TRef sig ⟨S_, .i1⟩) (.of main_call3_v12 : StableHlo.TRef sig ⟨S16x2048x256, .i1⟩) (fun x v => Host.reduce IntOp.andi x v reducesTo_S16x2048x256x1_S16x2048x256_d3 h_S_),
    StableHlo.TRef.binary (.of main_arg0 : StableHlo.TRef sig ⟨S16x2048x256, .f32⟩) (.of main_call3_v5 : StableHlo.TRef sig ⟨S16x2048x256x1, .i32⟩) (.of main_call3_v13 : StableHlo.TRef sig ⟨S16x2048x256, .f32⟩) (fun x i => Host.gather gather_S16x2048x256_S16x2048x256x1_S16x2048x256_n_1_02_02_1_3_111 x i),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v14 : StableHlo.TRef sig ⟨S16x2048x256, .f32⟩) (broadcastInDim S16x2048x256 ![] bcast_S_S16x2048x256),
    StableHlo.TRef.ternary (.of main_call3_v12 : StableHlo.TRef sig ⟨S16x2048x256, .i1⟩) (.of main_call3_v13 : StableHlo.TRef sig ⟨S16x2048x256, .f32⟩) (.of main_call3_v14 : StableHlo.TRef sig ⟨S16x2048x256, .f32⟩) (.of main_v31 : StableHlo.TRef sig ⟨S16x2048x256, .f32⟩) select ]
/-- They touch the program's own buffers only. -/
theorem opsTake_sub : (opsTake : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- None of them allocates. -/
theorem opsTake_fresh : (opsTake : List (HloOp τ sig (Elt F))).Forall fun op => op.fresh = ∅ :=
  StableHlo.forall_fresh_of_map rfl
/-- The buffers they write. -/
abbrev opsTake_dst : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v31]
/-- They write no other buffer. -/
theorem opsTake_writes : (opsTake : List (HloOp τ sig (Elt F))).Forall fun op => op.writes ⊆ (opsTake_dst.map (Proc.devRef (τ := τ) .tc)).toFinset :=
  StableHlo.forall_writes_sub_of_map rfl

/-- The operations of @main that put the reversed input's time first and fill the second scan's first buffers. -/
abbrev opsBack : List (HloOp τ sig (Elt F)) :=
  [ StableHlo.unary main_v31 main_v32 ((transpose S2048x16x256 [1, 0, 2] · transposes_S16x2048x256_S2048x16x256_1_0_2) : (⟨S16x2048x256, .f32⟩ : BufTy).Contents (Elt F) → (⟨S2048x16x256, .f32⟩ : BufTy).Contents (Elt F)),
    StableHlo.nullary main_cst_4 (constant S_ .f32 0x00000000#32),
    StableHlo.unary main_cst_4 main_v33 (broadcastInDim S16x256 ![] bcast_S_S16x256 : (⟨S_, .f32⟩ : BufTy).Contents (Elt F) → (⟨S16x256, .f32⟩ : BufTy).Contents (Elt F)),
    StableHlo.nullary main_cst_5 (constant S_ .f32 0x00000000#32),
    StableHlo.unary main_cst_5 main_v34 (broadcastInDim S16x256 ![] bcast_S_S16x256 : (⟨S_, .f32⟩ : BufTy).Contents (Elt F) → (⟨S16x256, .f32⟩ : BufTy).Contents (Elt F)),
    StableHlo.nullary main_cst_6 (constant S_ .f32 0x00000000#32),
    StableHlo.unary main_cst_6 main_v35 (broadcastInDim S2048x16x256 ![] bcast_S_S2048x16x256 : (⟨S_, .f32⟩ : BufTy).Contents (Elt F) → (⟨S2048x16x256, .f32⟩ : BufTy).Contents (Elt F)),
    StableHlo.nullary main_c_7 (constantI S_ 32 0#32),
    StableHlo.unary main_v32 main_v36_0 id,
    StableHlo.unary main_arg6 main_v36_1 id,
    StableHlo.unary main_arg7 main_v36_2 id,
    StableHlo.unary main_arg8 main_v36_3 id,
    StableHlo.unary main_arg9 main_v36_4 id ]
/-- They touch the program's own buffers only. -/
theorem opsBack_sub : (opsBack : List (HloOp τ sig (Elt F))).Forall fun op => op.bufs ⊆ StableHlo.tcRefs τ sig :=
  ⟨StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩
/-- None of them allocates. -/
theorem opsBack_fresh : (opsBack : List (HloOp τ sig (Elt F))).Forall fun op => op.fresh = ∅ :=
  StableHlo.forall_fresh_of_map rfl
/-- The buffers they write. -/
abbrev opsBack_dst : List (Ref sig .tc) := [main_v32, main_cst_4, main_v33, main_cst_5, main_v34, main_cst_6, main_v35, main_c_7, main_v36_0, main_v36_1, main_v36_2, main_v36_3, main_v36_4]
/-- They write no other buffer. -/
theorem opsBack_writes : (opsBack : List (HloOp τ sig (Elt F))).Forall fun op => op.writes ⊆ (opsBack_dst.map (Proc.devRef (τ := τ) .tc)).toFinset :=
  StableHlo.forall_writes_sub_of_map rfl

/-- The operations of @main that fill the second scan's counter, states and output. -/
abbrev opsCarry : List (HloOp τ sig (Elt F)) :=
  [ StableHlo.unary main_c_7 main_v36_5 id,
    StableHlo.unary main_v33 main_v36_6 id,
    StableHlo.unary main_v34 main_v36_7 id,
    StableHlo.unary main_v35 main_v36_8 id ]
/-- They touch the program's own buffers only. -/
theorem opsCarry_sub : (opsCarry : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
/-- None of them allocates. -/
theorem opsCarry_fresh : (opsCarry : List (HloOp τ sig (Elt F))).Forall fun op => op.fresh = ∅ :=
  StableHlo.forall_fresh_of_map rfl
/-- The buffers they write. -/
abbrev opsCarry_dst : List (Ref sig .tc) := [main_v36_5, main_v36_6, main_v36_7, main_v36_8]
/-- They write no other buffer. -/
theorem opsCarry_writes : (opsCarry : List (HloOp τ sig (Elt F))).Forall fun op => op.writes ⊆ (opsCarry_dst.map (Proc.devRef (τ := τ) .tc)).toFinset :=
  StableHlo.forall_writes_sub_of_map rfl

/-- The operations of @main after the second scan: its output with the batch first, and the reversed positions spread. -/
abbrev opsUnwind : List (HloOp τ sig (Elt F)) :=
  [ StableHlo.unary main_v36_8 main_v37 ((transpose S16x2048x256 [1, 0, 2] · transposes_S2048x16x256_S16x2048x256_1_0_2) : (⟨S2048x16x256, .f32⟩ : BufTy).Contents (Elt F) → (⟨S16x2048x256, .f32⟩ : BufTy).Contents (Elt F)),
    StableHlo.unary main_v28 main_v38 (broadcastInDim S16x2048x1 ![0, 1] bcast_S16x2048_S16x2048x1_0_1 : (⟨S16x2048, .i32⟩ : BufTy).Contents (Elt F) → (⟨S16x2048x1, .i32⟩ : BufTy).Contents (Elt F)),
    StableHlo.unary main_v38 main_v39 (broadcastInDim S16x2048x256 ![0, 1, 2] bcast_S16x2048x1_S16x2048x256_0_1_2 : (⟨S16x2048x1, .i32⟩ : BufTy).Contents (Elt F) → (⟨S16x2048x256, .i32⟩ : BufTy).Contents (Elt F)) ]
/-- They touch the program's own buffers only. -/
theorem opsUnwind_sub : (opsUnwind : List (HloOp τ sig (Elt F))).Forall fun op => op.bufs ⊆ StableHlo.tcRefs τ sig :=
  ⟨StableHlo.unary_bufs_sub .., StableHlo.unary_bufs_sub .., StableHlo.unary_bufs_sub ..⟩
/-- None of them allocates. -/
theorem opsUnwind_fresh : (opsUnwind : List (HloOp τ sig (Elt F))).Forall fun op => op.fresh = ∅ :=
  StableHlo.forall_fresh_of_map rfl
/-- The buffers they write. -/
abbrev opsUnwind_dst : List (Ref sig .tc) := [main_v37, main_v38, main_v39]
/-- They write no other buffer. -/
theorem opsUnwind_writes : (opsUnwind : List (HloOp τ sig (Elt F))).Forall fun op => op.writes ⊆ (opsUnwind_dst.map (Proc.devRef (τ := τ) .tc)).toFinset :=
  StableHlo.forall_writes_sub_of_map rfl

/-- The operations of the gather of the second scan's output at the reversed positions. -/
abbrev opsTakeBack : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S16x2048x256, .i32⟩) (broadcastInDim S16x2048x256 ![] bcast_S_S16x2048x256),
    StableHlo.TRef.binary (.of main_v39 : StableHlo.TRef sig ⟨S16x2048x256, .i32⟩) (.of main_call6_v0 : StableHlo.TRef sig ⟨S16x2048x256, .i32⟩) (.of main_call6_v1 : StableHlo.TRef sig ⟨S16x2048x256, .i1⟩) (cmpi .slt),
    StableHlo.TRef.nullary (.of main_call6_c_0 : StableHlo.TRef sig ⟨S_, .i32⟩) (constantI S_ 32 2048#32),
    StableHlo.TRef.unary (.of main_call6_c_0 : StableHlo.TRef sig ⟨S_, .i32⟩) (.of main_call6_v2 : StableHlo.TRef sig ⟨S16x2048x256, .i32⟩) (broadcastInDim S16x2048x256 ![] bcast_S_S16x2048x256),
    StableHlo.TRef.binary (.of main_v39 : StableHlo.TRef sig ⟨S16x2048x256, .i32⟩) (.of main_call6_v2 : StableHlo.TRef sig ⟨S16x2048x256, .i32⟩) (.of main_call6_v3 : StableHlo.TRef sig ⟨S16x2048x256, .i32⟩) addi,
    StableHlo.TRef.ternary (.of main_call6_v1 : StableHlo.TRef sig ⟨S16x2048x256, .i1⟩) (.of main_call6_v3 : StableHlo.TRef sig ⟨S16x2048x256, .i32⟩) (.of main_v39 : StableHlo.TRef sig ⟨S16x2048x256, .i32⟩) (.of main_call6_v4 : StableHlo.TRef sig ⟨S16x2048x256, .i32⟩) select,
    StableHlo.TRef.reshape (.of main_call6_v4 : StableHlo.TRef sig ⟨S16x2048x256, .i32⟩) (.of main_call6_v5 : StableHlo.TRef sig ⟨S16x2048x256x1, .i32⟩) (rfl : (.i32 : EltTy) = .i32) shapeCasts_S16x2048x256_S16x2048x256x1,
    StableHlo.TRef.nullary (.of main_call6_c_1 : StableHlo.TRef sig ⟨S1, .i32⟩) (constantI S1 32 2047#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S16x2048x256x1, .i32⟩) (broadcastInDim S16x2048x256x1 ![] bcast_S_S16x2048x256x1),
    StableHlo.TRef.binary (.of main_call6_v5 : StableHlo.TRef sig ⟨S16x2048x256x1, .i32⟩) (.of main_call6_v6 : StableHlo.TRef sig ⟨S16x2048x256x1, .i32⟩) (.of main_call6_v7 : StableHlo.TRef sig ⟨S16x2048x256x1, .i1⟩) (cmpi .sge),
    StableHlo.TRef.unary (.of main_call6_c_1 : StableHlo.TRef sig ⟨S1, .i32⟩) (.of main_call6_v8 : StableHlo.TRef sig ⟨S1x1x1x1, .i32⟩) (broadcastInDim S1x1x1x1 ![3] bcast_S1_S1x1x1x1_3),
    StableHlo.TRef.unary (.of main_call6_v8 : StableHlo.TRef sig ⟨S1x1x1x1, .i32⟩) (.of main_call6_v9 : StableHlo.TRef sig ⟨S16x2048x256x1, .i32⟩) (broadcastInDim S16x2048x256x1 ![0, 1, 2, 3] bcast_S1x1x1x1_S16x2048x256x1_0_1_2_3),
    StableHlo.TRef.binary (.of main_call6_v5 : StableHlo.TRef sig ⟨S16x2048x256x1, .i32⟩) (.of main_call6_v9 : StableHlo.TRef sig ⟨S16x2048x256x1, .i32⟩) (.of main_call6_v10 : StableHlo.TRef sig ⟨S16x2048x256x1, .i1⟩) (cmpi .sle),
    StableHlo.TRef.binary (.of main_call6_v7 : StableHlo.TRef sig ⟨S16x2048x256x1, .i1⟩) (.of main_call6_v10 : StableHlo.TRef sig ⟨S16x2048x256x1, .i1⟩) (.of main_call6_v11 : StableHlo.TRef sig ⟨S16x2048x256x1, .i1⟩) andi,
    StableHlo.TRef.nullary (.of main_call6_c_3 : StableHlo.TRef sig ⟨S_, .i1⟩) (constantI S_ 1 1#1),
    StableHlo.TRef.binary (.of main_call6_v11 : StableHlo.TRef sig ⟨S16x2048x256x1, .i1⟩) (.of main_call6_c_3 : StableHlo.TRef sig ⟨S_, .i1⟩) (.of main_call6_v12 : StableHlo.TRef sig ⟨S16x2048x256, .i1⟩) (fun x v => Host.reduce IntOp.andi x v reducesTo_S16x2048x256x1_S16x2048x256_d3 h_S_),
    StableHlo.TRef.binary (.of main_v37 : StableHlo.TRef sig ⟨S16x2048x256, .f32⟩) (.of main_call6_v5 : StableHlo.TRef sig ⟨S16x2048x256x1, .i32⟩) (.of main_call6_v13 : StableHlo.TRef sig ⟨S16x2048x256, .f32⟩) (fun x i => Host.gather gather_S16x2048x256_S16x2048x256x1_S16x2048x256_n_1_02_02_1_3_111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S16x2048x256, .f32⟩) (broadcastInDim S16x2048x256 ![] bcast_S_S16x2048x256),
    StableHlo.TRef.ternary (.of main_call6_v12 : StableHlo.TRef sig ⟨S16x2048x256, .i1⟩) (.of main_call6_v13 : StableHlo.TRef sig ⟨S16x2048x256, .f32⟩) (.of main_call6_v14 : StableHlo.TRef sig ⟨S16x2048x256, .f32⟩) (.of main_v40 : StableHlo.TRef sig ⟨S16x2048x256, .f32⟩) select ]
/-- They touch the program's own buffers only. -/
theorem opsTakeBack_sub : (opsTakeBack : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- None of them allocates. -/
theorem opsTakeBack_fresh : (opsTakeBack : List (HloOp τ sig (Elt F))).Forall fun op => op.fresh = ∅ :=
  StableHlo.forall_fresh_of_map rfl
/-- The buffers they write. -/
abbrev opsTakeBack_dst : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v40]
/-- They write no other buffer. -/
theorem opsTakeBack_writes : (opsTakeBack : List (HloOp τ sig (Elt F))).Forall fun op => op.writes ⊆ (opsTakeBack_dst.map (Proc.devRef (τ := τ) .tc)).toFinset :=
  StableHlo.forall_writes_sub_of_map rfl

/-- The operations of @main that mask the backward output and join the two directions. -/
abbrev opsJoin : List (HloOp τ sig (Elt F)) :=
  [ StableHlo.unary main_v6 main_v41 (broadcastInDim S16x2048x1 ![0, 1] bcast_S16x2048_S16x2048x1_0_1 : (⟨S16x2048, .f32⟩ : BufTy).Contents (Elt F) → (⟨S16x2048x1, .f32⟩ : BufTy).Contents (Elt F)),
    StableHlo.unary main_v41 main_v42 (broadcastInDim S16x2048x256 ![0, 1, 2] bcast_S16x2048x1_S16x2048x256_0_1_2 : (⟨S16x2048x1, .f32⟩ : BufTy).Contents (Elt F) → (⟨S16x2048x256, .f32⟩ : BufTy).Contents (Elt F)),
    StableHlo.binary main_v40 main_v42 main_v43 (mulf : (⟨S16x2048x256, .f32⟩ : BufTy).Contents (Elt F) → (⟨S16x2048x256, .f32⟩ : BufTy).Contents (Elt F) → (⟨S16x2048x256, .f32⟩ : BufTy).Contents (Elt F)),
    StableHlo.binary main_v15 main_v43 main_v44 ((fun a b => concatenate S16x2048x512 2 [⟨S16x2048x256, a⟩, ⟨S16x2048x256, b⟩] concatenates_S16x2048x256_S16x2048x256_S16x2048x512_d2) : (⟨S16x2048x256, .f32⟩ : BufTy).Contents (Elt F) → (⟨S16x2048x256, .f32⟩ : BufTy).Contents (Elt F) → (⟨S16x2048x512, .f32⟩ : BufTy).Contents (Elt F)) ]
/-- They touch the program's own buffers only. -/
theorem opsJoin_sub : (opsJoin : List (HloOp τ sig (Elt F))).Forall fun op => op.bufs ⊆ StableHlo.tcRefs τ sig :=
  ⟨StableHlo.unary_bufs_sub .., StableHlo.unary_bufs_sub .., StableHlo.binary_bufs_sub .., StableHlo.binary_bufs_sub ..⟩
/-- None of them allocates. -/
theorem opsJoin_fresh : (opsJoin : List (HloOp τ sig (Elt F))).Forall fun op => op.fresh = ∅ :=
  StableHlo.forall_fresh_of_map rfl
/-- The buffers they write. -/
abbrev opsJoin_dst : List (Ref sig .tc) := [main_v41, main_v42, main_v43, main_v44]
/-- They write no other buffer. -/
theorem opsJoin_writes : (opsJoin : List (HloOp τ sig (Elt F))).Forall fun op => op.writes ⊆ (opsJoin_dst.map (Proc.devRef (τ := τ) .tc)).toFinset :=
  StableHlo.forall_writes_sub_of_map rfl

/-- The first part of @main, item by item. -/
theorem part0_items (c : Dev nD) : main_part0 (F := F) c = (Pipeline.chainK
  [ StableHlo.seq opsStart, HostLoop.enter 0, StableHlo.seq opsMask, StableHlo.seq opsWhere, StableHlo.seq opsSpread, StableHlo.seq opsTake ]
  (StableHlo.seq opsBack) : Prog (TpuEff nD τ sig (Elt F) (HostLoop.Sig (Pipeline.Sig Λ₀ (Fin 0) fun p => (pcfgs (F := F) p).Adm) 2) .tc) PUnit) := by
  rewrite [StableHlo.chainK_seq_cons, Pipeline.chainK_cons, StableHlo.chainK_seq_cons, Pipeline.chainK_cons, StableHlo.chainK_seq_cons, Pipeline.chainK_cons]
  chain_rfl

/-- The second part of @main, item by item. -/
theorem part1_items (c : Dev nD) : main_part1 (F := F) c = (Pipeline.chain
  [ StableHlo.seq opsCarry, HostLoop.enter 1, StableHlo.seq opsUnwind, StableHlo.seq opsTakeBack, StableHlo.seq opsJoin ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- @main, item by item: a scan stands between two runs of stretches, and another after the second. -/
theorem main_items (c : Dev nD) : main (F := F) c = (Pipeline.chain
  [ StableHlo.seq opsStart, HostLoop.enter 0, StableHlo.seq opsMask, StableHlo.seq opsWhere, StableHlo.seq opsSpread, StableHlo.seq opsTake,
    StableHlo.seq opsBack, StableHlo.seq opsCarry, HostLoop.enter 1, StableHlo.seq opsUnwind, StableHlo.seq opsTakeBack, StableHlo.seq opsJoin ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_items, part0_items, Pipeline.chainK_bind_chain]
  chain_rfl

/-- The operations of the first scan's step that read the step's input. -/
abbrev fwdRead : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v11_0 : StableHlo.TRef sig ⟨S2048x16x256, .f32⟩) ![(.of main_v11_5 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x16x256, .f32⟩) (fun x i => Host.dynamicSlice S1x16x256 x (fun k => (i k (Shape.Idx.first h_S_)).toInt) sliceFits_S2048x16x256_S1x16x256),
    StableHlo.TRef.reshape (.of main_while0b_call0_v0 : StableHlo.TRef sig ⟨S1x16x256, .f32⟩) (.of main_while0b_v45 : StableHlo.TRef sig ⟨S16x256, .f32⟩) (rfl : (.f32 : EltTy) = .f32) shapeCasts_S1x16x256_S16x256 ]
/-- They touch the program's own buffers only. -/
theorem fwdRead_sub : (fwdRead : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- None of them allocates. -/
theorem fwdRead_fresh : (fwdRead : List (HloOp τ sig (Elt F))).Forall fun op => op.fresh = ∅ :=
  StableHlo.forall_fresh_of_map rfl
/-- The buffers they write. -/
abbrev fwdRead_dst : List (Ref sig .tc) := [main_while0b_call0_c, main_while0b_call0_c_0, main_while0b_call0_v0, main_while0b_v45]
/-- They write no other buffer. -/
theorem fwdRead_writes : (fwdRead : List (HloOp τ sig (Elt F))).Forall fun op => op.writes ⊆ (fwdRead_dst.map (Proc.devRef (τ := τ) .tc)).toFinset :=
  StableHlo.forall_writes_sub_of_map rfl

/-- The operations of the first scan's step that form the gates. -/
abbrev fwdGates : List (HloOp τ sig (Elt F)) :=
  [ StableHlo.unary main_v11_1 main_while0b_v46 ((transpose S256x1024 [1, 0] · transposes_S1024x256_S256x1024_1_0) : (⟨S1024x256, .f32⟩ : BufTy).Contents (Elt F) → (⟨S256x1024, .f32⟩ : BufTy).Contents (Elt F)),
    StableHlo.binary main_while0b_v45 main_while0b_v46 main_while0b_v47 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.unary main_v11_2 main_while0b_v48 ((transpose S256x1024 [1, 0] · transposes_S1024x256_S256x1024_1_0) : (⟨S1024x256, .f32⟩ : BufTy).Contents (Elt F) → (⟨S256x1024, .f32⟩ : BufTy).Contents (Elt F)),
    StableHlo.binary main_v11_6 main_while0b_v48 main_while0b_v49 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_while0b_v47 main_while0b_v49 main_while0b_v50 (addf : (⟨S16x1024, .f32⟩ : BufTy).Contents (Elt F) → (⟨S16x1024, .f32⟩ : BufTy).Contents (Elt F) → (⟨S16x1024, .f32⟩ : BufTy).Contents (Elt F)),
    StableHlo.unary main_v11_3 main_while0b_v51 (broadcastInDim S1x1024 ![1] bcast_S1024_S1x1024_1 : (⟨S1024, .f32⟩ : BufTy).Contents (Elt F) → (⟨S1x1024, .f32⟩ : BufTy).Contents (Elt F)),
    StableHlo.unary main_while0b_v51 main_while0b_v52 (broadcastInDim S16x1024 ![0, 1] bcast_S1x1024_S16x1024_0_1 : (⟨S1x1024, .f32⟩ : BufTy).Contents (Elt F) → (⟨S16x1024, .f32⟩ : BufTy).Contents (Elt F)),
    StableHlo.binary main_while0b_v50 main_while0b_v52 main_while0b_v53 (addf : (⟨S16x1024, .f32⟩ : BufTy).Contents (Elt F) → (⟨S16x1024, .f32⟩ : BufTy).Contents (Elt F) → (⟨S16x1024, .f32⟩ : BufTy).Contents (Elt F)),
    StableHlo.unary main_v11_4 main_while0b_v54 (broadcastInDim S1x1024 ![1] bcast_S1024_S1x1024_1 : (⟨S1024, .f32⟩ : BufTy).Contents (Elt F) → (⟨S1x1024, .f32⟩ : BufTy).Contents (Elt F)),
    StableHlo.unary main_while0b_v54 main_while0b_v55 (broadcastInDim S16x1024 ![0, 1] bcast_S1x1024_S16x1024_0_1 : (⟨S1x1024, .f32⟩ : BufTy).Contents (Elt F) → (⟨S16x1024, .f32⟩ : BufTy).Contents (Elt F)),
    StableHlo.binary main_while0b_v53 main_while0b_v55 main_while0b_v56 (addf : (⟨S16x1024, .f32⟩ : BufTy).Contents (Elt F) → (⟨S16x1024, .f32⟩ : BufTy).Contents (Elt F) → (⟨S16x1024, .f32⟩ : BufTy).Contents (Elt F)) ]
/-- They touch the program's own buffers only. -/
theorem fwdGates_sub : (fwdGates : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- None of them allocates. -/
theorem fwdGates_fresh : (fwdGates : List (HloOp τ sig (Elt F))).Forall fun op => op.fresh = ∅ :=
  StableHlo.forall_fresh_of_map rfl
/-- The buffers they write. -/
abbrev fwdGates_dst : List (Ref sig .tc) := [main_while0b_v46, main_while0b_v47, main_while0b_v48, main_while0b_v49, main_while0b_v50, main_while0b_v51, main_while0b_v52, main_while0b_v53, main_while0b_v54, main_while0b_v55, main_while0b_v56]
/-- They write no other buffer. -/
theorem fwdGates_writes : (fwdGates : List (HloOp τ sig (Elt F))).Forall fun op => op.writes ⊆ (fwdGates_dst.map (Proc.devRef (τ := τ) .tc)).toFinset :=
  StableHlo.forall_writes_sub_of_map rfl

/-- The operations of the first scan's step that form the new states from the gates. -/
abbrev fwdCell : List (HloOp τ sig (Elt F)) :=
  [ StableHlo.unary main_while0b_v56 main_while0b_v57 ((extractStridedSlice S16x256 ![0, 0] · slices_S16x1024_S16x256_0_0) : (⟨S16x1024, .f32⟩ : BufTy).Contents (Elt F) → (⟨S16x256, .f32⟩ : BufTy).Contents (Elt F)),
    StableHlo.unary main_while0b_v56 main_while0b_v58 ((extractStridedSlice S16x256 ![0, 256] · slices_S16x1024_S16x256_0_256) : (⟨S16x1024, .f32⟩ : BufTy).Contents (Elt F) → (⟨S16x256, .f32⟩ : BufTy).Contents (Elt F)),
    StableHlo.unary main_while0b_v56 main_while0b_v59 ((extractStridedSlice S16x256 ![0, 512] · slices_S16x1024_S16x256_0_512) : (⟨S16x1024, .f32⟩ : BufTy).Contents (Elt F) → (⟨S16x256, .f32⟩ : BufTy).Contents (Elt F)),
    StableHlo.unary main_while0b_v56 main_while0b_v60 ((extractStridedSlice S16x256 ![0, 768] · slices_S16x1024_S16x256_0_768) : (⟨S16x1024, .f32⟩ : BufTy).Contents (Elt F) → (⟨S16x256, .f32⟩ : BufTy).Contents (Elt F)),
    StableHlo.unary main_while0b_v57 main_while0b_v61 (Host.negf : (⟨S16x256, .f32⟩ : BufTy).Contents (Elt F) → (⟨S16x256, .f32⟩ : BufTy).Contents (Elt F)),
    StableHlo.unary main_while0b_v61 main_while0b_v62 (Host.exp : (⟨S16x256, .f32⟩ : BufTy).Contents (Elt F) → (⟨S16x256, .f32⟩ : BufTy).Contents (Elt F)),
    StableHlo.nullary main_while0b_cst_16 (constant S_ .f32 0x3F800000#32),
    StableHlo.unary main_while0b_cst_16 main_while0b_v63 (broadcastInDim S16x256 ![] bcast_S_S16x256 : (⟨S_, .f32⟩ : BufTy).Contents (Elt F) → (⟨S16x256, .f32⟩ : BufTy).Contents (Elt F)),
    StableHlo.binary main_while0b_v63 main_while0b_v62 main_while0b_v64 (addf : (⟨S16x256, .f32⟩ : BufTy).Contents (Elt F) → (⟨S16x256, .f32⟩ : BufTy).Contents (Elt F) → (⟨S16x256, .f32⟩ : BufTy).Contents (Elt F)),
    StableHlo.nullary main_while0b_cst_17 (constant S_ .f32 0x3F800000#32),
    StableHlo.unary main_while0b_cst_17 main_while0b_v65 (broadcastInDim S16x256 ![] bcast_S_S16x256 : (⟨S_, .f32⟩ : BufTy).Contents (Elt F) → (⟨S16x256, .f32⟩ : BufTy).Contents (Elt F)),
    StableHlo.binary main_while0b_v65 main_while0b_v64 main_while0b_v66 (Host.divf : (⟨S16x256, .f32⟩ : BufTy).Contents (Elt F) → (⟨S16x256, .f32⟩ : BufTy).Contents (Elt F) → (⟨S16x256, .f32⟩ : BufTy).Contents (Elt F)),
    StableHlo.unary main_while0b_v58 main_while0b_v67 (Host.negf : (⟨S16x256, .f32⟩ : BufTy).Contents (Elt F) → (⟨S16x256, .f32⟩ : BufTy).Contents (Elt F)),
    StableHlo.unary main_while0b_v67 main_while0b_v68 (Host.exp : (⟨S16x256, .f32⟩ : BufTy).Contents (Elt F) → (⟨S16x256, .f32⟩ : BufTy).Contents (Elt F)),
    StableHlo.nullary main_while0b_cst_18 (constant S_ .f32 0x3F800000#32),
    StableHlo.unary main_while0b_cst_18 main_while0b_v69 (broadcastInDim S16x256 ![] bcast_S_S16x256 : (⟨S_, .f32⟩ : BufTy).Contents (Elt F) → (⟨S16x256, .f32⟩ : BufTy).Contents (Elt F)),
    StableHlo.binary main_while0b_v69 main_while0b_v68 main_while0b_v70 (addf : (⟨S16x256, .f32⟩ : BufTy).Contents (Elt F) → (⟨S16x256, .f32⟩ : BufTy).Contents (Elt F) → (⟨S16x256, .f32⟩ : BufTy).Contents (Elt F)),
    StableHlo.nullary main_while0b_cst_19 (constant S_ .f32 0x3F800000#32),
    StableHlo.unary main_while0b_cst_19 main_while0b_v71 (broadcastInDim S16x256 ![] bcast_S_S16x256 : (⟨S_, .f32⟩ : BufTy).Contents (Elt F) → (⟨S16x256, .f32⟩ : BufTy).Contents (Elt F)),
    StableHlo.binary main_while0b_v71 main_while0b_v70 main_while0b_v72 (Host.divf : (⟨S16x256, .f32⟩ : BufTy).Contents (Elt F) → (⟨S16x256, .f32⟩ : BufTy).Contents (Elt F) → (⟨S16x256, .f32⟩ : BufTy).Contents (Elt F)),
    StableHlo.unary main_while0b_v59 main_while0b_v73 (Host.tanh : (⟨S16x256, .f32⟩ : BufTy).Contents (Elt F) → (⟨S16x256, .f32⟩ : BufTy).Contents (Elt F)),
    StableHlo.unary main_while0b_v60 main_while0b_v74 (Host.negf : (⟨S16x256, .f32⟩ : BufTy).Contents (Elt F) → (⟨S16x256, .f32⟩ : BufTy).Contents (Elt F)),
    StableHlo.unary main_while0b_v74 main_while0b_v75 (Host.exp : (⟨S16x256, .f32⟩ : BufTy).Contents (Elt F) → (⟨S16x256, .f32⟩ : BufTy).Contents (Elt F)),
    StableHlo.nullary main_while0b_cst_20 (constant S_ .f32 0x3F800000#32),
    StableHlo.unary main_while0b_cst_20 main_while0b_v76 (broadcastInDim S16x256 ![] bcast_S_S16x256 : (⟨S_, .f32⟩ : BufTy).Contents (Elt F) → (⟨S16x256, .f32⟩ : BufTy).Contents (Elt F)),
    StableHlo.binary main_while0b_v76 main_while0b_v75 main_while0b_v77 (addf : (⟨S16x256, .f32⟩ : BufTy).Contents (Elt F) → (⟨S16x256, .f32⟩ : BufTy).Contents (Elt F) → (⟨S16x256, .f32⟩ : BufTy).Contents (Elt F)),
    StableHlo.nullary main_while0b_cst_21 (constant S_ .f32 0x3F800000#32),
    StableHlo.unary main_while0b_cst_21 main_while0b_v78 (broadcastInDim S16x256 ![] bcast_S_S16x256 : (⟨S_, .f32⟩ : BufTy).Contents (Elt F) → (⟨S16x256, .f32⟩ : BufTy).Contents (Elt F)),
    StableHlo.binary main_while0b_v78 main_while0b_v77 main_while0b_v79 (Host.divf : (⟨S16x256, .f32⟩ : BufTy).Contents (Elt F) → (⟨S16x256, .f32⟩ : BufTy).Contents (Elt F) → (⟨S16x256, .f32⟩ : BufTy).Contents (Elt F)),
    StableHlo.binary main_while0b_v72 main_v11_7 main_while0b_v80 (mulf : (⟨S16x256, .f32⟩ : BufTy).Contents (Elt F) → (⟨S16x256, .f32⟩ : BufTy).Contents (Elt F) → (⟨S16x256, .f32⟩ : BufTy).Contents (Elt F)),
    StableHlo.binary main_while0b_v66 main_while0b_v73 main_while0b_v81 (mulf : (⟨S16x256, .f32⟩ : BufTy).Contents (Elt F) → (⟨S16x256, .f32⟩ : BufTy).Contents (Elt F) → (⟨S16x256, .f32⟩ : BufTy).Contents (Elt F)),
    StableHlo.binary main_while0b_v80 main_while0b_v81 main_while0b_v82 (addf : (⟨S16x256, .f32⟩ : BufTy).Contents (Elt F) → (⟨S16x256, .f32⟩ : BufTy).Contents (Elt F) → (⟨S16x256, .f32⟩ : BufTy).Contents (Elt F)),
    StableHlo.unary main_while0b_v82 main_while0b_v83 (Host.tanh : (⟨S16x256, .f32⟩ : BufTy).Contents (Elt F) → (⟨S16x256, .f32⟩ : BufTy).Contents (Elt F)),
    StableHlo.binary main_while0b_v79 main_while0b_v83 main_while0b_v84 (mulf : (⟨S16x256, .f32⟩ : BufTy).Contents (Elt F) → (⟨S16x256, .f32⟩ : BufTy).Contents (Elt F) → (⟨S16x256, .f32⟩ : BufTy).Contents (Elt F)) ]
/-- They touch the program's own buffers only. -/
theorem fwdCell_sub : (fwdCell : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- None of them allocates. -/
theorem fwdCell_fresh : (fwdCell : List (HloOp τ sig (Elt F))).Forall fun op => op.fresh = ∅ :=
  StableHlo.forall_fresh_of_map rfl
/-- The buffers they write. -/
abbrev fwdCell_dst : List (Ref sig .tc) := [main_while0b_v57, main_while0b_v58, main_while0b_v59, main_while0b_v60, main_while0b_v61, main_while0b_v62, main_while0b_cst_16, main_while0b_v63, main_while0b_v64, main_while0b_cst_17, main_while0b_v65, main_while0b_v66, main_while0b_v67, main_while0b_v68, main_while0b_cst_18, main_while0b_v69, main_while0b_v70, main_while0b_cst_19, main_while0b_v71, main_while0b_v72, main_while0b_v73, main_while0b_v74, main_while0b_v75, main_while0b_cst_20, main_while0b_v76, main_while0b_v77, main_while0b_cst_21, main_while0b_v78, main_while0b_v79, main_while0b_v80, main_while0b_v81, main_while0b_v82, main_while0b_v83, main_while0b_v84]
/-- They write no other buffer. -/
theorem fwdCell_writes : (fwdCell : List (HloOp τ sig (Elt F))).Forall fun op => op.writes ⊆ (fwdCell_dst.map (Proc.devRef (τ := τ) .tc)).toFinset :=
  StableHlo.forall_writes_sub_of_map rfl

/-- The operations of the first scan's step that store the new state in the output. -/
abbrev fwdStore : List (HloOp τ sig (Elt F)) :=
  [ StableHlo.TRef.unary (.of main_while0b_v84 : StableHlo.TRef sig ⟨S16x256, .f32⟩) (.of main_while0b_call1_v0 : StableHlo.TRef sig ⟨S1x16x256, .f32⟩) (broadcastInDim S1x16x256 ![1, 2] bcast_S16x256_S1x16x256_1_2),
    StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.binaryIndexed (.of main_v11_8 : StableHlo.TRef sig ⟨S2048x16x256, .f32⟩) (.of main_while0b_call1_v0 : StableHlo.TRef sig ⟨S1x16x256, .f32⟩) ![(.of main_v11_5 : StableHlo.TRef sig ⟨S_, .i32⟩), (.of main_while0b_call1_c : StableHlo.TRef sig ⟨S_, .i32⟩), (.of main_while0b_call1_c_0 : StableHlo.TRef sig ⟨S_, .i32⟩)] (.of main_while0b_v85 : StableHlo.TRef sig ⟨S2048x16x256, .f32⟩) (fun x u i => Host.dynamicUpdateSlice x u (fun k => (i k (Shape.Idx.first h_S_)).toInt) updateFits_S2048x16x256_S1x16x256) ]
/-- They touch the program's own buffers only. -/
theorem fwdStore_sub : (fwdStore : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- None of them allocates. -/
theorem fwdStore_fresh : (fwdStore : List (HloOp τ sig (Elt F))).Forall fun op => op.fresh = ∅ :=
  StableHlo.forall_fresh_of_map rfl
/-- The buffers they write. -/
abbrev fwdStore_dst : List (Ref sig .tc) := [main_while0b_call1_v0, main_while0b_call1_c, main_while0b_call1_c_0, main_while0b_v85]
/-- They write no other buffer. -/
theorem fwdStore_writes : (fwdStore : List (HloOp τ sig (Elt F))).Forall fun op => op.writes ⊆ (fwdStore_dst.map (Proc.devRef (τ := τ) .tc)).toFinset :=
  StableHlo.forall_writes_sub_of_map rfl

/-- The operations of the first scan's step that move the counter, the states and the output on. -/
abbrev fwdNext : List (HloOp τ sig (Elt F)) :=
  [ StableHlo.nullary main_while0b_c_22 (constantI S_ 32 1#32),
    StableHlo.binary main_v11_5 main_while0b_c_22 main_while0b_v86 (addi : (⟨S_, .i32⟩ : BufTy).Contents (Elt F) → (⟨S_, .i32⟩ : BufTy).Contents (Elt F) → (⟨S_, .i32⟩ : BufTy).Contents (Elt F)),
    StableHlo.unary main_while0b_v86 main_v11_5 id,
    StableHlo.unary main_while0b_v84 main_v11_6 id,
    StableHlo.unary main_while0b_v82 main_v11_7 id,
    StableHlo.unary main_while0b_v85 main_v11_8 id ]
/-- They touch the program's own buffers only. -/
theorem fwdNext_sub : (fwdNext : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None of them allocates. -/
theorem fwdNext_fresh : (fwdNext : List (HloOp τ sig (Elt F))).Forall fun op => op.fresh = ∅ :=
  StableHlo.forall_fresh_of_map rfl
/-- The buffers they write. -/
abbrev fwdNext_dst : List (Ref sig .tc) := [main_while0b_c_22, main_while0b_v86, main_v11_5, main_v11_6, main_v11_7, main_v11_8]
/-- They write no other buffer. -/
theorem fwdNext_writes : (fwdNext : List (HloOp τ sig (Elt F))).Forall fun op => op.writes ⊆ (fwdNext_dst.map (Proc.devRef (τ := τ) .tc)).toFinset :=
  StableHlo.forall_writes_sub_of_map rfl

/-- The first scan's step, item by item. -/
theorem fwd_items : main_while0_body (F := F) = (Pipeline.chain
  [ StableHlo.seq fwdRead, StableHlo.seq fwdGates, StableHlo.seq fwdCell, StableHlo.seq fwdStore, StableHlo.seq fwdNext ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, StableHlo.chain_seq_cons, Pipeline.chain_cons, StableHlo.chain_seq_cons]
  chain_rfl

/-- The operations of the first scan's test: the counter against the number of steps. -/
abbrev fwdTest : List (HloOp τ sig (Elt F)) :=
  [ StableHlo.nullary main_while0c_c_16 (constantI S_ 32 2048#32),
    StableHlo.binary main_v11_5 main_while0c_c_16 main_while0c_v45 (cmpi .slt) ]
/-- They touch the program's own buffers only. -/
theorem fwdTest_sub : (fwdTest : List (HloOp τ sig (Elt F))).Forall fun op => op.bufs ⊆ StableHlo.tcRefs τ sig :=
  ⟨StableHlo.nullary_bufs_sub .., StableHlo.binary_bufs_sub ..⟩
/-- None of them allocates. -/
theorem fwdTest_fresh : (fwdTest : List (HloOp τ sig (Elt F))).Forall fun op => op.fresh = ∅ :=
  StableHlo.forall_fresh_of_map rfl
/-- The buffers they write. -/
abbrev fwdTest_dst : List (Ref sig .tc) := [main_while0c_c_16, main_while0c_v45]
/-- They write no other buffer. -/
theorem fwdTest_writes : (fwdTest : List (HloOp τ sig (Elt F))).Forall fun op => op.writes ⊆ (fwdTest_dst.map (Proc.devRef (τ := τ) .tc)).toFinset :=
  StableHlo.forall_writes_sub_of_map rfl

/-- The operations of the second scan's step that read the step's input. -/
abbrev bwdRead : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.unaryIndexed (.of main_v36_0 : StableHlo.TRef sig ⟨S2048x16x256, .f32⟩) ![(.of main_v36_5 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x16x256, .f32⟩) (fun x i => Host.dynamicSlice S1x16x256 x (fun k => (i k (Shape.Idx.first h_S_)).toInt) sliceFits_S2048x16x256_S1x16x256),
    StableHlo.TRef.reshape (.of main_while1b_call4_v0 : StableHlo.TRef sig ⟨S1x16x256, .f32⟩) (.of main_while1b_v45 : StableHlo.TRef sig ⟨S16x256, .f32⟩) (rfl : (.f32 : EltTy) = .f32) shapeCasts_S1x16x256_S16x256 ]
/-- They touch the program's own buffers only. -/
theorem bwdRead_sub : (bwdRead : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
/-- None of them allocates. -/
theorem bwdRead_fresh : (bwdRead : List (HloOp τ sig (Elt F))).Forall fun op => op.fresh = ∅ :=
  StableHlo.forall_fresh_of_map rfl
/-- The buffers they write. -/
abbrev bwdRead_dst : List (Ref sig .tc) := [main_while1b_call4_c, main_while1b_call4_c_0, main_while1b_call4_v0, main_while1b_v45]
/-- They write no other buffer. -/
theorem bwdRead_writes : (bwdRead : List (HloOp τ sig (Elt F))).Forall fun op => op.writes ⊆ (bwdRead_dst.map (Proc.devRef (τ := τ) .tc)).toFinset :=
  StableHlo.forall_writes_sub_of_map rfl

/-- The operations of the second scan's step that form the gates. -/
abbrev bwdGates : List (HloOp τ sig (Elt F)) :=
  [ StableHlo.unary main_v36_1 main_while1b_v46 ((transpose S256x1024 [1, 0] · transposes_S1024x256_S256x1024_1_0) : (⟨S1024x256, .f32⟩ : BufTy).Contents (Elt F) → (⟨S256x1024, .f32⟩ : BufTy).Contents (Elt F)),
    StableHlo.binary main_while1b_v45 main_while1b_v46 main_while1b_v47 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.unary main_v36_2 main_while1b_v48 ((transpose S256x1024 [1, 0] · transposes_S1024x256_S256x1024_1_0) : (⟨S1024x256, .f32⟩ : BufTy).Contents (Elt F) → (⟨S256x1024, .f32⟩ : BufTy).Contents (Elt F)),
    StableHlo.binary main_v36_6 main_while1b_v48 main_while1b_v49 ((fun l r => Host.dotGeneral dot_S16x256_S256x1024_S16x1024_1_0_0_1_n_n none l r) : (⟨S16x256, .f32⟩ : BufTy).Contents (Elt F) → (⟨S256x1024, .f32⟩ : BufTy).Contents (Elt F) → (⟨S16x1024, .f32⟩ : BufTy).Contents (Elt F)),
    StableHlo.binary main_while1b_v47 main_while1b_v49 main_while1b_v50 (addf : (⟨S16x1024, .f32⟩ : BufTy).Contents (Elt F) → (⟨S16x1024, .f32⟩ : BufTy).Contents (Elt F) → (⟨S16x1024, .f32⟩ : BufTy).Contents (Elt F)),
    StableHlo.unary main_v36_3 main_while1b_v51 (broadcastInDim S1x1024 ![1] bcast_S1024_S1x1024_1 : (⟨S1024, .f32⟩ : BufTy).Contents (Elt F) → (⟨S1x1024, .f32⟩ : BufTy).Contents (Elt F)),
    StableHlo.unary main_while1b_v51 main_while1b_v52 (broadcastInDim S16x1024 ![0, 1] bcast_S1x1024_S16x1024_0_1 : (⟨S1x1024, .f32⟩ : BufTy).Contents (Elt F) → (⟨S16x1024, .f32⟩ : BufTy).Contents (Elt F)),
    StableHlo.binary main_while1b_v50 main_while1b_v52 main_while1b_v53 (addf : (⟨S16x1024, .f32⟩ : BufTy).Contents (Elt F) → (⟨S16x1024, .f32⟩ : BufTy).Contents (Elt F) → (⟨S16x1024, .f32⟩ : BufTy).Contents (Elt F)),
    StableHlo.unary main_v36_4 main_while1b_v54 (broadcastInDim S1x1024 ![1] bcast_S1024_S1x1024_1 : (⟨S1024, .f32⟩ : BufTy).Contents (Elt F) → (⟨S1x1024, .f32⟩ : BufTy).Contents (Elt F)),
    StableHlo.unary main_while1b_v54 main_while1b_v55 (broadcastInDim S16x1024 ![0, 1] bcast_S1x1024_S16x1024_0_1 : (⟨S1x1024, .f32⟩ : BufTy).Contents (Elt F) → (⟨S16x1024, .f32⟩ : BufTy).Contents (Elt F)),
    StableHlo.binary main_while1b_v53 main_while1b_v55 main_while1b_v56 (addf : (⟨S16x1024, .f32⟩ : BufTy).Contents (Elt F) → (⟨S16x1024, .f32⟩ : BufTy).Contents (Elt F) → (⟨S16x1024, .f32⟩ : BufTy).Contents (Elt F)) ]
/-- They touch the program's own buffers only. -/
theorem bwdGates_sub : (bwdGates : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩
/-- None of them allocates. -/
theorem bwdGates_fresh : (bwdGates : List (HloOp τ sig (Elt F))).Forall fun op => op.fresh = ∅ :=
  StableHlo.forall_fresh_of_map rfl
/-- The buffers they write. -/
abbrev bwdGates_dst : List (Ref sig .tc) := [main_while1b_v46, main_while1b_v47, main_while1b_v48, main_while1b_v49, main_while1b_v50, main_while1b_v51, main_while1b_v52, main_while1b_v53, main_while1b_v54, main_while1b_v55, main_while1b_v56]
/-- They write no other buffer. -/
theorem bwdGates_writes : (bwdGates : List (HloOp τ sig (Elt F))).Forall fun op => op.writes ⊆ (bwdGates_dst.map (Proc.devRef (τ := τ) .tc)).toFinset :=
  StableHlo.forall_writes_sub_of_map rfl

/-- The operations of the second scan's step that form the new states from the gates. -/
abbrev bwdCell : List (HloOp τ sig (Elt F)) :=
  [ StableHlo.unary main_while1b_v56 main_while1b_v57 ((extractStridedSlice S16x256 ![0, 0] · slices_S16x1024_S16x256_0_0) : (⟨S16x1024, .f32⟩ : BufTy).Contents (Elt F) → (⟨S16x256, .f32⟩ : BufTy).Contents (Elt F)),
    StableHlo.unary main_while1b_v56 main_while1b_v58 ((extractStridedSlice S16x256 ![0, 256] · slices_S16x1024_S16x256_0_256) : (⟨S16x1024, .f32⟩ : BufTy).Contents (Elt F) → (⟨S16x256, .f32⟩ : BufTy).Contents (Elt F)),
    StableHlo.unary main_while1b_v56 main_while1b_v59 ((extractStridedSlice S16x256 ![0, 512] · slices_S16x1024_S16x256_0_512) : (⟨S16x1024, .f32⟩ : BufTy).Contents (Elt F) → (⟨S16x256, .f32⟩ : BufTy).Contents (Elt F)),
    StableHlo.unary main_while1b_v56 main_while1b_v60 ((extractStridedSlice S16x256 ![0, 768] · slices_S16x1024_S16x256_0_768) : (⟨S16x1024, .f32⟩ : BufTy).Contents (Elt F) → (⟨S16x256, .f32⟩ : BufTy).Contents (Elt F)),
    StableHlo.unary main_while1b_v57 main_while1b_v61 (Host.negf : (⟨S16x256, .f32⟩ : BufTy).Contents (Elt F) → (⟨S16x256, .f32⟩ : BufTy).Contents (Elt F)),
    StableHlo.unary main_while1b_v61 main_while1b_v62 (Host.exp : (⟨S16x256, .f32⟩ : BufTy).Contents (Elt F) → (⟨S16x256, .f32⟩ : BufTy).Contents (Elt F)),
    StableHlo.nullary main_while1b_cst_16 (constant S_ .f32 0x3F800000#32),
    StableHlo.unary main_while1b_cst_16 main_while1b_v63 (broadcastInDim S16x256 ![] bcast_S_S16x256 : (⟨S_, .f32⟩ : BufTy).Contents (Elt F) → (⟨S16x256, .f32⟩ : BufTy).Contents (Elt F)),
    StableHlo.binary main_while1b_v63 main_while1b_v62 main_while1b_v64 (addf : (⟨S16x256, .f32⟩ : BufTy).Contents (Elt F) → (⟨S16x256, .f32⟩ : BufTy).Contents (Elt F) → (⟨S16x256, .f32⟩ : BufTy).Contents (Elt F)),
    StableHlo.nullary main_while1b_cst_17 (constant S_ .f32 0x3F800000#32),
    StableHlo.unary main_while1b_cst_17 main_while1b_v65 (broadcastInDim S16x256 ![] bcast_S_S16x256 : (⟨S_, .f32⟩ : BufTy).Contents (Elt F) → (⟨S16x256, .f32⟩ : BufTy).Contents (Elt F)),
    StableHlo.binary main_while1b_v65 main_while1b_v64 main_while1b_v66 (Host.divf : (⟨S16x256, .f32⟩ : BufTy).Contents (Elt F) → (⟨S16x256, .f32⟩ : BufTy).Contents (Elt F) → (⟨S16x256, .f32⟩ : BufTy).Contents (Elt F)),
    StableHlo.unary main_while1b_v58 main_while1b_v67 (Host.negf : (⟨S16x256, .f32⟩ : BufTy).Contents (Elt F) → (⟨S16x256, .f32⟩ : BufTy).Contents (Elt F)),
    StableHlo.unary main_while1b_v67 main_while1b_v68 (Host.exp : (⟨S16x256, .f32⟩ : BufTy).Contents (Elt F) → (⟨S16x256, .f32⟩ : BufTy).Contents (Elt F)),
    StableHlo.nullary main_while1b_cst_18 (constant S_ .f32 0x3F800000#32),
    StableHlo.unary main_while1b_cst_18 main_while1b_v69 (broadcastInDim S16x256 ![] bcast_S_S16x256 : (⟨S_, .f32⟩ : BufTy).Contents (Elt F) → (⟨S16x256, .f32⟩ : BufTy).Contents (Elt F)),
    StableHlo.binary main_while1b_v69 main_while1b_v68 main_while1b_v70 (addf : (⟨S16x256, .f32⟩ : BufTy).Contents (Elt F) → (⟨S16x256, .f32⟩ : BufTy).Contents (Elt F) → (⟨S16x256, .f32⟩ : BufTy).Contents (Elt F)),
    StableHlo.nullary main_while1b_cst_19 (constant S_ .f32 0x3F800000#32),
    StableHlo.unary main_while1b_cst_19 main_while1b_v71 (broadcastInDim S16x256 ![] bcast_S_S16x256 : (⟨S_, .f32⟩ : BufTy).Contents (Elt F) → (⟨S16x256, .f32⟩ : BufTy).Contents (Elt F)),
    StableHlo.binary main_while1b_v71 main_while1b_v70 main_while1b_v72 (Host.divf : (⟨S16x256, .f32⟩ : BufTy).Contents (Elt F) → (⟨S16x256, .f32⟩ : BufTy).Contents (Elt F) → (⟨S16x256, .f32⟩ : BufTy).Contents (Elt F)),
    StableHlo.unary main_while1b_v59 main_while1b_v73 (Host.tanh : (⟨S16x256, .f32⟩ : BufTy).Contents (Elt F) → (⟨S16x256, .f32⟩ : BufTy).Contents (Elt F)),
    StableHlo.unary main_while1b_v60 main_while1b_v74 (Host.negf : (⟨S16x256, .f32⟩ : BufTy).Contents (Elt F) → (⟨S16x256, .f32⟩ : BufTy).Contents (Elt F)),
    StableHlo.unary main_while1b_v74 main_while1b_v75 (Host.exp : (⟨S16x256, .f32⟩ : BufTy).Contents (Elt F) → (⟨S16x256, .f32⟩ : BufTy).Contents (Elt F)),
    StableHlo.nullary main_while1b_cst_20 (constant S_ .f32 0x3F800000#32),
    StableHlo.unary main_while1b_cst_20 main_while1b_v76 (broadcastInDim S16x256 ![] bcast_S_S16x256 : (⟨S_, .f32⟩ : BufTy).Contents (Elt F) → (⟨S16x256, .f32⟩ : BufTy).Contents (Elt F)),
    StableHlo.binary main_while1b_v76 main_while1b_v75 main_while1b_v77 (addf : (⟨S16x256, .f32⟩ : BufTy).Contents (Elt F) → (⟨S16x256, .f32⟩ : BufTy).Contents (Elt F) → (⟨S16x256, .f32⟩ : BufTy).Contents (Elt F)),
    StableHlo.nullary main_while1b_cst_21 (constant S_ .f32 0x3F800000#32),
    StableHlo.unary main_while1b_cst_21 main_while1b_v78 (broadcastInDim S16x256 ![] bcast_S_S16x256 : (⟨S_, .f32⟩ : BufTy).Contents (Elt F) → (⟨S16x256, .f32⟩ : BufTy).Contents (Elt F)),
    StableHlo.binary main_while1b_v78 main_while1b_v77 main_while1b_v79 (Host.divf : (⟨S16x256, .f32⟩ : BufTy).Contents (Elt F) → (⟨S16x256, .f32⟩ : BufTy).Contents (Elt F) → (⟨S16x256, .f32⟩ : BufTy).Contents (Elt F)),
    StableHlo.binary main_while1b_v72 main_v36_7 main_while1b_v80 (mulf : (⟨S16x256, .f32⟩ : BufTy).Contents (Elt F) → (⟨S16x256, .f32⟩ : BufTy).Contents (Elt F) → (⟨S16x256, .f32⟩ : BufTy).Contents (Elt F)),
    StableHlo.binary main_while1b_v66 main_while1b_v73 main_while1b_v81 (mulf : (⟨S16x256, .f32⟩ : BufTy).Contents (Elt F) → (⟨S16x256, .f32⟩ : BufTy).Contents (Elt F) → (⟨S16x256, .f32⟩ : BufTy).Contents (Elt F)),
    StableHlo.binary main_while1b_v80 main_while1b_v81 main_while1b_v82 (addf : (⟨S16x256, .f32⟩ : BufTy).Contents (Elt F) → (⟨S16x256, .f32⟩ : BufTy).Contents (Elt F) → (⟨S16x256, .f32⟩ : BufTy).Contents (Elt F)),
    StableHlo.unary main_while1b_v82 main_while1b_v83 (Host.tanh : (⟨S16x256, .f32⟩ : BufTy).Contents (Elt F) → (⟨S16x256, .f32⟩ : BufTy).Contents (Elt F)),
    StableHlo.binary main_while1b_v79 main_while1b_v83 main_while1b_v84 (mulf : (⟨S16x256, .f32⟩ : BufTy).Contents (Elt F) → (⟨S16x256, .f32⟩ : BufTy).Contents (Elt F) → (⟨S16x256, .f32⟩ : BufTy).Contents (Elt F)) ]
/-- They touch the program's own buffers only. -/
theorem bwdCell_sub : (bwdCell : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.unary_bufs_sub .., StableHlo.binary_bufs_sub ..⟩
/-- None of them allocates. -/
theorem bwdCell_fresh : (bwdCell : List (HloOp τ sig (Elt F))).Forall fun op => op.fresh = ∅ :=
  StableHlo.forall_fresh_of_map rfl
/-- The buffers they write. -/
abbrev bwdCell_dst : List (Ref sig .tc) := [main_while1b_v57, main_while1b_v58, main_while1b_v59, main_while1b_v60, main_while1b_v61, main_while1b_v62, main_while1b_cst_16, main_while1b_v63, main_while1b_v64, main_while1b_cst_17, main_while1b_v65, main_while1b_v66, main_while1b_v67, main_while1b_v68, main_while1b_cst_18, main_while1b_v69, main_while1b_v70, main_while1b_cst_19, main_while1b_v71, main_while1b_v72, main_while1b_v73, main_while1b_v74, main_while1b_v75, main_while1b_cst_20, main_while1b_v76, main_while1b_v77, main_while1b_cst_21, main_while1b_v78, main_while1b_v79, main_while1b_v80, main_while1b_v81, main_while1b_v82, main_while1b_v83, main_while1b_v84]
/-- They write no other buffer. -/
theorem bwdCell_writes : (bwdCell : List (HloOp τ sig (Elt F))).Forall fun op => op.writes ⊆ (bwdCell_dst.map (Proc.devRef (τ := τ) .tc)).toFinset :=
  StableHlo.forall_writes_sub_of_map rfl

/-- The operations of the second scan's step that store the new state in the output. -/
abbrev bwdStore : List (HloOp τ sig (Elt F)) :=
  [ StableHlo.TRef.unary (.of main_while1b_v84 : StableHlo.TRef sig ⟨S16x256, .f32⟩) (.of main_while1b_call5_v0 : StableHlo.TRef sig ⟨S1x16x256, .f32⟩) (broadcastInDim S1x16x256 ![1, 2] bcast_S16x256_S1x16x256_1_2),
    StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.binaryIndexed (.of main_v36_8 : StableHlo.TRef sig ⟨S2048x16x256, .f32⟩) (.of main_while1b_call5_v0 : StableHlo.TRef sig ⟨S1x16x256, .f32⟩) ![(.of main_v36_5 : StableHlo.TRef sig ⟨S_, .i32⟩), (.of main_while1b_call5_c : StableHlo.TRef sig ⟨S_, .i32⟩), (.of main_while1b_call5_c_0 : StableHlo.TRef sig ⟨S_, .i32⟩)] (.of main_while1b_v85 : StableHlo.TRef sig ⟨S2048x16x256, .f32⟩) (fun x u i => Host.dynamicUpdateSlice x u (fun k => (i k (Shape.Idx.first h_S_)).toInt) updateFits_S2048x16x256_S1x16x256) ]
/-- They touch the program's own buffers only. -/
theorem bwdStore_sub : (bwdStore : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- None of them allocates. -/
theorem bwdStore_fresh : (bwdStore : List (HloOp τ sig (Elt F))).Forall fun op => op.fresh = ∅ :=
  StableHlo.forall_fresh_of_map rfl
/-- The buffers they write. -/
abbrev bwdStore_dst : List (Ref sig .tc) := [main_while1b_call5_v0, main_while1b_call5_c, main_while1b_call5_c_0, main_while1b_v85]
/-- They write no other buffer. -/
theorem bwdStore_writes : (bwdStore : List (HloOp τ sig (Elt F))).Forall fun op => op.writes ⊆ (bwdStore_dst.map (Proc.devRef (τ := τ) .tc)).toFinset :=
  StableHlo.forall_writes_sub_of_map rfl

/-- The operations of the second scan's step that move the counter, the states and the output on. -/
abbrev bwdNext : List (HloOp τ sig (Elt F)) :=
  [ StableHlo.nullary main_while1b_c_22 (constantI S_ 32 1#32),
    StableHlo.binary main_v36_5 main_while1b_c_22 main_while1b_v86 (addi : (⟨S_, .i32⟩ : BufTy).Contents (Elt F) → (⟨S_, .i32⟩ : BufTy).Contents (Elt F) → (⟨S_, .i32⟩ : BufTy).Contents (Elt F)),
    StableHlo.unary main_while1b_v86 main_v36_5 id,
    StableHlo.unary main_while1b_v84 main_v36_6 id,
    StableHlo.unary main_while1b_v82 main_v36_7 id,
    StableHlo.unary main_while1b_v85 main_v36_8 id ]
/-- They touch the program's own buffers only. -/
theorem bwdNext_sub : (bwdNext : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
/-- None of them allocates. -/
theorem bwdNext_fresh : (bwdNext : List (HloOp τ sig (Elt F))).Forall fun op => op.fresh = ∅ :=
  StableHlo.forall_fresh_of_map rfl
/-- The buffers they write. -/
abbrev bwdNext_dst : List (Ref sig .tc) := [main_while1b_c_22, main_while1b_v86, main_v36_5, main_v36_6, main_v36_7, main_v36_8]
/-- They write no other buffer. -/
theorem bwdNext_writes : (bwdNext : List (HloOp τ sig (Elt F))).Forall fun op => op.writes ⊆ (bwdNext_dst.map (Proc.devRef (τ := τ) .tc)).toFinset :=
  StableHlo.forall_writes_sub_of_map rfl

/-- The second scan's step, item by item. -/
theorem bwd_items : main_while1_body (F := F) = (Pipeline.chain
  [ StableHlo.seq bwdRead, StableHlo.seq bwdGates, StableHlo.seq bwdCell, StableHlo.seq bwdStore, StableHlo.seq bwdNext ] : Prog (TpuEff nD τ sig (Elt F) (HostLoop.Sig (Pipeline.Sig Λ₀ (Fin 0) fun p => (pcfgs (F := F) p).Adm) 2) .tc) PUnit) := by
  rewrite [Pipeline.chain_cons, StableHlo.chain_seq_cons, StableHlo.chain_seq_cons, Pipeline.chain_cons, StableHlo.chain_seq_cons]
  chain_rfl

/-- The operations of the second scan's test: the counter against the number of steps. -/
abbrev bwdTest : List (HloOp τ sig (Elt F)) :=
  [ StableHlo.nullary main_while1c_c_16 (constantI S_ 32 2048#32),
    StableHlo.binary main_v36_5 main_while1c_c_16 main_while1c_v45 (cmpi .slt) ]
/-- They touch the program's own buffers only. -/
theorem bwdTest_sub : (bwdTest : List (HloOp τ sig (Elt F))).Forall fun op => op.bufs ⊆ StableHlo.tcRefs τ sig :=
  ⟨StableHlo.nullary_bufs_sub .., StableHlo.binary_bufs_sub ..⟩
/-- None of them allocates. -/
theorem bwdTest_fresh : (bwdTest : List (HloOp τ sig (Elt F))).Forall fun op => op.fresh = ∅ :=
  StableHlo.forall_fresh_of_map rfl
/-- The buffers they write. -/
abbrev bwdTest_dst : List (Ref sig .tc) := [main_while1c_c_16, main_while1c_v45]
/-- They write no other buffer. -/
theorem bwdTest_writes : (bwdTest : List (HloOp τ sig (Elt F))).Forall fun op => op.writes ⊆ (bwdTest_dst.map (Proc.devRef (τ := τ) .tc)).toFinset :=
  StableHlo.forall_writes_sub_of_map rfl

end Cert.ReferenceIdeal.Lstm

end
-- ==== Proof.ReferenceIdeal.Run.lean ====
module

public import proofs.«01_k».proof.Proof.ReferenceIdeal.Ops
public import Idealize.ShloMosaic.Lib.Scf.ExitTest
public import Idealize.ShloMosaic.Lib.Scf.Counter
public import Idealize.ShloMosaic.Lib.Quiescent

/-! # The reference's run

Each scan is a loop of 2048 steps. The whole program is the first stretch, the scan forward in time, the stretches that reverse
the input, the scan over the reversed input, and the stretches that join the two. It terminates, every buffer then holds what
these operations leave there in order (`atEnd`), no counter has moved, and the arguments are unchanged. -/

@[expose] public section

set_option maxRecDepth 16384

noncomputable section

namespace Cert.ReferenceIdeal.Lstm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket ucRefs sub_ucRefs)
open Cert.ReferenceIdeal.Gen

variable {F : FTy → Type} [FloatOps F]

local notation "𝕄" => MT nD τ sig Unit (Elt F) ℕ (Option PUnit) ℕ

/-- The stretches before the first scan. -/
abbrev opening : List (List (HloOp τ sig (Elt F))) := [opsStart]
/-- They are plain: within the program's buffers, none allocating. -/
theorem opening_plain : Plain (opening (F := F)) := .cons opsStart_sub (hf := List.forall_iff_forall_mem.mp opsStart_fresh) (.nil)

/-- The stretches between the scans. -/
abbrev between : List (List (HloOp τ sig (Elt F))) := [opsMask, opsWhere, opsSpread, opsTake, opsBack, opsCarry]
/-- They are plain: within the program's buffers, none allocating. -/
theorem between_plain : Plain (between (F := F)) := .cons opsMask_sub (hf := List.forall_iff_forall_mem.mp opsMask_fresh) (.cons opsWhere_sub (hf := List.forall_iff_forall_mem.mp opsWhere_fresh) (.cons opsSpread_sub (hf := List.forall_iff_forall_mem.mp opsSpread_fresh) (.cons opsTake_sub (hf := List.forall_iff_forall_mem.mp opsTake_fresh) (.cons opsBack_sub (hf := List.forall_iff_forall_mem.mp opsBack_fresh) (.cons opsCarry_sub (hf := List.forall_iff_forall_mem.mp opsCarry_fresh) (.nil))))))

/-- The stretches after the second scan. -/
abbrev closing : List (List (HloOp τ sig (Elt F))) := [opsUnwind, opsTakeBack, opsJoin]
/-- They are plain: within the program's buffers, none allocating. -/
theorem closing_plain : Plain (closing (F := F)) := .cons opsUnwind_sub (hf := List.forall_iff_forall_mem.mp opsUnwind_fresh) (.cons opsTakeBack_sub (hf := List.forall_iff_forall_mem.mp opsTakeBack_fresh) (.cons opsJoin_sub (hf := List.forall_iff_forall_mem.mp opsJoin_fresh) (.nil)))

/-- The stretches of the first scan's step. -/
abbrev fwdTrip : List (List (HloOp τ sig (Elt F))) := [fwdRead, fwdGates, fwdCell, fwdStore, fwdNext]
/-- They are plain: within the program's buffers, none allocating. -/
theorem fwdTrip_plain : Plain (fwdTrip (F := F)) := .cons fwdRead_sub (hf := List.forall_iff_forall_mem.mp fwdRead_fresh) (.cons fwdGates_sub (hf := List.forall_iff_forall_mem.mp fwdGates_fresh) (.cons fwdCell_sub (hf := List.forall_iff_forall_mem.mp fwdCell_fresh) (.cons fwdStore_sub (hf := List.forall_iff_forall_mem.mp fwdStore_fresh) (.cons fwdNext_sub (hf := List.forall_iff_forall_mem.mp fwdNext_fresh) (.nil)))))

/-- Of the first scan's stretches only the last writes its counter. -/
theorem fwdTest_counter (V : Valuation τ sig (Elt F)) : after fwdTest V (Proc.devRef .tc main_v11_5) = V (Proc.devRef .tc main_v11_5) :=
  after_of_writes_sub fwdTest V fwdTest_writes (by decide +kernel)
/-- No part of the first step writes the counter. -/
theorem fwdRead_counter (V : Valuation τ sig (Elt F)) : after fwdRead V (Proc.devRef .tc main_v11_5) = V (Proc.devRef .tc main_v11_5) :=
  after_of_writes_sub fwdRead V fwdRead_writes (by decide +kernel)
theorem fwdGates_counter (V : Valuation τ sig (Elt F)) : after fwdGates V (Proc.devRef .tc main_v11_5) = V (Proc.devRef .tc main_v11_5) :=
  after_of_writes_sub fwdGates V fwdGates_writes (by decide +kernel)
theorem fwdCell_counter (V : Valuation τ sig (Elt F)) : after fwdCell V (Proc.devRef .tc main_v11_5) = V (Proc.devRef .tc main_v11_5) :=
  after_of_writes_sub fwdCell V fwdCell_writes (by decide +kernel)
theorem fwdStore_counter (V : Valuation τ sig (Elt F)) : after fwdStore V (Proc.devRef .tc main_v11_5) = V (Proc.devRef .tc main_v11_5) :=
  after_of_writes_sub fwdStore V fwdStore_writes (by decide +kernel)

set_option maxRecDepth 100000 in
/-- The last stretch moves the counter on by one. -/
theorem fwdNext_counter (V : Valuation τ sig (Elt F)) :
    after fwdNext V (Proc.devRef .tc main_v11_5) = addi (V (Proc.devRef .tc main_v11_5)) (constantI S_ 32 1#32) := by
  after_results
  rfl

/-- A first scan entered with its counter at zero has it at `k` before its step `k`. -/
theorem fwd_counter (W₀ : Dev nD → Valuation τ sig (Elt F)) (h : ∀ c, W₀ c (Proc.devRef .tc main_v11_5) = fun _ => (0#32 : BitVec 32)) (c : Dev nD) :
    ∀ k, atTrip fwdTest fwdTrip W₀ k c (Proc.devRef .tc main_v11_5) = fun _ => Scf.iv 0#32 1#32 k
  | 0 => by rw [atTrip_zero, h c, Scf.iv_zero]
  | k + 1 => by
    rw [atTrip_succ]
    simp only [afterL_cons, afterL_nil]
    rw [fwdNext_counter, fwdStore_counter, fwdCell_counter, fwdGates_counter, fwdRead_counter, fwdTest_counter, fwd_counter W₀ h c k, Scf.iv_succ]
    rfl

-- unification may unfold definitions in the types of what it solves for, which the rule below needs
set_option backward.isDefEq.respectTransparency.types false in
/-- The first scan's test says yes before its steps 0 … 2047 and no after them. -/
theorem fwd_test (W₀ : Dev nD → Valuation τ sig (Elt F)) (h : ∀ c, W₀ c (Proc.devRef .tc main_v11_5) = fun _ => (0#32 : BitVec 32)) (Rc : Dev nD → sProp 𝕄) :
    LoopCond (pcfgs (F := F)) defs₀ Variants.none loops Rc (main_while0_cond (F := F)) fwdTest fwdTrip W₀ 2048 := by
  intro k hk c bd
  have hctr := fwd_counter W₀ h c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip fwdTest fwdTrip W₀ k c) main_v11_5 HostLoop.idx0)
        (HloOp.result _ (atTrip fwdTest fwdTrip W₀ k c) main_while0c_c_16 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

/-- The stretches of the second scan's step. -/
abbrev bwdTrip : List (List (HloOp τ sig (Elt F))) := [bwdRead, bwdGates, bwdCell, bwdStore, bwdNext]
/-- They are plain: within the program's buffers, none allocating. -/
theorem bwdTrip_plain : Plain (bwdTrip (F := F)) := .cons bwdRead_sub (hf := List.forall_iff_forall_mem.mp bwdRead_fresh) (.cons bwdGates_sub (hf := List.forall_iff_forall_mem.mp bwdGates_fresh) (.cons bwdCell_sub (hf := List.forall_iff_forall_mem.mp bwdCell_fresh) (.cons bwdStore_sub (hf := List.forall_iff_forall_mem.mp bwdStore_fresh) (.cons bwdNext_sub (hf := List.forall_iff_forall_mem.mp bwdNext_fresh) (.nil)))))

/-- Of the second scan's stretches only the last writes its counter. -/
theorem bwdTest_counter (V : Valuation τ sig (Elt F)) : after bwdTest V (Proc.devRef .tc main_v36_5) = V (Proc.devRef .tc main_v36_5) :=
  after_of_writes_sub bwdTest V bwdTest_writes (by decide +kernel)
/-- No part of the second step writes the counter. -/
theorem bwdRead_counter (V : Valuation τ sig (Elt F)) : after bwdRead V (Proc.devRef .tc main_v36_5) = V (Proc.devRef .tc main_v36_5) :=
  after_of_writes_sub bwdRead V bwdRead_writes (by decide +kernel)
theorem bwdGates_counter (V : Valuation τ sig (Elt F)) : after bwdGates V (Proc.devRef .tc main_v36_5) = V (Proc.devRef .tc main_v36_5) :=
  after_of_writes_sub bwdGates V bwdGates_writes (by decide +kernel)
theorem bwdCell_counter (V : Valuation τ sig (Elt F)) : after bwdCell V (Proc.devRef .tc main_v36_5) = V (Proc.devRef .tc main_v36_5) :=
  after_of_writes_sub bwdCell V bwdCell_writes (by decide +kernel)
theorem bwdStore_counter (V : Valuation τ sig (Elt F)) : after bwdStore V (Proc.devRef .tc main_v36_5) = V (Proc.devRef .tc main_v36_5) :=
  after_of_writes_sub bwdStore V bwdStore_writes (by decide +kernel)

set_option maxRecDepth 100000 in
/-- The last stretch moves the counter on by one. -/
theorem bwdNext_counter (V : Valuation τ sig (Elt F)) :
    after bwdNext V (Proc.devRef .tc main_v36_5) = addi (V (Proc.devRef .tc main_v36_5)) (constantI S_ 32 1#32) := by
  after_results
  rfl

/-- A second scan entered with its counter at zero has it at `k` before its step `k`. -/
theorem bwd_counter (W₀ : Dev nD → Valuation τ sig (Elt F)) (h : ∀ c, W₀ c (Proc.devRef .tc main_v36_5) = fun _ => (0#32 : BitVec 32)) (c : Dev nD) :
    ∀ k, atTrip bwdTest bwdTrip W₀ k c (Proc.devRef .tc main_v36_5) = fun _ => Scf.iv 0#32 1#32 k
  | 0 => by rw [atTrip_zero, h c, Scf.iv_zero]
  | k + 1 => by
    rw [atTrip_succ]
    simp only [afterL_cons, afterL_nil]
    rw [bwdNext_counter, bwdStore_counter, bwdCell_counter, bwdGates_counter, bwdRead_counter, bwdTest_counter, bwd_counter W₀ h c k, Scf.iv_succ]
    rfl

-- unification may unfold definitions in the types of what it solves for, which the rule below needs
set_option backward.isDefEq.respectTransparency.types false in
/-- The second scan's test says yes before its steps 0 … 2047 and no after them. -/
theorem bwd_test (W₀ : Dev nD → Valuation τ sig (Elt F)) (h : ∀ c, W₀ c (Proc.devRef .tc main_v36_5) = fun _ => (0#32 : BitVec 32)) (Rc : Dev nD → sProp 𝕄) :
    LoopCond (pcfgs (F := F)) defs₀ Variants.none loops Rc (main_while1_cond (F := F)) bwdTest bwdTrip W₀ 2048 := by
  intro k hk c bd
  have hctr := bwd_counter W₀ h c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip bwdTest bwdTrip W₀ k c) main_v36_5 HostLoop.idx0)
        (HloOp.result _ (atTrip bwdTest bwdTrip W₀ k c) main_while1c_c_16 HostLoop.idx0) = 1#1) (k < 2048)
    rw [nullary_result_ne _ _ _ _ (by decide), nullary_result, hctr]
    exact Scf.cmpi_slt_iv_ub_iff (lb := 0#32) (ub := 2048#32) (st := 1#32) (by decide) (show k ≤ Scf.trips 0#32 2048#32 1#32 from hk)
  isplitl [Hb]; · iexact Hb
  isplitl [Hh]; · rw [after_cons, after_cons, after_nil]; iexact Hh
  iexact HR

variable (m : (ℓ : Loc nD τ sig) → Buf (Elt F) ℓ) (ρ : Dev nD → PrngReg)

/-! ## What the buffers hold at the seams -/

/-- Before the first scan. -/
def atFwd (c : Dev nD) : Valuation τ sig (Elt F) := afterL opening (launchContents m c)
/-- After the first scan. -/
def pastFwd (c : Dev nD) : Valuation τ sig (Elt F) := after fwdTest (atTrip fwdTest fwdTrip (atFwd m) 2048 c)
/-- Before the second scan. -/
def atBwd (c : Dev nD) : Valuation τ sig (Elt F) := afterL between (pastFwd m c)
/-- After the second scan. -/
def pastBwd (c : Dev nD) : Valuation τ sig (Elt F) := after bwdTest (atTrip bwdTest bwdTrip (atBwd m) 2048 c)
/-- At the end. -/
def atEnd (c : Dev nD) : Valuation τ sig (Elt F) := afterL closing (pastBwd m c)

/-- The first scan starts with its counter at zero. -/
theorem atFwd_counter (c : Dev nD) : atFwd m c (Proc.devRef .tc main_v11_5) = fun _ => (0#32 : BitVec 32) := by
  unfold atFwd
  simp only [afterL_cons, afterL_nil]
  after_reads_simp
  rfl

/-- So does the second. -/
theorem atBwd_counter (c : Dev nD) : atBwd m c (Proc.devRef .tc main_v36_5) = fun _ => (0#32 : BitVec 32) := by
  unfold atBwd
  simp only [afterL_cons, afterL_nil]
  generalize after (opsTake (F := F)) _ = V
  after_results
  rfl

/-! ## The run -/

/-- The core's debt, which rides along. -/
abbrev debt (c : Dev nD) : sProp 𝕄 := iprop(∃ W, owes (c : Thread nD τ) (0 : CellTallies nD τ sig Unit) W)
/-- The reference has no pipeline. -/
abbrev noPipe : (p : Fin 0) → (pcfgs (F := F) p).Adm := fun p => p.elim0
/-- Nor any ticket. -/
abbrev noTicket : Fin 0 → Ticket (Ix := Unit) (Name := ℕ) (U := Option PUnit) (Lvl := ℕ) (nD := nD) (τ := τ) (pcfgs (F := F)) noPipe := fun j => j.elim0

/-- The program's segments: the stretches and the two scans. -/
def segments : List (CSeg (pcfgs (F := F)) noPipe defs₀ Variants.none (fun _ => (∅ : Finset Unit)) (fun _ _ => (0 : ℕ)) loops noTicket) :=
  segsOf _ _ _ _ _ _ _ _ debt opening opening_plain (launchContents m)
    ++ loopSeg _ _ _ _ _ _ _ _ 0 main_while0_cond main_while0_body rfl fwdTest fwdTrip fwdTrip_plain (by rw [fwd_items]; rfl) 2048 (atFwd m) debt
        (fwd_test (atFwd m) (atFwd_counter m) debt)
      :: (segsOf _ _ _ _ _ _ _ _ debt between between_plain (pastFwd m)
        ++ loopSeg _ _ _ _ _ _ _ _ 1 main_while1_cond main_while1_body rfl bwdTest bwdTrip bwdTrip_plain (by rw [bwd_items]; rfl) 2048 (atBwd m) debt
            (bwd_test (atBwd m) (atBwd_counter m) debt)
          :: segsOf _ _ _ _ _ _ _ _ debt closing closing_plain (pastBwd m))

/-- Their programs in order are the items of @main. -/
theorem segments_prog : (segments m).map CSeg.prog
    = (opening.map fun ops => (seq ops : Prog _ PUnit)) ++ HostLoop.enter 0 :: ((between.map fun ops => (seq ops : Prog _ PUnit))
      ++ HostLoop.enter 1 :: closing.map fun ops => (seq ops : Prog _ PUnit)) := by
  unfold segments
  rw [List.map_append, List.map_cons, List.map_append, List.map_cons, segsOf_prog, segsOf_prog, segsOf_prog]
  rfl

/-- Each starts where the one before it ends. -/
theorem segments_chain : CSeg.Chains (fun c => iprop(held (c : Thread nD τ) (ucRefs τ sig) (launchContents m c) ∗ debt c)) (segments m)
    (fun c => iprop(iprop(held (c : Thread nD τ) (ucRefs τ sig) (atEnd m c)) ∗ ∃ W, owes (c : Thread nD τ) (0 : CellTallies nD τ sig Unit) W)) := by
  unfold segments
  exact CSeg.Chains.append (segsOf_chains _ _ _ _ _ _ _ _ debt opening opening_plain _)
    ⟨fun _ => .rfl, CSeg.Chains.append (segsOf_chains _ _ _ _ _ _ _ _ debt between between_plain _)
      ⟨fun _ => .rfl, segsOf_chains _ _ _ _ _ _ _ _ debt closing closing_plain _⟩⟩

set_option maxRecDepth 100000 in
/-- The program terminates and every buffer of it holds what `atEnd` says. -/
theorem run_end [∀ e, Nonempty (Elt F e)] : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = atEnd m c (Proc.devRef .tc b)) ∧ r.2.sem = fun _ => 0) :=
  Pipeline.θ_run_regions_loop_kit (Ix := Unit) (Name := ℕ) (U := Option PUnit) (Lvl := ℕ) (J := Fin 0) (P := Fin 0) (Val := Elt F)
    pcfgs noPipe (fun k => k.1.elim0) defs₀ Variants.none (fun _ => ∅) (fun _ _ => 0) loops noTicket m ρ main (segments m)
    (fun c Q => by
      rw [main_items c]
      show wp _ _ _ (Pipeline.chain ((segments m).map CSeg.prog)) Q ⊢ _
      rw [segments_prog]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ debt c))
    (Tₙ := fun c => iprop(held (c : Thread nD τ) (ucRefs τ sig) (atEnd m c)))
    (hch := segments_chain m)
    (hinit := by
      refine Pipeline.initEach _ _ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = atEnd m c b)
    (hfin := fun c s' => by
      unfold held
      iintro ⟨Hh, HSI⟩
      ihave Hr := (pointsTo_read_all (ucRefs τ sig) (fun b => ((c : Dev nD), b)) (fun b => atEnd m c b) s') $$ [Hh HSI]
      · isplitl [Hh] <;> iassumption
      icases Hr with ⟨%h, HSI⟩
      imodintro
      isplitr; · ipureintro; exact h
      iexact HSI)
    (hQ := fun s h => ⟨fun c b hb => h c _ (devRef_mem_ucRefs b hb), sem_eq_zero_of_no_sems (by decide) s⟩)

/-! ## The arguments -/

/-- The program's ten arguments. -/
abbrev argRefs : List (Ref sig .tc) := [main_arg0, main_arg1, main_arg2, main_arg3, main_arg4, main_arg5, main_arg6, main_arg7, main_arg8, main_arg9]

/-- A buffer that no stretch of the step writes is as it was after any number of steps. -/
theorem fwd_keeps (W₀ : Dev nD → Valuation τ sig (Elt F)) (c : Dev nD) (b : Ref sig .tc)
    (h : b ∉ fwdTest_dst ∧ b ∉ fwdRead_dst ∧ b ∉ fwdGates_dst ∧ b ∉ fwdCell_dst ∧ b ∉ fwdStore_dst ∧ b ∉ fwdNext_dst) :
    ∀ k, atTrip fwdTest fwdTrip W₀ k c (Proc.devRef .tc b) = W₀ c (Proc.devRef .tc b)
  | 0 => rfl
  | k + 1 => by
    rw [atTrip_succ]
    simp only [afterL_cons, afterL_nil]
    rw [after_of_writes_sub _ _ fwdNext_writes h.2.2.2.2.2, after_of_writes_sub _ _ fwdStore_writes h.2.2.2.2.1,
      after_of_writes_sub _ _ fwdCell_writes h.2.2.2.1, after_of_writes_sub _ _ fwdGates_writes h.2.2.1,
      after_of_writes_sub _ _ fwdRead_writes h.2.1, after_of_writes_sub _ _ fwdTest_writes h.1, fwd_keeps W₀ c b h k]

/-- A buffer that no stretch of the step writes is as it was after any number of steps. -/
theorem bwd_keeps (W₀ : Dev nD → Valuation τ sig (Elt F)) (c : Dev nD) (b : Ref sig .tc)
    (h : b ∉ bwdTest_dst ∧ b ∉ bwdRead_dst ∧ b ∉ bwdGates_dst ∧ b ∉ bwdCell_dst ∧ b ∉ bwdStore_dst ∧ b ∉ bwdNext_dst) :
    ∀ k, atTrip bwdTest bwdTrip W₀ k c (Proc.devRef .tc b) = W₀ c (Proc.devRef .tc b)
  | 0 => rfl
  | k + 1 => by
    rw [atTrip_succ]
    simp only [afterL_cons, afterL_nil]
    rw [after_of_writes_sub _ _ bwdNext_writes h.2.2.2.2.2, after_of_writes_sub _ _ bwdStore_writes h.2.2.2.2.1,
      after_of_writes_sub _ _ bwdCell_writes h.2.2.2.1, after_of_writes_sub _ _ bwdGates_writes h.2.2.1,
      after_of_writes_sub _ _ bwdRead_writes h.2.1, after_of_writes_sub _ _ bwdTest_writes h.1, bwd_keeps W₀ c b h k]

/-- No operation writes an argument. -/
theorem arg_atFwd (c : Dev nD) (b : Ref sig .tc) (h : b ∈ argRefs) : atFwd m c (Proc.devRef .tc b) = launchContents m c (Proc.devRef .tc b) := by
  unfold atFwd
  simp only [afterL_cons, afterL_nil]
  rw [after_of_writes_sub _ _ opsStart_writes ((show ∀ b ∈ argRefs, b ∉ opsStart_dst by decide +kernel) b h)]

/-- The first scan leaves the arguments alone. -/
theorem arg_pastFwd (c : Dev nD) (b : Ref sig .tc) (h : b ∈ argRefs) : pastFwd m c (Proc.devRef .tc b) = launchContents m c (Proc.devRef .tc b) := by
  unfold pastFwd
  have hb := (show ∀ b ∈ argRefs, b ∉ fwdTest_dst ∧ b ∉ fwdRead_dst ∧ b ∉ fwdGates_dst ∧ b ∉ fwdCell_dst ∧ b ∉ fwdStore_dst ∧ b ∉ fwdNext_dst by decide +kernel) b h
  rw [after_of_writes_sub _ _ fwdTest_writes hb.1, fwd_keeps _ c b hb, arg_atFwd m c b h]

/-- So do the operations up to the second scan. -/
theorem arg_atBwd (c : Dev nD) (b : Ref sig .tc) (h : b ∈ argRefs) : atBwd m c (Proc.devRef .tc b) = launchContents m c (Proc.devRef .tc b) := by
  unfold atBwd
  simp only [afterL_cons, afterL_nil]
  have hb := (show ∀ b ∈ argRefs, b ∉ opsMask_dst ∧ b ∉ opsWhere_dst ∧ b ∉ opsSpread_dst ∧ b ∉ opsTake_dst ∧ b ∉ opsBack_dst ∧ b ∉ opsCarry_dst by decide +kernel) b h
  rw [after_of_writes_sub _ _ opsCarry_writes hb.2.2.2.2.2, after_of_writes_sub _ _ opsBack_writes hb.2.2.2.2.1,
    after_of_writes_sub _ _ opsTake_writes hb.2.2.2.1, after_of_writes_sub _ _ opsSpread_writes hb.2.2.1,
    after_of_writes_sub _ _ opsWhere_writes hb.2.1, after_of_writes_sub _ _ opsMask_writes hb.1, arg_pastFwd m c b h]

/-- So does the whole reference. -/
theorem arg_atEnd (c : Dev nD) (b : Ref sig .tc) (h : b ∈ argRefs) : atEnd m c (Proc.devRef .tc b) = launchContents m c (Proc.devRef .tc b) := by
  unfold atEnd pastBwd
  simp only [afterL_cons, afterL_nil]
  have hc := (show ∀ b ∈ argRefs, b ∉ opsUnwind_dst ∧ b ∉ opsTakeBack_dst ∧ b ∉ opsJoin_dst by decide +kernel) b h
  have hb := (show ∀ b ∈ argRefs, b ∉ bwdTest_dst ∧ b ∉ bwdRead_dst ∧ b ∉ bwdGates_dst ∧ b ∉ bwdCell_dst ∧ b ∉ bwdStore_dst ∧ b ∉ bwdNext_dst by decide +kernel) b h
  rw [after_of_writes_sub _ _ opsJoin_writes hc.2.2, after_of_writes_sub _ _ opsTakeBack_writes hc.2.1, after_of_writes_sub _ _ opsUnwind_writes hc.1,
    after_of_writes_sub _ _ bwdTest_writes hb.1, bwd_keeps _ c b hb, arg_atBwd m c b h]

/-- The program terminates, with its result as `atEnd` says, its arguments unchanged and no counter moved. -/
theorem run_result [∀ e, Nonempty (Elt F e)] : θ_run (defs (F := F)) (onTc (τ := τ) (main (F := F))) ⟨m, fun _ => 0, ρ⟩
    (fun r => (∀ c : Dev nD, r.2.mem ((c.tc : Thread nD τ).loc main_v44) = atEnd m c (Proc.devRef .tc main_v44)) ∧
      (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9)) ∧ r.2.sem = fun _ => 0) :=
  (θ_run _ _ _).mono (fun r h => ⟨fun c => h.1 c main_v44 rfl, fun c => ⟨(h.1 c main_arg0 rfl).trans (arg_atEnd m c main_arg0 (by decide +kernel)), (h.1 c main_arg1 rfl).trans (arg_atEnd m c main_arg1 (by decide +kernel)), (h.1 c main_arg2 rfl).trans (arg_atEnd m c main_arg2 (by decide +kernel)), (h.1 c main_arg3 rfl).trans (arg_atEnd m c main_arg3 (by decide +kernel)), (h.1 c main_arg4 rfl).trans (arg_atEnd m c main_arg4 (by decide +kernel)), (h.1 c main_arg5 rfl).trans (arg_atEnd m c main_arg5 (by decide +kernel)), (h.1 c main_arg6 rfl).trans (arg_atEnd m c main_arg6 (by decide +kernel)), (h.1 c main_arg7 rfl).trans (arg_atEnd m c main_arg7 (by decide +kernel)), (h.1 c main_arg8 rfl).trans (arg_atEnd m c main_arg8 (by decide +kernel)), (h.1 c main_arg9 rfl).trans (arg_atEnd m c main_arg9 (by decide +kernel))⟩, h.2⟩) (run_end m ρ)

end Cert.ReferenceIdeal.Lstm

end
-- ==== Proof.ReferenceIdeal.Pure.lean ====
module

public import proofs.«01_k».proof.Proof.Gen.ReferenceIdeal
public import proofs.«01_k».proof.Proof.Value.Spec
public import proofs.«01_k».proof.Proof.Value.Words
public import Idealize.ShloMosaic.Lib.Pointwise
public import Idealize.ShloMosaic.Lib.ReduceAll
public import Idealize.ShloMosaic.Lib.IdealHost
public import Idealize.ShloMosaic.Lib.WordCmp
public import Idealize.ShloMosaic.Lib.WordArith.Masks
public import Idealize.ShloMosaic.Lib.Scf.Counter
public import Idealize.ShloMosaic.Lib.ValueIdxCore
public import Idealize.ShloMosaic.Lib.ValueLayout

/-! # The reference's operations as functions, read entry by entry

Both scans run the same step on different buffers; its pieces are functions here, and each is read at an entry in the words of
the recurrence (`Cert.Lstm`). -/

@[expose] public section

set_option maxRecDepth 16384

noncomputable section

namespace Cert.ReferenceIdeal.Lstm

open Idealize.ShloMosaic
open Cert.ReferenceIdeal.Gen
open Cert.Lstm
open scoped BigOperators

/-- Row `n` of a time-major array as a sequence of inputs. -/
def rowsOf (X : FVec Ideal S2048x16x256 .f32) (n : Fin 16) : ℕ → Fin 256 → EReal :=
  fun t j => if h : t < 2048 then X (ix3 ⟨t, h⟩ n j) else 0

/-- The step's start vector: the counter on the time axis, zero on the others. -/
abbrev startOf (i : IVec S_ 32) : Fin 3 → Int :=
  fun k => ((![i, constantI S_ 32 0#32, constantI S_ 32 0#32] : Fin 3 → IVec S_ 32) k (Shape.Idx.first h_S_)).toInt

/-- The input of the step the counter names. -/
def inputAt (X : FVec Ideal S2048x16x256 .f32) (i : IVec S_ 32) : FVec Ideal S16x256 .f32 :=
  shapeCast S16x256 (Host.dynamicSlice S1x16x256 X (startOf i) sliceFits_S2048x16x256_S1x16x256) shapeCasts_S1x16x256_S16x256

/-- The gate values of a step. -/
def gatesOf (x h : FVec Ideal S16x256 .f32) (wih whh : FVec Ideal S1024x256 .f32) (bih bhh : FVec Ideal S1024 .f32) : FVec Ideal S16x1024 .f32 :=
  addf (addf (addf
      (Host.dotGeneral dot_S16x256_S256x1024_S16x1024_1_0_0_1_n_n none x (transpose S256x1024 [1, 0] wih transposes_S1024x256_S256x1024_1_0))
      (Host.dotGeneral dot_S16x256_S256x1024_S16x1024_1_0_0_1_n_n none h (transpose S256x1024 [1, 0] whh transposes_S1024x256_S256x1024_1_0)))
    (broadcastInDim S16x1024 ![0, 1] bcast_S1x1024_S16x1024_0_1 (broadcastInDim S1x1024 ![1] bcast_S1024_S1x1024_1 bih)))
    (broadcastInDim S16x1024 ![0, 1] bcast_S1x1024_S16x1024_0_1 (broadcastInDim S1x1024 ![1] bcast_S1024_S1x1024_1 bhh))

/-- The sigmoid as the reference spells it. -/
def sigmoidOf (x : FVec Ideal S16x256 .f32) : FVec Ideal S16x256 .f32 :=
  Host.divf (broadcastInDim S16x256 ![] bcast_S_S16x256 (constant S_ .f32 0x3F800000#32))
    (addf (broadcastInDim S16x256 ![] bcast_S_S16x256 (constant S_ .f32 0x3F800000#32)) (Host.exp (Host.negf x)))

/-- The cell state after a step, from its gate values. -/
def cellOf (g : FVec Ideal S16x1024 .f32) (c : FVec Ideal S16x256 .f32) : FVec Ideal S16x256 .f32 :=
  addf (mulf (sigmoidOf (extractStridedSlice S16x256 ![0, 256] g slices_S16x1024_S16x256_0_256)) c)
    (mulf (sigmoidOf (extractStridedSlice S16x256 ![0, 0] g slices_S16x1024_S16x256_0_0))
      (Host.tanh (extractStridedSlice S16x256 ![0, 512] g slices_S16x1024_S16x256_0_512)))

/-- The hidden state after a step, from its gate values. -/
def hiddenOf (g : FVec Ideal S16x1024 .f32) (c : FVec Ideal S16x256 .f32) : FVec Ideal S16x256 .f32 :=
  mulf (sigmoidOf (extractStridedSlice S16x256 ![0, 768] g slices_S16x1024_S16x256_0_768)) (Host.tanh (cellOf g c))

/-- The outputs with a step's hidden state put in. -/
def storeAt (O : FVec Ideal S2048x16x256 .f32) (h : FVec Ideal S16x256 .f32) (i : IVec S_ 32) : FVec Ideal S2048x16x256 .f32 :=
  Host.dynamicUpdateSlice O (broadcastInDim S1x16x256 ![1, 2] bcast_S16x256_S1x16x256_1_2 h) (startOf i) updateFits_S2048x16x256_S1x16x256

/-- The start of the row read at step `k`. -/
theorem startOf_counter (k : ℕ) (hk : k < 2048) : startOf (fun _ => Scf.iv 0#32 1#32 k) = ![(k : Int), 0, 0] := by
  funext a
  match a with
  | ⟨0, _⟩ => exact counter_toInt k hk
  | ⟨1, _⟩ => rfl
  | ⟨2, _⟩ => rfl

/-- The input at step `k`, entry by entry. -/
theorem inputAt_apply (X : FVec Ideal S2048x16x256 .f32) (k : ℕ) (hk : k < 2048) (n : Fin 16) (j : Fin 256) :
    inputAt X (fun _ => Scf.iv 0#32 1#32 k) (ix2 n j) = rowsOf X n k j := by
  unfold inputAt rowsOf
  rw [dif_pos hk, startOf_counter k hk]
  rw [show shapeCast S16x256 (Host.dynamicSlice S1x16x256 X ![(k : Int), 0, 0] sliceFits_S2048x16x256_S1x16x256) shapeCasts_S1x16x256_S16x256 (ix2 n j)
      = Host.dynamicSlice S1x16x256 X ![(k : Int), 0, 0] sliceFits_S2048x16x256_S1x16x256 (ix3 0 n j) by simp only [pointwise]]
  rw [Host.dynamicSlice_apply]
  refine congrArg X (funext fun a => Fin.ext ?_)
  match a with
  | ⟨0, _⟩ =>
    show Host.clampedStart S2048x16x256 S1x16x256 _ _ 0 + (0 : Fin 1).val = k
    rw [Host.clampedStart_of_le _ _ 0 k rfl (by show k + 1 ≤ 2048; omega)]
    rfl
  | ⟨1, _⟩ =>
    show Host.clampedStart S2048x16x256 S1x16x256 _ _ 1 + n.val = n.val
    rw [Host.clampedStart_of_le _ _ 1 0 rfl (by show 0 + 16 ≤ 16; omega), Nat.zero_add]
  | ⟨2, _⟩ =>
    show Host.clampedStart S2048x16x256 S1x16x256 _ _ 2 + j.val = j.val
    rw [Host.clampedStart_of_le _ _ 2 0 rfl (by show 0 + 256 ≤ 256; omega), Nat.zero_add]

/-- The gates of a step, entry by entry. -/
theorem gatesOf_apply (x h : FVec Ideal S16x256 .f32) (wih whh : FVec Ideal S1024x256 .f32) (bih bhh : FVec Ideal S1024 .f32)
    (n : Fin 16) (r : Fin 1024) :
    gatesOf x h wih whh bih bhh (ix2 n r) = gate (weightsOf wih whh bih bhh) (fun k => x (ix2 n k)) (fun k => h (ix2 n k)) r := by
  unfold gatesOf gate weightsOf
  simp only [pointwise, zero_add]
  rfl

/-- The reference's sigmoid is the logistic function. -/
theorem sigmoidOf_apply (x : FVec Ideal S16x256 .f32) (i : S16x256.Idx) : sigmoidOf x i = Ideal.logistic (x i) := by
  show Ideal.div (Ideal.ofBits .f32 0x3F800000#32) (Ideal.ofBits .f32 0x3F800000#32 + Ideal.exp (-(x i))) = _
  rw [Ideal.ofBits_one_f32]
  rfl

/-- The `q`-th group of 256 gate values, entry by entry. -/
theorem group_apply (g : FVec Ideal S16x1024 .f32) (o : ℕ) (q : Fin 4) (ho : o = 256 * q.val) (hs : S16x1024.Slices ![0, o] S16x256)
    (n : Fin 16) (j : Fin 256) : extractStridedSlice S16x256 ![0, o] g hs (ix2 n j) = g (ix2 n (place q j)) := by
  subst ho
  simp only [pointwise]
  refine congrArg g (funext fun a => Fin.ext ?_)
  match a with
  | ⟨0, _⟩ => show 0 + n.val = n.val; omega
  | ⟨1, _⟩ => rfl

/-- The cell state after a step, entry by entry. -/
theorem cellOf_apply (g : FVec Ideal S16x1024 .f32) (c : FVec Ideal S16x256 .f32) (n : Fin 16) (j : Fin 256) :
    cellOf g c (ix2 n j) = Ideal.logistic (g (ix2 n (place 1 j))) * c (ix2 n j)
      + Ideal.logistic (g (ix2 n (place 0 j))) * Ideal.tanh (g (ix2 n (place 2 j))) := by
  show sigmoidOf _ (ix2 n j) * c (ix2 n j) + sigmoidOf _ (ix2 n j) * Ideal.tanh (extractStridedSlice S16x256 ![0, 512] g slices_S16x1024_S16x256_0_512 (ix2 n j)) = _
  rw [sigmoidOf_apply, sigmoidOf_apply, group_apply g 256 1 rfl, group_apply g 0 0 rfl, group_apply g 512 2 rfl]

/-- The hidden state after a step, entry by entry. -/
theorem hiddenOf_apply (g : FVec Ideal S16x1024 .f32) (c : FVec Ideal S16x256 .f32) (n : Fin 16) (j : Fin 256) :
    hiddenOf g c (ix2 n j) = Ideal.logistic (g (ix2 n (place 3 j))) * Ideal.tanh (cellOf g c (ix2 n j)) := by
  show sigmoidOf _ (ix2 n j) * Ideal.tanh (cellOf g c (ix2 n j)) = _
  rw [sigmoidOf_apply, group_apply g 768 3 rfl]

/-- Putting a hidden state in at step `k` changes the entries of that step and no others. -/
theorem storeAt_apply (O : FVec Ideal S2048x16x256 .f32) (h : FVec Ideal S16x256 .f32) (k : ℕ) (hk : k < 2048)
    (t : Fin 2048) (n : Fin 16) (j : Fin 256) :
    storeAt O h (fun _ => Scf.iv 0#32 1#32 k) (ix3 t n j) = if t.val = k then h (ix2 n j) else O (ix3 t n j) := by
  have s0 : Host.clampedStart S2048x16x256 S1x16x256 rfl ![(k : Int), 0, 0] 0 = k :=
    Host.clampedStart_of_le _ _ 0 k rfl (by show k + 1 ≤ 2048; omega)
  have s1 : Host.clampedStart S2048x16x256 S1x16x256 rfl ![(k : Int), 0, 0] 1 = 0 :=
    Host.clampedStart_of_le _ _ 1 0 rfl (by show 0 + 16 ≤ 16; omega)
  have s2 : Host.clampedStart S2048x16x256 S1x16x256 rfl ![(k : Int), 0, 0] 2 = 0 :=
    Host.clampedStart_of_le _ _ 2 0 rfl (by show 0 + 256 ≤ 256; omega)
  unfold storeAt
  rw [startOf_counter k hk, Host.dynamicUpdateSlice_apply]
  by_cases e : t.val = k
  · rw [if_pos e, dif_pos]
    · simp only [pointwise]
      refine congrArg h (funext fun a => Fin.ext ?_)
      match a with
      | ⟨0, _⟩ => show n.val - Host.clampedStart S2048x16x256 S1x16x256 rfl ![(k : Int), 0, 0] 1 = n.val; rw [s1]; rfl
      | ⟨1, _⟩ => show j.val - Host.clampedStart S2048x16x256 S1x16x256 rfl ![(k : Int), 0, 0] 2 = j.val; rw [s2]; rfl
    · intro a
      match a with
      | ⟨0, _⟩ => show Host.clampedStart S2048x16x256 S1x16x256 rfl ![(k : Int), 0, 0] 0 ≤ t.val ∧ t.val < Host.clampedStart S2048x16x256 S1x16x256 rfl ![(k : Int), 0, 0] 0 + 1; rw [s0]; omega
      | ⟨1, _⟩ => show Host.clampedStart S2048x16x256 S1x16x256 rfl ![(k : Int), 0, 0] 1 ≤ n.val ∧ n.val < Host.clampedStart S2048x16x256 S1x16x256 rfl ![(k : Int), 0, 0] 1 + 16; rw [s1]; omega
      | ⟨2, _⟩ => show Host.clampedStart S2048x16x256 S1x16x256 rfl ![(k : Int), 0, 0] 2 ≤ j.val ∧ j.val < Host.clampedStart S2048x16x256 S1x16x256 rfl ![(k : Int), 0, 0] 2 + 256; rw [s2]; omega
  · rw [if_neg e, dif_neg]
    intro hin
    have h0 : Host.clampedStart S2048x16x256 S1x16x256 rfl ![(k : Int), 0, 0] 0 ≤ t.val ∧ t.val < Host.clampedStart S2048x16x256 S1x16x256 rfl ![(k : Int), 0, 0] 0 + 1 := hin 0
    rw [s0] at h0
    omega

/-! ## A scan -/

/-- Buffers that start at zero and go through the step of a scan hold the recurrence's states, row by row, and the outputs hold
the hidden states of the steps gone through. -/
theorem scan (X : FVec Ideal S2048x16x256 .f32) (wih whh : FVec Ideal S1024x256 .f32) (bih bhh : FVec Ideal S1024 .f32)
    (h c : ℕ → FVec Ideal S16x256 .f32) (O : ℕ → FVec Ideal S2048x16x256 .f32)
    (h0 : ∀ n j, h 0 (ix2 n j) = 0) (c0 : ∀ n j, c 0 (ix2 n j) = 0)
    (hs : ∀ k, k < 2048 → h (k + 1) = hiddenOf (gatesOf (inputAt X (fun _ => Scf.iv 0#32 1#32 k)) (h k) wih whh bih bhh) (c k))
    (cs : ∀ k, k < 2048 → c (k + 1) = cellOf (gatesOf (inputAt X (fun _ => Scf.iv 0#32 1#32 k)) (h k) wih whh bih bhh) (c k))
    (Os : ∀ k, k < 2048 → O (k + 1) = storeAt (O k) (h (k + 1)) (fun _ => Scf.iv 0#32 1#32 k)) (n : Fin 16) :
    ∀ k, k ≤ 2048 → ((fun j => h k (ix2 n j)) = (states (weightsOf wih whh bih bhh) (rowsOf X n) k).1
      ∧ (fun j => c k (ix2 n j)) = (states (weightsOf wih whh bih bhh) (rowsOf X n) k).2
      ∧ ∀ t : Fin 2048, t.val < k → ∀ j, O k (ix3 t n j) = (states (weightsOf wih whh bih bhh) (rowsOf X n) (t.val + 1)).1 j)
  | 0, _ => ⟨funext (h0 n), funext (c0 n), fun t ht => absurd ht (by omega)⟩
  | k + 1, hk => by
    obtain ⟨ih, ic, iO⟩ := scan X wih whh bih bhh h c O h0 c0 hs cs Os n k (by omega)
    have eg : ∀ r, gatesOf (inputAt X (fun _ => Scf.iv 0#32 1#32 k)) (h k) wih whh bih bhh (ix2 n r)
        = gate (weightsOf wih whh bih bhh) (rowsOf X n k) (states (weightsOf wih whh bih bhh) (rowsOf X n) k).1 r := by
      intro r
      rw [gatesOf_apply, ih, show (fun j => inputAt X (fun _ => Scf.iv 0#32 1#32 k) (ix2 n j)) = rowsOf X n k from
        funext fun j => inputAt_apply X k (by omega) n j]
    have ec : (fun j => c (k + 1) (ix2 n j)) = (states (weightsOf wih whh bih bhh) (rowsOf X n) (k + 1)).2 := by
      funext j
      rw [cs k (by omega), cellOf_apply, eg, eg, eg, show c k (ix2 n j) = _ from congrFun ic j]
      rfl
    have eh : (fun j => h (k + 1) (ix2 n j)) = (states (weightsOf wih whh bih bhh) (rowsOf X n) (k + 1)).1 := by
      funext j
      rw [hs k (by omega), hiddenOf_apply, eg, ← cs k (by omega), show c (k + 1) (ix2 n j) = _ from congrFun ec j]
      rfl
    refine ⟨eh, ec, fun t ht j => ?_⟩
    rw [Os k (by omega), storeAt_apply _ _ k (by omega)]
    by_cases e : t.val = k
    · rw [if_pos e, e]
      exact congrFun eh j
    · rw [if_neg e]
      exact iO t (by omega) j

/-! ## Masks, the reversing index, and the taking along it -/

/-- One where a position lies before its row's length, zero elsewhere. -/
def maskOf (seq : IVec S16 32) : FVec Ideal S16x2048 .f32 :=
  uitofp .f32 (cmpi .slt
    (broadcastInDim S16x2048 ![0, 1] bcast_S1x2048_S16x2048_0_1 (broadcastInDim S1x2048 ![1] bcast_S2048_S1x2048_1 (iotaInDim S2048 32 0)))
    (broadcastInDim S16x2048 ![0, 1] bcast_S16x1_S16x2048_0_1 (broadcastInDim S16x1 ![0] bcast_S16_S16x1_0 seq)))

/-- An array with the positions off the mask set to zero. -/
def maskedOf (O : FVec Ideal S16x2048x256 .f32) (M : FVec Ideal S16x2048 .f32) : FVec Ideal S16x2048x256 .f32 :=
  mulf O (broadcastInDim S16x2048x256 ![0, 1, 2] bcast_S16x2048x1_S16x2048x256_0_1_2 (broadcastInDim S16x2048x1 ![0, 1] bcast_S16x2048_S16x2048x1_0_1 M))

/-- A row's length less one less the position. -/
def countdown (seq : IVec S16 32) : IVec S16x2048 32 :=
  subi
    (broadcastInDim S16x2048 ![0, 1] bcast_S16x1_S16x2048_0_1
      (subi (broadcastInDim S16x1 ![0] bcast_S16_S16x1_0 seq) (broadcastInDim S16x1 ![] bcast_S_S16x1 (constantI S_ 32 1#32))))
    (broadcastInDim S16x2048 ![0, 1] bcast_S1x2048_S16x2048_0_1 (broadcastInDim S1x2048 ![1] bcast_S2048_S1x2048_1 (iotaInDim S2048 32 0)))

/-- The index that reverses a row's first length-many positions, zero beyond. -/
def revOf (seq : IVec S16 32) : IVec S16x2048 32 :=
  select (cmpi .slt
      (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0 seq)))
    (countdown seq)
    (broadcastInDim S16x2048 ![] bcast_S_S16x2048 (constantI S_ 32 0#32))

/-- An index for each position, spread over the units. -/
def spreadOf (ix : IVec S16x2048 32) : IVec S16x2048x256 32 :=
  broadcastInDim S16x2048x256 ![0, 1, 2] bcast_S16x2048x1_S16x2048x256_0_1_2 (broadcastInDim S16x2048x1 ![0, 1] bcast_S16x2048_S16x2048x1_0_1 ix)

/-- The start indices of the taking: a negative index counts from the end. -/
def wrapOf (ix : IVec S16x2048x256 32) : IVec S16x2048x256x1 32 :=
  shapeCast S16x2048x256x1 (select (cmpi .slt ix (broadcastInDim S16x2048x256 ![] bcast_S_S16x2048x256 (constantI S_ 32 0#32)))
    (addi ix (broadcastInDim S16x2048x256 ![] bcast_S_S16x2048x256 (constantI S_ 32 2048#32))) ix) shapeCasts_S16x2048x256_S16x2048x256x1

/-- Which start indices are in range. -/
def inRangeOf (st : IVec S16x2048x256x1 32) : IVec S16x2048x256x1 1 :=
  andi (cmpi .sge st (broadcastInDim S16x2048x256x1 ![] bcast_S_S16x2048x256x1 (constantI S_ 32 0#32)))
    (cmpi .sle st (broadcastInDim S16x2048x256x1 ![0, 1, 2, 3] bcast_S1x1x1x1_S16x2048x256x1_0_1_2_3
      (broadcastInDim S1x1x1x1 ![3] bcast_S1_S1x1x1x1_3 (constantI S1 32 2047#32))))

/-- An array taken along its positions; an index out of range takes a filling value. -/
def takeOf (x : FVec Ideal S16x2048x256 .f32) (ix : IVec S16x2048x256 32) : FVec Ideal S16x2048x256 .f32 :=
  select (Host.reduce IntOp.andi (inRangeOf (wrapOf ix)) (constantI S_ 1 1#1) reducesTo_S16x2048x256x1_S16x2048x256_d3 h_S_)
    (Host.gather gather_S16x2048x256_S16x2048x256x1_S16x2048x256_n_1_02_02_1_3_111 x (wrapOf ix))
    (broadcastInDim S16x2048x256 ![] bcast_S_S16x2048x256 (constant S_ .f32 0x7FC00000#32))

/-- The comparison of positions with lengths, entry by entry. -/
theorem before_apply (seq : IVec S16 32) (n : Fin 16) (t : Fin 2048) :
    cmpi .slt
      (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0 seq)) (ix2 n t)
      = if (t.val : Int) < (seq (ix1 n)).toInt then 1#1 else 0#1 := by
  show IntOp.cmpi .slt (BitVec.ofNat 32 t.val) _ = _
  rw [cmpi_slt_if, position_toInt t.val t.isLt]
  simp only [pointwise]
  rfl

/-- The mask, entry by entry. -/
theorem maskOf_apply (seq : IVec S16 32) (n : Fin 16) (t : Fin 2048) :
    maskOf seq (ix2 n t) = if (t.val : Int) < (seq (ix1 n)).toInt then 1 else 0 := by
  show FloatOps.uitofp .f32 (cmpi .slt _ _ (ix2 n t)) = _
  rw [before_apply]
  split_ifs
  · show (((1#1 : BitVec 1).toNat : ℝ) : EReal) = 1
    simp
  · show (((0#1 : BitVec 1).toNat : ℝ) : EReal) = 0
    simp

/-- A masked output, entry by entry. -/
theorem maskedOf_apply (O : FVec Ideal S16x2048x256 .f32) (M : FVec Ideal S16x2048 .f32) (n : Fin 16) (t : Fin 2048) (j : Fin 256) :
    maskedOf O M (ix3 n t j) = O (ix3 n t j) * M (ix2 n t) := by
  unfold maskedOf
  simp only [pointwise]
  rfl

/-- The positions spread over the units, entry by entry. -/
theorem spreadOf_apply (ix : IVec S16x2048 32) (n : Fin 16) (t : Fin 2048) (j : Fin 256) :
    spreadOf ix (ix3 n t j) = ix (ix2 n t) := by
  unfold spreadOf
  simp only [pointwise]
  rfl

/-- A selection, entry by entry. -/
theorem select_at {s : Shape} {α : Type} (c : IVec s 1) (a b : s.Idx → α) (i : s.Idx) : select c a b i = Scalar.select (c i) (a i) (b i) := rfl

/-- The length less one less the position. -/
theorem countdown_apply (seq : IVec S16 32) (n : Fin 16) (t : Fin 2048) :
    countdown seq (ix2 n t) = seq (ix1 n) - 1#32 - BitVec.ofNat 32 t.val := by
  unfold countdown
  simp only [pointwise]
  rfl

/-- Where no length exceeds 2048, the reversing index of a position before the length is the length less one less the
position, and zero elsewhere. -/
theorem revOf_apply (seq : IVec S16 32) (n : Fin 16) (t : Fin 2048) (hl : (seq (ix1 n)).toInt ≤ 2048) :
    (revOf seq (ix2 n t)).toInt = if (t.val : Int) < (seq (ix1 n)).toInt then (seq (ix1 n)).toInt - 1 - t.val else 0 := by
  unfold revOf
  rw [select_at, before_apply, countdown_apply]
  unfold Scalar.select
  by_cases h : (t.val : Int) < (seq (ix1 n)).toInt
  · rw [if_pos h, if_pos (show (1#1 : BitVec 1) = 1 from rfl), if_pos h]
    have e1 : (seq (ix1 n) - 1#32).toInt = (seq (ix1 n)).toInt - 1 := by
      rw [BitVec.toInt_sub, show (1#32 : BitVec 32).toInt = 1 from rfl, Int.bmod_eq_of_le (by omega) (by omega)]
    rw [BitVec.toInt_sub, e1, position_toInt t.val t.isLt, Int.bmod_eq_of_le (by omega) (by omega)]
  · rw [if_neg h, if_neg (show ¬ (0#1 : BitVec 1) = 1 by decide), if_neg h]
    rfl

/-- Start indices that are already in range are left as they are. -/
theorem wrapOf_apply (ix : IVec S16x2048x256 32) (n : Fin 16) (t : Fin 2048) (j : Fin 256) (u : Fin 1) (h : 0 ≤ (ix (ix3 n t j)).toInt) :
    wrapOf ix (ix4 n t j u) = ix (ix3 n t j) := by
  unfold wrapOf
  simp only [pointwise]
  rw [cmpi_slt_if, if_neg (by show ¬ _ < (0 : Int); omega)]
  rfl

/-- They are in range. -/
theorem inRangeOf_apply (ix : IVec S16x2048x256 32) (h : ∀ y, 0 ≤ (ix y).toInt ∧ (ix y).toInt ≤ 2047) (y : S16x2048x256x1.Idx) :
    inRangeOf (wrapOf ix) y = 1#1 := by
  idx_vars y
  obtain ⟨h1, h2⟩ := h (ix3 y0 y1 y2)
  show IntOp.andi (IntOp.cmpi .sge (wrapOf ix (ix4 y0 y1 y2 y3)) 0#32) (IntOp.cmpi .sle (wrapOf ix (ix4 y0 y1 y2 y3)) 2047#32) = 1#1
  rw [wrapOf_apply ix y0 y1 y2 y3 h1, WordCmp.cmpi_sge_eq, WordCmp.cmpi_sle_eq,
    decide_eq_true (show (0#32 : BitVec 32).toInt ≤ _ from h1), decide_eq_true (show _ ≤ (2047#32 : BitVec 32).toInt from h2)]
  rfl

/-- The dimension numbers of the taking. -/
abbrev takeDims : GatherDims S16x2048x256 S16x2048x256x1 S16x2048x256 := gather_S16x2048x256_S16x2048x256x1_S16x2048x256_n_1_02_02_1_3_111

/-- The gather of the taking, entry by entry: the start index names the position, read signed and kept within the array. -/
theorem gather_apply (x : FVec Ideal S16x2048x256 .f32) (st : IVec S16x2048x256x1 32) (n : Fin 16) (t : Fin 2048) (j : Fin 256) :
    Host.gather takeDims x st (ix3 n t j) = x (ix3 n ⟨min (st (ix4 n t j 0)).toInt.toNat 2047, by omega⟩ j) := by
  have side (a : Fin 3) (ha : a ∈ takeDims.operandBatchingDims) (v : ℕ) (hv : takeDims.batchCoord (ix3 n t j) a = v) :
      takeDims.start (ix3 n t j) st a + takeDims.batchCoord (ix3 n t j) a + takeDims.offCoord (ix3 n t j) a = v := by
    rw [GatherDims.start_batching _ _ _ _ ha, GatherDims.offCoord_eq_zero _ _ _ (fun h => ((GatherDims.mem_sKept _ _).mp h).2 ha), hv]
    omega
  unfold Host.gather
  refine congrArg x (funext fun a => Fin.ext ?_)
  match a with
  | ⟨0, _⟩ => exact side 0 (by decide) n.val rfl
  | ⟨2, _⟩ => exact side 2 (by decide) j.val rfl
  | ⟨1, _⟩ =>
    show takeDims.start (ix3 n t j) st 1 + takeDims.batchCoord (ix3 n t j) 1 + takeDims.offCoord (ix3 n t j) 1 = _
    rw [GatherDims.batchCoord_eq_zero _ _ _ (by decide), GatherDims.offCoord_eq_zero _ _ _ (by decide)]
    unfold GatherDims.start
    rw [dif_pos (by decide)]
    rw [show takeDims.siIdx (ix3 n t j) ⟨List.idxOf (1 : Fin 3) takeDims.startIndexMap, by decide⟩ = ix4 n t j 0 from by
      funext b
      refine Fin.ext ?_
      match b with
      | ⟨0, _⟩ => rfl
      | ⟨1, _⟩ => rfl
      | ⟨2, _⟩ => rfl
      | ⟨3, _⟩ => rfl]
    rfl

/-- The taking, entry by entry, at indices in range. -/
theorem takeOf_apply (x : FVec Ideal S16x2048x256 .f32) (ix : IVec S16x2048x256 32) (h : ∀ y, 0 ≤ (ix y).toInt ∧ (ix y).toInt ≤ 2047)
    (n : Fin 16) (t : Fin 2048) (j : Fin 256) :
    takeOf x ix (ix3 n t j) = x (ix3 n ⟨(ix (ix3 n t j)).toInt.toNat, by have := h (ix3 n t j); omega⟩ j) := by
  have e : Host.reduce IntOp.andi (inRangeOf (wrapOf ix)) (constantI S_ 1 1#1) reducesTo_S16x2048x256x1_S16x2048x256_d3 h_S_ (ix3 n t j) = 1#1 :=
    Host.reduce_andi_one _ _ _ _ _ rfl (inRangeOf_apply ix h)
  unfold takeOf
  rw [select_at, e, gather_apply]
  unfold Scalar.select
  rw [if_pos (show (1#1 : BitVec 1) = 1 from rfl)]
  have h1 := h (ix3 n t j)
  refine congrArg (fun v => x (ix3 n v j)) (Fin.ext ?_)
  rw [Fin.val_mk, Fin.val_mk, wrapOf_apply ix n t j 0 h1.1, min_eq_left (by omega)]

/-! ## The whole result -/

/-- A time-major array of a batch-major one. -/
abbrev timeMajor (x : FVec Ideal S16x2048x256 .f32) : FVec Ideal S2048x16x256 .f32 := transpose S2048x16x256 [1, 0, 2] x transposes_S16x2048x256_S2048x16x256_1_0_2
/-- A batch-major array of a time-major one. -/
abbrev batchMajor (x : FVec Ideal S2048x16x256 .f32) : FVec Ideal S16x2048x256 .f32 := transpose S16x2048x256 [1, 0, 2] x transposes_S2048x16x256_S16x2048x256_1_0_2

/-- The two outputs of the scans, masked and joined. -/
def joined (seq : IVec S16 32) (OF OB : FVec Ideal S2048x16x256 .f32) : FVec Ideal S16x2048x512 .f32 :=
  concatenate S16x2048x512 2 [⟨S16x2048x256, maskedOf (batchMajor OF) (maskOf seq)⟩,
    ⟨S16x2048x256, maskedOf (takeOf (batchMajor OB) (spreadOf (revOf seq))) (maskOf seq)⟩] concatenates_S16x2048x256_S16x2048x256_S16x2048x512_d2

/-- Two arrays joined along their units, entry by entry. -/
theorem join_apply (A B : FVec Ideal S16x2048x256 .f32) (n : Fin 16) (t : Fin 2048) (u : Fin 512) :
    concatenate S16x2048x512 2 [⟨S16x2048x256, A⟩, ⟨S16x2048x256, B⟩] concatenates_S16x2048x256_S16x2048x256_S16x2048x512_d2 (ix3 n t u)
      = if h : u.val < 256 then A (ix3 n t ⟨u.val, h⟩) else B (ix3 n t ⟨u.val - 256, by omega⟩) := by
  simp only [pointwise]
  rfl

/-- The reversed positions lie within the sequence. -/
theorem spread_rev_range (seq : IVec S16 32) (hl : ∀ n, (seq (ix1 n)).toInt ≤ 2048) (y : S16x2048x256.Idx) :
    0 ≤ (spreadOf (revOf seq) y).toInt ∧ (spreadOf (revOf seq) y).toInt ≤ 2047 := by
  idx_vars y
  have := hl y0
  rw [spreadOf_apply, revOf_apply _ _ _ (hl y0)]
  split_ifs <;> omega

/-- The rows of the time-major inputs are the input sequences. -/
theorem rowsOf_timeMajor (x : FVec Ideal S16x2048x256 .f32) (n : Fin 16) : rowsOf (timeMajor x) n = sequenceOf x n := by
  funext t j
  unfold rowsOf sequenceOf
  split_ifs
  · simp only [pointwise]
  · rfl

/-- The second scan's inputs, up to the length, are the first's in reverse. -/
theorem rowsOf_reversed (x : FVec Ideal S16x2048x256 .f32) (seq : IVec S16 32) (hl : ∀ n, (seq (ix1 n)).toInt ≤ 2048) (n : Fin 16)
    (t : ℕ) (ht : (t : Int) < (seq (ix1 n)).toInt) :
    rowsOf (timeMajor (takeOf x (spreadOf (revOf seq)))) n t = sequenceOf x n ((seq (ix1 n)).toInt.toNat - 1 - t) := by
  have hn := hl n
  rw [rowsOf_timeMajor]
  funext j
  unfold sequenceOf
  rw [dif_pos (by omega), dif_pos (by omega), takeOf_apply _ _ (spread_rev_range seq hl)]
  refine congrArg (fun v => x (ix3 n v j)) (Fin.ext ?_)
  show (spreadOf (revOf seq) (ix3 n ⟨t, _⟩ j)).toInt.toNat = (seq (ix1 n)).toInt.toNat - 1 - t
  rw [spreadOf_apply, revOf_apply _ _ _ (hl n), if_pos ht]
  show ((seq (ix1 n)).toInt - 1 - (t : Int)).toNat = _
  omega

/-- The joined array is the bidirectional output, given what the scans leave. -/
theorem joined_apply (x : FVec Ideal S16x2048x256 .f32) (seq : IVec S16 32) (hl : ∀ n, (seq (ix1 n)).toInt ≤ 2048) (wf wb : Weights)
    (OF OB : FVec Ideal S2048x16x256 .f32) (n : Fin 16)
    (hF : ∀ t : Fin 2048, ∀ j, OF (ix3 t n j) = (states wf (rowsOf (timeMajor x) n) (t.val + 1)).1 j)
    (hB : ∀ t : Fin 2048, ∀ j, OB (ix3 t n j) = (states wb (rowsOf (timeMajor (takeOf x (spreadOf (revOf seq)))) n) (t.val + 1)).1 j)
    (t : Fin 2048) (u : Fin 512) :
    joined seq OF OB (ix3 n t u) = output wf wb (sequenceOf x n) (seq (ix1 n)).toInt t.val u := by
  have hn := hl n
  unfold joined output
  rw [join_apply]
  by_cases hu : u.val < 256
  · rw [dif_pos hu, dif_pos hu]
    · rw [maskedOf_apply, maskOf_apply, show batchMajor OF (ix3 n t ⟨u.val, hu⟩) = OF (ix3 t n ⟨u.val, hu⟩) by simp only [pointwise], hF, rowsOf_timeMajor]
      unfold forward
      split_ifs
      · rw [mul_one]
      · rw [mul_zero]
  · rw [dif_neg hu, dif_neg hu]
    · rw [maskedOf_apply, maskOf_apply]
      unfold backward
      by_cases ht : (t.val : Int) < (seq (ix1 n)).toInt
      · rw [if_pos ht, if_pos ht, mul_one, takeOf_apply _ _ (spread_rev_range seq hl)]
        generalize ht' : (⟨(spreadOf (revOf seq) (ix3 n t ⟨u.val - 256, by omega⟩)).toInt.toNat, _⟩ : Fin 2048) = t'
        have e : t'.val = (seq (ix1 n)).toInt.toNat - 1 - t.val := by
          rw [← ht']
          show (spreadOf (revOf seq) (ix3 n t ⟨u.val - 256, _⟩)).toInt.toNat = _
          rw [spreadOf_apply, revOf_apply _ _ _ (hl n), if_pos ht]
          omega
        rw [show batchMajor OB (ix3 n t' ⟨u.val - 256, by omega⟩) = OB (ix3 t' n ⟨u.val - 256, by omega⟩) by simp only [pointwise], hB, e]
        rw [show (seq (ix1 n)).toInt.toNat - 1 - t.val + 1 = (seq (ix1 n)).toInt.toNat - t.val by omega]
        rw [states_congr wb _ _ _ fun s hs => rowsOf_reversed x seq hl n s (by omega)]
      · rw [if_neg ht, if_neg ht, mul_zero]

end Cert.ReferenceIdeal.Lstm

end
-- ==== Proof.ReferenceIdeal.Value.lean ====
module

public import proofs.«01_k».proof.Proof.ReferenceIdeal.Run
public import proofs.«01_k».proof.Proof.ReferenceIdeal.Pure
public import Idealize.ShloMosaic.Lib.StableHlo.RunClose

/-! # What the reference computes

The buffers that the scans carry are read after each stretch of a step in the words of `Pure`, the scans then by its theorem
`scan`, and the result after the stretches in between and at the end: it is the bidirectional output of `Cert.Lstm`. -/

@[expose] public section

set_option maxRecDepth 16384

noncomputable section

namespace Cert.ReferenceIdeal.Lstm

open Idealize.ShloMosaic Idealize.ShloMosaic.TcCoe Idealize.ShloMosaic.Tactic
open Idealize.ShloMosaic.StableHlo
open Cert.ReferenceIdeal.Gen
open Cert.Lstm

/-- Contents of the buffers at the extended reals. -/
abbrev Contents : Type := Valuation τ sig (Elt Ideal)

/-- A typed buffer's contents, put in and read back. -/
theorem ofBuf_toBuf {T : BufTy} (x : TRef sig T) (v : T.Contents (Elt Ideal)) : x.ofBuf (x.toBuf v) = v := by
  obtain ⟨r, h1, h2, h3⟩ := x
  subst h1
  rfl

/-- The zero states a scan starts from. -/
abbrev zeros : FVec Ideal S16x256 .f32 := broadcastInDim S16x256 ![] bcast_S_S16x256 (constant S_ .f32 0x00000000#32)

/-! ## The first scan -/

set_option maxRecDepth 100000 in
theorem fwdRead_input (V : Contents) : after fwdRead V (Proc.devRef .tc main_while0b_v45)
    = inputAt (V (Proc.devRef .tc main_v11_0)) (V (Proc.devRef .tc main_v11_5)) := by
  after_results_simp_entrywise
  rfl

set_option maxRecDepth 100000 in
theorem fwdGates_gates (V : Contents) : after fwdGates V (Proc.devRef .tc main_while0b_v56)
    = gatesOf (V (Proc.devRef .tc main_while0b_v45)) (V (Proc.devRef .tc main_v11_6)) (V (Proc.devRef .tc main_v11_1))
        (V (Proc.devRef .tc main_v11_2)) (V (Proc.devRef .tc main_v11_3)) (V (Proc.devRef .tc main_v11_4)) := by
  after_results
  rfl

set_option maxRecDepth 100000 in
theorem fwdCell_cell (V : Contents) : after fwdCell V (Proc.devRef .tc main_while0b_v82)
    = cellOf (V (Proc.devRef .tc main_while0b_v56)) (V (Proc.devRef .tc main_v11_7)) := by
  after_results
  rfl

set_option maxRecDepth 100000 in
theorem fwdCell_hidden (V : Contents) : after fwdCell V (Proc.devRef .tc main_while0b_v84)
    = hiddenOf (V (Proc.devRef .tc main_while0b_v56)) (V (Proc.devRef .tc main_v11_7)) := by
  after_results
  rfl

set_option maxRecDepth 100000 in
theorem fwdStore_outputs (V : Contents) : after fwdStore V (Proc.devRef .tc main_while0b_v85)
    = storeAt (V (Proc.devRef .tc main_v11_8)) (V (Proc.devRef .tc main_while0b_v84)) (V (Proc.devRef .tc main_v11_5)) := by
  after_results_simp_entrywise
  rfl

set_option maxRecDepth 100000 in
theorem fwdNext_carried (V : Contents) : after fwdNext V (Proc.devRef .tc main_v11_6) = V (Proc.devRef .tc main_while0b_v84)
    ∧ after fwdNext V (Proc.devRef .tc main_v11_7) = V (Proc.devRef .tc main_while0b_v82)
    ∧ after fwdNext V (Proc.devRef .tc main_v11_8) = V (Proc.devRef .tc main_while0b_v85) := by
  refine ⟨?_, ?_, ?_⟩
  all_goals after_results
  all_goals rfl

/-- One step of the first scan, on what it carries. -/
theorem fwd_step (W₀ : Dev nD → Contents) (c : Dev nD) (k : ℕ) :
    (atTrip fwdTest fwdTrip W₀ (k + 1) c (Proc.devRef .tc main_v11_6)
      = hiddenOf (gatesOf (inputAt (atTrip fwdTest fwdTrip W₀ k c (Proc.devRef .tc main_v11_0)) (atTrip fwdTest fwdTrip W₀ k c (Proc.devRef .tc main_v11_5)))
          (atTrip fwdTest fwdTrip W₀ k c (Proc.devRef .tc main_v11_6)) (atTrip fwdTest fwdTrip W₀ k c (Proc.devRef .tc main_v11_1))
          (atTrip fwdTest fwdTrip W₀ k c (Proc.devRef .tc main_v11_2)) (atTrip fwdTest fwdTrip W₀ k c (Proc.devRef .tc main_v11_3))
          (atTrip fwdTest fwdTrip W₀ k c (Proc.devRef .tc main_v11_4))) (atTrip fwdTest fwdTrip W₀ k c (Proc.devRef .tc main_v11_7)))
    ∧ (atTrip fwdTest fwdTrip W₀ (k + 1) c (Proc.devRef .tc main_v11_7)
      = cellOf (gatesOf (inputAt (atTrip fwdTest fwdTrip W₀ k c (Proc.devRef .tc main_v11_0)) (atTrip fwdTest fwdTrip W₀ k c (Proc.devRef .tc main_v11_5)))
          (atTrip fwdTest fwdTrip W₀ k c (Proc.devRef .tc main_v11_6)) (atTrip fwdTest fwdTrip W₀ k c (Proc.devRef .tc main_v11_1))
          (atTrip fwdTest fwdTrip W₀ k c (Proc.devRef .tc main_v11_2)) (atTrip fwdTest fwdTrip W₀ k c (Proc.devRef .tc main_v11_3))
          (atTrip fwdTest fwdTrip W₀ k c (Proc.devRef .tc main_v11_4))) (atTrip fwdTest fwdTrip W₀ k c (Proc.devRef .tc main_v11_7)))
    ∧ (atTrip fwdTest fwdTrip W₀ (k + 1) c (Proc.devRef .tc main_v11_8)
      = storeAt (atTrip fwdTest fwdTrip W₀ k c (Proc.devRef .tc main_v11_8)) (atTrip fwdTest fwdTrip W₀ (k + 1) c (Proc.devRef .tc main_v11_6))
          (atTrip fwdTest fwdTrip W₀ k c (Proc.devRef .tc main_v11_5))) := by
  rw [atTrip_succ]
  generalize atTrip fwdTest fwdTrip W₀ k c = V
  simp only [afterL_cons, afterL_nil]
  have keep (b : Ref sig .tc) (h1 : b ∉ fwdTest_dst) (h2 : b ∉ fwdRead_dst) :
      after fwdRead (after fwdTest V) (Proc.devRef .tc b) = V (Proc.devRef .tc b) := by
    rw [after_of_writes_sub _ _ fwdRead_writes h2, after_of_writes_sub _ _ fwdTest_writes h1]
  have eg : after fwdGates (after fwdRead (after fwdTest V)) (Proc.devRef .tc main_while0b_v56)
      = gatesOf (inputAt (V (Proc.devRef .tc main_v11_0)) (V (Proc.devRef .tc main_v11_5))) (V (Proc.devRef .tc main_v11_6))
          (V (Proc.devRef .tc main_v11_1)) (V (Proc.devRef .tc main_v11_2)) (V (Proc.devRef .tc main_v11_3)) (V (Proc.devRef .tc main_v11_4)) := by
    rw [fwdGates_gates, fwdRead_input, after_of_writes_sub _ _ fwdTest_writes (by decide +kernel : main_v11_0 ∉ fwdTest_dst),
      after_of_writes_sub _ _ fwdTest_writes (by decide +kernel : main_v11_5 ∉ fwdTest_dst),
      keep main_v11_6 (by decide +kernel) (by decide +kernel), keep main_v11_1 (by decide +kernel) (by decide +kernel),
      keep main_v11_2 (by decide +kernel) (by decide +kernel), keep main_v11_3 (by decide +kernel) (by decide +kernel),
      keep main_v11_4 (by decide +kernel) (by decide +kernel)]
  have keepG (b : Ref sig .tc) (h1 : b ∉ fwdTest_dst) (h2 : b ∉ fwdRead_dst) (h3 : b ∉ fwdGates_dst) :
      after fwdGates (after fwdRead (after fwdTest V)) (Proc.devRef .tc b) = V (Proc.devRef .tc b) := by
    rw [after_of_writes_sub _ _ fwdGates_writes h3, keep b h1 h2]
  have ec := keepG main_v11_7 (by decide +kernel) (by decide +kernel) (by decide +kernel)
  have eo := keepG main_v11_8 (by decide +kernel) (by decide +kernel) (by decide +kernel)
  have ei := keepG main_v11_5 (by decide +kernel) (by decide +kernel) (by decide +kernel)
  generalize after fwdGates (after fwdRead (after fwdTest V)) = U at *
  obtain ⟨n6, n7, n8⟩ := fwdNext_carried (after fwdStore (after fwdCell U))
  rw [n6, n7, n8, fwdStore_outputs, after_of_writes_sub _ _ fwdStore_writes (by decide +kernel : main_while0b_v84 ∉ fwdStore_dst),
    after_of_writes_sub _ _ fwdStore_writes (by decide +kernel : main_while0b_v82 ∉ fwdStore_dst), fwdCell_cell, fwdCell_hidden,
    after_of_writes_sub _ _ fwdCell_writes (by decide +kernel : main_v11_8 ∉ fwdCell_dst),
    after_of_writes_sub _ _ fwdCell_writes (by decide +kernel : main_v11_5 ∉ fwdCell_dst), eg, ec, eo, ei]
  exact ⟨rfl, rfl, rfl⟩

/-- The first scan, entered with zero states and its counter at zero, leaves the hidden states of the recurrence. -/
theorem fwd_outputs (W₀ : Dev nD → Contents) (hctr : ∀ c, W₀ c (Proc.devRef .tc main_v11_5) = fun _ => (0#32 : BitVec 32)) (c : Dev nD)
    (h0 : ∀ n j, (W₀ c (Proc.devRef .tc main_v11_6) : FVec Ideal S16x256 .f32) (ix2 n j) = (0 : EReal))
    (c0 : ∀ n j, (W₀ c (Proc.devRef .tc main_v11_7) : FVec Ideal S16x256 .f32) (ix2 n j) = (0 : EReal))
    (n : Fin 16) (t : Fin 2048) (j : Fin 256) :
    (after fwdTest (atTrip fwdTest fwdTrip W₀ 2048 c) (Proc.devRef .tc main_v11_8) : FVec Ideal S2048x16x256 .f32) (ix3 t n j)
      = (states (weightsOf (W₀ c (Proc.devRef .tc main_v11_1)) (W₀ c (Proc.devRef .tc main_v11_2)) (W₀ c (Proc.devRef .tc main_v11_3))
          (W₀ c (Proc.devRef .tc main_v11_4))) (rowsOf (W₀ c (Proc.devRef .tc main_v11_0)) n) (t.val + 1)).1 j := by
  rw [after_of_writes_sub _ _ fwdTest_writes (by decide +kernel : main_v11_8 ∉ fwdTest_dst)]
  have keep (b : Ref sig .tc) (hb : b ∈ [main_v11_0, main_v11_1, main_v11_2, main_v11_3, main_v11_4]) (k : ℕ) :
      atTrip fwdTest fwdTrip W₀ k c (Proc.devRef .tc b) = W₀ c (Proc.devRef .tc b) :=
    fwd_keeps W₀ c b ((show ∀ b ∈ [main_v11_0, main_v11_1, main_v11_2, main_v11_3, main_v11_4], b ∉ fwdTest_dst ∧ b ∉ fwdRead_dst ∧ b ∉ fwdGates_dst ∧ b ∉ fwdCell_dst ∧ b ∉ fwdStore_dst ∧ b ∉ fwdNext_dst by decide +kernel) b hb) k
  have e (k : ℕ) := fwd_step W₀ c k
  simp only [keep main_v11_0 (by decide +kernel), keep main_v11_1 (by decide +kernel), keep main_v11_2 (by decide +kernel),
    keep main_v11_3 (by decide +kernel), keep main_v11_4 (by decide +kernel), fwd_counter W₀ hctr c] at e
  exact (scan (W₀ c (Proc.devRef .tc main_v11_0)) _ _ _ _ (fun k => atTrip fwdTest fwdTrip W₀ k c (Proc.devRef .tc main_v11_6))
    (fun k => atTrip fwdTest fwdTrip W₀ k c (Proc.devRef .tc main_v11_7)) (fun k => atTrip fwdTest fwdTrip W₀ k c (Proc.devRef .tc main_v11_8))
    h0 c0 (fun k _ => (e k).1) (fun k _ => (e k).2.1) (fun k _ => (e k).2.2) n 2048 le_rfl).2.2 t t.isLt j

/-! ## The second scan -/

set_option maxRecDepth 100000 in
theorem bwdRead_input (V : Contents) : after bwdRead V (Proc.devRef .tc main_while1b_v45)
    = inputAt (V (Proc.devRef .tc main_v36_0)) (V (Proc.devRef .tc main_v36_5)) := by
  after_results_simp_entrywise
  rfl

set_option maxRecDepth 100000 in
theorem bwdGates_gates (V : Contents) : after bwdGates V (Proc.devRef .tc main_while1b_v56)
    = gatesOf (V (Proc.devRef .tc main_while1b_v45)) (V (Proc.devRef .tc main_v36_6)) (V (Proc.devRef .tc main_v36_1))
        (V (Proc.devRef .tc main_v36_2)) (V (Proc.devRef .tc main_v36_3)) (V (Proc.devRef .tc main_v36_4)) := by
  after_results
  rfl

set_option maxRecDepth 100000 in
theorem bwdCell_cell (V : Contents) : after bwdCell V (Proc.devRef .tc main_while1b_v82)
    = cellOf (V (Proc.devRef .tc main_while1b_v56)) (V (Proc.devRef .tc main_v36_7)) := by
  after_results
  rfl

set_option maxRecDepth 100000 in
theorem bwdCell_hidden (V : Contents) : after bwdCell V (Proc.devRef .tc main_while1b_v84)
    = hiddenOf (V (Proc.devRef .tc main_while1b_v56)) (V (Proc.devRef .tc main_v36_7)) := by
  after_results
  rfl

set_option maxRecDepth 100000 in
theorem bwdStore_outputs (V : Contents) : after bwdStore V (Proc.devRef .tc main_while1b_v85)
    = storeAt (V (Proc.devRef .tc main_v36_8)) (V (Proc.devRef .tc main_while1b_v84)) (V (Proc.devRef .tc main_v36_5)) := by
  after_results_simp_entrywise
  rfl

set_option maxRecDepth 100000 in
theorem bwdNext_carried (V : Contents) : after bwdNext V (Proc.devRef .tc main_v36_6) = V (Proc.devRef .tc main_while1b_v84)
    ∧ after bwdNext V (Proc.devRef .tc main_v36_7) = V (Proc.devRef .tc main_while1b_v82)
    ∧ after bwdNext V (Proc.devRef .tc main_v36_8) = V (Proc.devRef .tc main_while1b_v85) := by
  refine ⟨?_, ?_, ?_⟩
  all_goals after_results
  all_goals rfl

/-- One step of the second scan, on what it carries. -/
theorem bwd_step (W₀ : Dev nD → Contents) (c : Dev nD) (k : ℕ) :
    (atTrip bwdTest bwdTrip W₀ (k + 1) c (Proc.devRef .tc main_v36_6)
      = hiddenOf (gatesOf (inputAt (atTrip bwdTest bwdTrip W₀ k c (Proc.devRef .tc main_v36_0)) (atTrip bwdTest bwdTrip W₀ k c (Proc.devRef .tc main_v36_5)))
          (atTrip bwdTest bwdTrip W₀ k c (Proc.devRef .tc main_v36_6)) (atTrip bwdTest bwdTrip W₀ k c (Proc.devRef .tc main_v36_1))
          (atTrip bwdTest bwdTrip W₀ k c (Proc.devRef .tc main_v36_2)) (atTrip bwdTest bwdTrip W₀ k c (Proc.devRef .tc main_v36_3))
          (atTrip bwdTest bwdTrip W₀ k c (Proc.devRef .tc main_v36_4))) (atTrip bwdTest bwdTrip W₀ k c (Proc.devRef .tc main_v36_7)))
    ∧ (atTrip bwdTest bwdTrip W₀ (k + 1) c (Proc.devRef .tc main_v36_7)
      = cellOf (gatesOf (inputAt (atTrip bwdTest bwdTrip W₀ k c (Proc.devRef .tc main_v36_0)) (atTrip bwdTest bwdTrip W₀ k c (Proc.devRef .tc main_v36_5)))
          (atTrip bwdTest bwdTrip W₀ k c (Proc.devRef .tc main_v36_6)) (atTrip bwdTest bwdTrip W₀ k c (Proc.devRef .tc main_v36_1))
          (atTrip bwdTest bwdTrip W₀ k c (Proc.devRef .tc main_v36_2)) (atTrip bwdTest bwdTrip W₀ k c (Proc.devRef .tc main_v36_3))
          (atTrip bwdTest bwdTrip W₀ k c (Proc.devRef .tc main_v36_4))) (atTrip bwdTest bwdTrip W₀ k c (Proc.devRef .tc main_v36_7)))
    ∧ (atTrip bwdTest bwdTrip W₀ (k + 1) c (Proc.devRef .tc main_v36_8)
      = storeAt (atTrip bwdTest bwdTrip W₀ k c (Proc.devRef .tc main_v36_8)) (atTrip bwdTest bwdTrip W₀ (k + 1) c (Proc.devRef .tc main_v36_6))
          (atTrip bwdTest bwdTrip W₀ k c (Proc.devRef .tc main_v36_5))) := by
  rw [atTrip_succ]
  generalize atTrip bwdTest bwdTrip W₀ k c = V
  simp only [afterL_cons, afterL_nil]
  have keep (b : Ref sig .tc) (h1 : b ∉ bwdTest_dst) (h2 : b ∉ bwdRead_dst) :
      after bwdRead (after bwdTest V) (Proc.devRef .tc b) = V (Proc.devRef .tc b) := by
    rw [after_of_writes_sub _ _ bwdRead_writes h2, after_of_writes_sub _ _ bwdTest_writes h1]
  have eg : after bwdGates (after bwdRead (after bwdTest V)) (Proc.devRef .tc main_while1b_v56)
      = gatesOf (inputAt (V (Proc.devRef .tc main_v36_0)) (V (Proc.devRef .tc main_v36_5))) (V (Proc.devRef .tc main_v36_6))
          (V (Proc.devRef .tc main_v36_1)) (V (Proc.devRef .tc main_v36_2)) (V (Proc.devRef .tc main_v36_3)) (V (Proc.devRef .tc main_v36_4)) := by
    rw [bwdGates_gates, bwdRead_input, after_of_writes_sub _ _ bwdTest_writes (by decide +kernel : main_v36_0 ∉ bwdTest_dst),
      after_of_writes_sub _ _ bwdTest_writes (by decide +kernel : main_v36_5 ∉ bwdTest_dst),
      keep main_v36_6 (by decide +kernel) (by decide +kernel), keep main_v36_1 (by decide +kernel) (by decide +kernel),
      keep main_v36_2 (by decide +kernel) (by decide +kernel), keep main_v36_3 (by decide +kernel) (by decide +kernel),
      keep main_v36_4 (by decide +kernel) (by decide +kernel)]
  have keepG (b : Ref sig .tc) (h1 : b ∉ bwdTest_dst) (h2 : b ∉ bwdRead_dst) (h3 : b ∉ bwdGates_dst) :
      after bwdGates (after bwdRead (after bwdTest V)) (Proc.devRef .tc b) = V (Proc.devRef .tc b) := by
    rw [after_of_writes_sub _ _ bwdGates_writes h3, keep b h1 h2]
  have ec := keepG main_v36_7 (by decide +kernel) (by decide +kernel) (by decide +kernel)
  have eo := keepG main_v36_8 (by decide +kernel) (by decide +kernel) (by decide +kernel)
  have ei := keepG main_v36_5 (by decide +kernel) (by decide +kernel) (by decide +kernel)
  generalize after bwdGates (after bwdRead (after bwdTest V)) = U at *
  obtain ⟨n6, n7, n8⟩ := bwdNext_carried (after bwdStore (after bwdCell U))
  rw [n6, n7, n8, bwdStore_outputs, after_of_writes_sub _ _ bwdStore_writes (by decide +kernel : main_while1b_v84 ∉ bwdStore_dst),
    after_of_writes_sub _ _ bwdStore_writes (by decide +kernel : main_while1b_v82 ∉ bwdStore_dst), bwdCell_cell, bwdCell_hidden,
    after_of_writes_sub _ _ bwdCell_writes (by decide +kernel : main_v36_8 ∉ bwdCell_dst),
    after_of_writes_sub _ _ bwdCell_writes (by decide +kernel : main_v36_5 ∉ bwdCell_dst), eg, ec, eo, ei]
  exact ⟨rfl, rfl, rfl⟩

/-- The second scan, entered with zero states and its counter at zero, leaves the hidden states of the recurrence. -/
theorem bwd_outputs (W₀ : Dev nD → Contents) (hctr : ∀ c, W₀ c (Proc.devRef .tc main_v36_5) = fun _ => (0#32 : BitVec 32)) (c : Dev nD)
    (h0 : ∀ n j, (W₀ c (Proc.devRef .tc main_v36_6) : FVec Ideal S16x256 .f32) (ix2 n j) = (0 : EReal))
    (c0 : ∀ n j, (W₀ c (Proc.devRef .tc main_v36_7) : FVec Ideal S16x256 .f32) (ix2 n j) = (0 : EReal))
    (n : Fin 16) (t : Fin 2048) (j : Fin 256) :
    (after bwdTest (atTrip bwdTest bwdTrip W₀ 2048 c) (Proc.devRef .tc main_v36_8) : FVec Ideal S2048x16x256 .f32) (ix3 t n j)
      = (states (weightsOf (W₀ c (Proc.devRef .tc main_v36_1)) (W₀ c (Proc.devRef .tc main_v36_2)) (W₀ c (Proc.devRef .tc main_v36_3))
          (W₀ c (Proc.devRef .tc main_v36_4))) (rowsOf (W₀ c (Proc.devRef .tc main_v36_0)) n) (t.val + 1)).1 j := by
  rw [after_of_writes_sub _ _ bwdTest_writes (by decide +kernel : main_v36_8 ∉ bwdTest_dst)]
  have keep (b : Ref sig .tc) (hb : b ∈ [main_v36_0, main_v36_1, main_v36_2, main_v36_3, main_v36_4]) (k : ℕ) :
      atTrip bwdTest bwdTrip W₀ k c (Proc.devRef .tc b) = W₀ c (Proc.devRef .tc b) :=
    bwd_keeps W₀ c b ((show ∀ b ∈ [main_v36_0, main_v36_1, main_v36_2, main_v36_3, main_v36_4], b ∉ bwdTest_dst ∧ b ∉ bwdRead_dst ∧ b ∉ bwdGates_dst ∧ b ∉ bwdCell_dst ∧ b ∉ bwdStore_dst ∧ b ∉ bwdNext_dst by decide +kernel) b hb) k
  have e (k : ℕ) := bwd_step W₀ c k
  simp only [keep main_v36_0 (by decide +kernel), keep main_v36_1 (by decide +kernel), keep main_v36_2 (by decide +kernel),
    keep main_v36_3 (by decide +kernel), keep main_v36_4 (by decide +kernel), bwd_counter W₀ hctr c] at e
  exact (scan (W₀ c (Proc.devRef .tc main_v36_0)) _ _ _ _ (fun k => atTrip bwdTest bwdTrip W₀ k c (Proc.devRef .tc main_v36_6))
    (fun k => atTrip bwdTest bwdTrip W₀ k c (Proc.devRef .tc main_v36_7)) (fun k => atTrip bwdTest bwdTrip W₀ k c (Proc.devRef .tc main_v36_8))
    h0 c0 (fun k _ => (e k).1) (fun k _ => (e k).2.1) (fun k _ => (e k).2.2) n 2048 le_rfl).2.2 t t.isLt j

/-! ## The stretches around the scans -/

set_option maxRecDepth 100000 in
set_option maxHeartbeats 1000000 in
/-- What the opening leaves for the first scan, and for later: the positions and the mask. -/
theorem opsStart_reads (V : Contents) :
    after opsStart V (Proc.devRef .tc main_v11_0) = timeMajor (V (Proc.devRef .tc main_arg0))
    ∧ after opsStart V (Proc.devRef .tc main_v11_1) = V (Proc.devRef .tc main_arg2)
    ∧ after opsStart V (Proc.devRef .tc main_v11_2) = V (Proc.devRef .tc main_arg3)
    ∧ after opsStart V (Proc.devRef .tc main_v11_3) = V (Proc.devRef .tc main_arg4)
    ∧ after opsStart V (Proc.devRef .tc main_v11_4) = V (Proc.devRef .tc main_arg5)
    ∧ after opsStart V (Proc.devRef .tc main_v11_6) = zeros
    ∧ after opsStart V (Proc.devRef .tc main_v11_7) = zeros
    ∧ after opsStart V (Proc.devRef .tc main_v0) = iotaInDim S2048 32 0
    ∧ after opsStart V (Proc.devRef .tc main_v6) = maskOf (V (Proc.devRef .tc main_arg1)) := by
  refine ⟨?_, ?_, ?_, ?_, ?_, ?_, ?_, ?_, ?_⟩
  all_goals after_results
  all_goals rfl

set_option maxRecDepth 100000 in
theorem opsMask_masked (V : Contents) : after opsMask V (Proc.devRef .tc main_v15)
    = maskedOf (batchMajor (V (Proc.devRef .tc main_v11_8))) (V (Proc.devRef .tc main_v6)) := by
  after_results
  rfl

set_option maxRecDepth 100000 in
/-- The reversing index, out of the positions. -/
theorem reversing_index (V : Contents) (h : V (Proc.devRef .tc main_v0) = iotaInDim S2048 32 0) :
    after opsWhere (after opsMask V) (Proc.devRef .tc main_v28) = revOf (V (Proc.devRef .tc main_arg1)) := by
  after_results
  rw [h]
  rfl

set_option maxRecDepth 100000 in
theorem opsSpread_spread (V : Contents) : after opsSpread V (Proc.devRef .tc main_v30) = spreadOf (V (Proc.devRef .tc main_v28)) := by
  after_results
  rfl

attribute [local irreducible] Host.reduce in
/-- The inputs taken at the reversed positions. -/
theorem opsTake_taken (V : Contents) : after opsTake V (Proc.devRef .tc main_v31)
    = takeOf (V (Proc.devRef .tc main_arg0)) (V (Proc.devRef .tc main_v30)) := by
  after_results
  simp only [ofBuf_toBuf]
  rfl

set_option maxRecDepth 100000 in
/-- What the stretches before the second scan leave for it. -/
theorem carry_reads (V : Contents) :
    after opsCarry (after opsBack V) (Proc.devRef .tc main_v36_0) = timeMajor (V (Proc.devRef .tc main_v31))
    ∧ after opsCarry (after opsBack V) (Proc.devRef .tc main_v36_1) = V (Proc.devRef .tc main_arg6)
    ∧ after opsCarry (after opsBack V) (Proc.devRef .tc main_v36_2) = V (Proc.devRef .tc main_arg7)
    ∧ after opsCarry (after opsBack V) (Proc.devRef .tc main_v36_3) = V (Proc.devRef .tc main_arg8)
    ∧ after opsCarry (after opsBack V) (Proc.devRef .tc main_v36_4) = V (Proc.devRef .tc main_arg9)
    ∧ after opsCarry (after opsBack V) (Proc.devRef .tc main_v36_6) = zeros
    ∧ after opsCarry (after opsBack V) (Proc.devRef .tc main_v36_7) = zeros := by
  refine ⟨?_, ?_, ?_, ?_, ?_, ?_, ?_⟩
  all_goals after_results
  all_goals rfl

set_option maxRecDepth 100000 in
theorem opsUnwind_reads (V : Contents) :
    after opsUnwind V (Proc.devRef .tc main_v37) = batchMajor (V (Proc.devRef .tc main_v36_8))
    ∧ after opsUnwind V (Proc.devRef .tc main_v39) = spreadOf (V (Proc.devRef .tc main_v28)) := by
  constructor
  all_goals after_results
  all_goals rfl

attribute [local irreducible] Host.reduce in
/-- The outputs taken back at the reversed positions. -/
theorem opsTakeBack_taken (V : Contents) : after opsTakeBack V (Proc.devRef .tc main_v40)
    = takeOf (V (Proc.devRef .tc main_v37)) (V (Proc.devRef .tc main_v39)) := by
  after_results
  simp only [ofBuf_toBuf]
  rfl

set_option maxRecDepth 100000 in
theorem opsJoin_joined (V : Contents) : after opsJoin V (Proc.devRef .tc main_v44)
    = concatenate S16x2048x512 2 [⟨S16x2048x256, V (Proc.devRef .tc main_v15)⟩,
        ⟨S16x2048x256, maskedOf (V (Proc.devRef .tc main_v40)) (V (Proc.devRef .tc main_v6))⟩] concatenates_S16x2048x256_S16x2048x256_S16x2048x512_d2 := by
  after_results
  rfl

/-! ## The result -/

/-- The zero states, entry by entry. -/
theorem zeros_apply (n : Fin 16) (j : Fin 256) : zeros (ix2 n j) = (0 : EReal) := Ideal.ofBits_zero_f32

variable (m : (ℓ : Loc nD τ sig) → Buf (Elt Ideal) ℓ) (c : Dev nD)

/-- An argument as the program is launched with it. -/
abbrev argOf (b : Ref sig .tc) : (Proc.devRef .tc b : DevRef τ sig).ty.Contents (Elt Ideal) := launchContents m c (Proc.devRef .tc b)

/-- The first direction's weights, and the second's. -/
abbrev forwardWeights : Weights := weightsOf (argOf m c main_arg2) (argOf m c main_arg3) (argOf m c main_arg4) (argOf m c main_arg5)
/-- The second direction's weights. -/
abbrev backwardWeights : Weights := weightsOf (argOf m c main_arg6) (argOf m c main_arg7) (argOf m c main_arg8) (argOf m c main_arg9)

/-- The first scan's outputs. -/
theorem pastFwd_outputs (n : Fin 16) (t : Fin 2048) (j : Fin 256) :
    (pastFwd m c (Proc.devRef .tc main_v11_8) : FVec Ideal S2048x16x256 .f32) (ix3 t n j)
      = (states (forwardWeights m c) (rowsOf (timeMajor (argOf m c main_arg0)) n) (t.val + 1)).1 j := by
  have e : ∀ c, atFwd m c = after opsStart (launchContents m c) := fun _ => rfl
  obtain ⟨e0, e1, e2, e3, e4, e6, e7, -, -⟩ := opsStart_reads (launchContents m c)
  have := fwd_outputs (atFwd m) (atFwd_counter m) c (fun n j => by rw [e, e6]; exact zeros_apply n j) (fun n j => by rw [e, e7]; exact zeros_apply n j) n t j
  rw [e c, e0, e1, e2, e3, e4] at this
  exact this

/-- What the first scan leaves alone. -/
theorem pastFwd_keeps (b : Ref sig .tc)
    (h : b ∉ fwdTest_dst ∧ b ∉ fwdRead_dst ∧ b ∉ fwdGates_dst ∧ b ∉ fwdCell_dst ∧ b ∉ fwdStore_dst ∧ b ∉ fwdNext_dst) :
    pastFwd m c (Proc.devRef .tc b) = after opsStart (launchContents m c) (Proc.devRef .tc b) := by
  unfold pastFwd
  rw [after_of_writes_sub _ _ fwdTest_writes h.1, fwd_keeps _ c b h]
  rfl

/-- What the second scan leaves alone. -/
theorem pastBwd_keeps (b : Ref sig .tc)
    (h : b ∉ bwdTest_dst ∧ b ∉ bwdRead_dst ∧ b ∉ bwdGates_dst ∧ b ∉ bwdCell_dst ∧ b ∉ bwdStore_dst ∧ b ∉ bwdNext_dst) :
    pastBwd m c (Proc.devRef .tc b) = atBwd m c (Proc.devRef .tc b) := by
  unfold pastBwd
  rw [after_of_writes_sub _ _ bwdTest_writes h.1, bwd_keeps _ c b h]

/-- What the last stretches before the second scan leave alone. -/
theorem atBwd_keeps (b : Ref sig .tc) (h : b ∉ opsSpread_dst ∧ b ∉ opsTake_dst ∧ b ∉ opsBack_dst ∧ b ∉ opsCarry_dst) :
    atBwd m c (Proc.devRef .tc b) = after opsWhere (after opsMask (pastFwd m c)) (Proc.devRef .tc b) := by
  unfold atBwd
  simp only [afterL_cons, afterL_nil]
  rw [after_of_writes_sub _ _ opsCarry_writes h.2.2.2, after_of_writes_sub _ _ opsBack_writes h.2.2.1,
    after_of_writes_sub _ _ opsTake_writes h.2.1, after_of_writes_sub _ _ opsSpread_writes h.1]

/-- The reversing index. -/
theorem atBwd_index : after opsWhere (after opsMask (pastFwd m c)) (Proc.devRef .tc main_v28) = revOf (argOf m c main_arg1) := by
  rw [reversing_index _ ((pastFwd_keeps m c main_v0 (by decide +kernel)).trans (opsStart_reads (launchContents m c)).2.2.2.2.2.2.2.1),
    arg_pastFwd m c main_arg1 (by decide +kernel)]

/-- The mask. -/
theorem pastFwd_mask : pastFwd m c (Proc.devRef .tc main_v6) = maskOf (argOf m c main_arg1) :=
  (pastFwd_keeps m c main_v6 (by decide +kernel)).trans (opsStart_reads (launchContents m c)).2.2.2.2.2.2.2.2

/-- The second scan's input. -/
theorem atBwd_reads :
    atBwd m c (Proc.devRef .tc main_v36_0) = timeMajor (takeOf (argOf m c main_arg0) (spreadOf (revOf (argOf m c main_arg1))))
    ∧ atBwd m c (Proc.devRef .tc main_v36_1) = argOf m c main_arg6
    ∧ atBwd m c (Proc.devRef .tc main_v36_2) = argOf m c main_arg7
    ∧ atBwd m c (Proc.devRef .tc main_v36_3) = argOf m c main_arg8
    ∧ atBwd m c (Proc.devRef .tc main_v36_4) = argOf m c main_arg9
    ∧ atBwd m c (Proc.devRef .tc main_v36_6) = zeros
    ∧ atBwd m c (Proc.devRef .tc main_v36_7) = zeros := by
  have arg (b : Ref sig .tc) (hb : b ∈ argRefs) :
      after opsSpread (after opsWhere (after opsMask (pastFwd m c))) (Proc.devRef .tc b) = argOf m c b
      ∧ after opsTake (after opsSpread (after opsWhere (after opsMask (pastFwd m c)))) (Proc.devRef .tc b) = argOf m c b := by
    have h := (show ∀ b ∈ argRefs, b ∉ opsMask_dst ∧ b ∉ opsWhere_dst ∧ b ∉ opsSpread_dst ∧ b ∉ opsTake_dst by decide +kernel) b hb
    rw [after_of_writes_sub _ _ opsTake_writes h.2.2.2, after_of_writes_sub _ _ opsSpread_writes h.2.2.1,
      after_of_writes_sub _ _ opsWhere_writes h.2.1, after_of_writes_sub _ _ opsMask_writes h.1, arg_pastFwd m c b hb]
    exact ⟨rfl, rfl⟩
  have e : atBwd m c = after opsCarry (after opsBack (after opsTake (after opsSpread (after opsWhere (after opsMask (pastFwd m c)))))) := by
    unfold atBwd
    simp only [afterL_cons, afterL_nil]
  obtain ⟨e0, e1, e2, e3, e4, e6, e7⟩ := carry_reads (after opsTake (after opsSpread (after opsWhere (after opsMask (pastFwd m c)))))
  rw [e, e0, e1, e2, e3, e4, e6, e7, opsTake_taken, opsSpread_spread, atBwd_index, (arg main_arg0 (by decide +kernel)).1,
    (arg main_arg6 (by decide +kernel)).2, (arg main_arg7 (by decide +kernel)).2, (arg main_arg8 (by decide +kernel)).2, (arg main_arg9 (by decide +kernel)).2]
  exact ⟨rfl, rfl, rfl, rfl, rfl, rfl, rfl⟩

/-- The second scan's outputs. -/
theorem pastBwd_outputs (n : Fin 16) (t : Fin 2048) (j : Fin 256) :
    (pastBwd m c (Proc.devRef .tc main_v36_8) : FVec Ideal S2048x16x256 .f32) (ix3 t n j)
      = (states (backwardWeights m c) (rowsOf (timeMajor (takeOf (argOf m c main_arg0) (spreadOf (revOf (argOf m c main_arg1))))) n) (t.val + 1)).1 j := by
  obtain ⟨e0, e1, e2, e3, e4, e6, e7⟩ := atBwd_reads m c
  have := bwd_outputs (atBwd m) (atBwd_counter m) c (fun n j => by rw [e6]; exact zeros_apply n j) (fun n j => by rw [e7]; exact zeros_apply n j) n t j
  rw [e0, e1, e2, e3, e4] at this
  exact this

/-- The result buffer at the end joins the two scans' outputs. -/
theorem atEnd_joined : atEnd m c (Proc.devRef .tc main_v44)
    = joined (argOf m c main_arg1) (pastFwd m c (Proc.devRef .tc main_v11_8)) (pastBwd m c (Proc.devRef .tc main_v36_8)) := by
  have keep (b : Ref sig .tc) (h : b ∉ bwdTest_dst ∧ b ∉ bwdRead_dst ∧ b ∉ bwdGates_dst ∧ b ∉ bwdCell_dst ∧ b ∉ bwdStore_dst ∧ b ∉ bwdNext_dst)
      (h' : b ∉ opsSpread_dst ∧ b ∉ opsTake_dst ∧ b ∉ opsBack_dst ∧ b ∉ opsCarry_dst) :
      pastBwd m c (Proc.devRef .tc b) = after opsWhere (after opsMask (pastFwd m c)) (Proc.devRef .tc b) := by
    rw [pastBwd_keeps m c b h, atBwd_keeps m c b h']
  have e28 := (keep main_v28 (by decide +kernel) (by decide +kernel)).trans (atBwd_index m c)
  have e15 := keep main_v15 (by decide +kernel) (by decide +kernel)
  rw [after_of_writes_sub _ _ opsWhere_writes (by decide +kernel : main_v15 ∉ opsWhere_dst), opsMask_masked, pastFwd_mask] at e15
  have e6 := keep main_v6 (by decide +kernel) (by decide +kernel)
  rw [after_of_writes_sub _ _ opsWhere_writes (by decide +kernel : main_v6 ∉ opsWhere_dst),
    after_of_writes_sub _ _ opsMask_writes (by decide +kernel : main_v6 ∉ opsMask_dst), pastFwd_mask] at e6
  have closing_keeps (b : Ref sig .tc) (h1 : b ∉ opsUnwind_dst) (h2 : b ∉ opsTakeBack_dst) :
      after opsTakeBack (after opsUnwind (pastBwd m c)) (Proc.devRef .tc b) = pastBwd m c (Proc.devRef .tc b) := by
    rw [after_of_writes_sub _ _ opsTakeBack_writes h2, after_of_writes_sub _ _ opsUnwind_writes h1]
  have e : atEnd m c = after opsJoin (after opsTakeBack (after opsUnwind (pastBwd m c))) := by
    unfold atEnd
    simp only [afterL_cons, afterL_nil]
  rw [e, opsJoin_joined, opsTakeBack_taken, (opsUnwind_reads _).1, (opsUnwind_reads _).2,
    closing_keeps main_v15 (by decide +kernel) (by decide +kernel), closing_keeps main_v6 (by decide +kernel) (by decide +kernel), e15, e6, e28]
  rfl

/-- The reference computes the bidirectional output, where no length exceeds 2048. -/
theorem atEnd_value (hl : ∀ n, ((argOf m c main_arg1 : IVec S16 32) (ix1 n)).toInt ≤ 2048) (n : Fin 16) (t : Fin 2048) (u : Fin 512) :
    (atEnd m c (Proc.devRef .tc main_v44) : FVec Ideal S16x2048x512 .f32) (ix3 n t u)
      = output (forwardWeights m c) (backwardWeights m c) (sequenceOf (argOf m c main_arg0) n) ((argOf m c main_arg1 : IVec S16 32) (ix1 n)).toInt t.val u := by
  rw [atEnd_joined]
  exact joined_apply (argOf m c main_arg0) (argOf m c main_arg1) hl _ _ _ _ n (fun t j => pastFwd_outputs m c n t j) (fun t j => pastBwd_outputs m c n t j) t u

/-- The reference's whole result, out of the arguments as launched. -/
theorem atEnd_result (hl : ∀ n, ((argOf m c main_arg1 : IVec S16 32) (ix1 n)).toInt ≤ 2048) :
    (atEnd m c (Proc.devRef .tc main_v44) : FVec Ideal S16x2048x512 .f32)
      = resultOf (argOf m c main_arg0) (argOf m c main_arg1) (argOf m c main_arg2) (argOf m c main_arg3) (argOf m c main_arg4)
          (argOf m c main_arg5) (argOf m c main_arg6) (argOf m c main_arg7) (argOf m c main_arg8) (argOf m c main_arg9) := by
  funext i
  have hi : i = (ix3 (i 0) (i 1) (i 2) : S16x2048x512.Idx) := by
    funext a; match a with | ⟨0, _⟩ => rfl | ⟨1, _⟩ => rfl | ⟨2, _⟩ => rfl
  exact (congrArg _ hi).trans (atEnd_value m c hl (i 0) (i 1) (i 2))

end Cert.ReferenceIdeal.Lstm

end
-- ==== Proof.Value.Lengths.lean ====
module

public import proofs.«01_k».proof.Pre_lengths_fit
public import Idealize.ShloMosaic.Lib.ReduceAll
public import Idealize.ShloMosaic.Lib.WordCmp
public import Idealize.ShloMosaic.Lib.Pointwise

/-! # The precondition, read

The precondition is an `and` over the rows of "the length is at most 2048"; where it is one, every length is. -/

@[expose] public section

noncomputable section

namespace Cert.Lstm

open Idealize.ShloMosaic

/-- The shape facts of the precondition. -/
theorem lengths_shapes : Cert.Pre_lengths_fit.Facts where
  bcast_S_S16 := by decide
  reducesTo_S16_S_d0 := by decide
  h_S_ := by decide

/-- Where the precondition holds, no row is longer than the sequence. -/
theorem lengths_le [Cert.Pre_lengths_fit.Facts] (x : FVec Ideal ⟨3, ![16, 2048, 256]⟩ .f32) (seq : IVec ⟨1, ![16]⟩ 32)
    (w1 w2 : FVec Ideal ⟨2, ![1024, 256]⟩ .f32) (b1 b2 : FVec Ideal ⟨1, ![1024]⟩ .f32)
    (w3 w4 : FVec Ideal ⟨2, ![1024, 256]⟩ .f32) (b3 b4 : FVec Ideal ⟨1, ![1024]⟩ .f32)
    (h : Cert.Pre_lengths_fit.fn (F := Ideal) x seq w1 w2 b1 b2 w3 w4 b3 b4 = fun _ => 1#1) (n : Fin 16) :
    (seq (ix1 n)).toInt ≤ 2048 := by
  have : Subsingleton Cert.Pre_lengths_fit.S_.Idx := ⟨fun _ _ => funext fun a => a.elim0⟩
  have e := Host.reduce_andi_all _ _ _ _ (fun a => a.elim0) (congrFun h _) (ix1 n)
  change IntOp.cmpi .sle (seq (ix1 n)) 2048#32 = 1#1 at e
  rw [WordCmp.cmpi_sle_eq] at e
  by_contra hc
  rw [decide_eq_false (by rw [show (2048#32 : BitVec 32).toInt = 2048 from rfl]; exact hc)] at e
  exact absurd e (by decide)

end Cert.Lstm

end
-- ==== Proof.lean ====
/- Each claim from its module: the two launches' frames, the reference's run, and the two runs' one result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Launch
public import proofs.«01_k».proof.Proof.KernelIdeal.Value
public import proofs.«01_k».proof.Proof.ReferenceIdeal.Value
public import proofs.«01_k».proof.Proof.Value.Lengths
public import Idealize.ShloMosaic.Adequacy
public import Idealize.ShloMosaic.Init

@[expose] public section

noncomputable section

namespace Cert.Proof

open Idealize.ShloMosaic Idealize.SL.Sem

/-- The word program terminates, leaves its arguments and its counters alone. -/
theorem frame_kernel : Cert.quiescent_Kernel := fun m g _ => Cert.Kernel.Lstm.frame_holds m g

/-- So does the kernel over the extended reals. -/
theorem frame_ideal : Cert.quiescent_KernelIdeal := fun m g _ => Cert.KernelIdeal.Lstm.frame_holds m g

/-- So does the reference over the extended reals. -/
theorem frame_reference : Cert.quiescent_ReferenceIdeal := fun m g _ =>
  (θ_run _ _ _).mono (fun _ h => h.2) (Cert.ReferenceIdeal.Lstm.run_result m g)

/-- Equal arguments have equal results. -/
theorem result_congr {x x' : FVec Ideal ⟨3, ![16, 2048, 256]⟩ .f32} {seq seq' : IVec ⟨1, ![16]⟩ 32}
    {w1 w1' w2 w2' : FVec Ideal ⟨2, ![1024, 256]⟩ .f32} {b1 b1' b2 b2' : FVec Ideal ⟨1, ![1024]⟩ .f32}
    {w3 w3' w4 w4' : FVec Ideal ⟨2, ![1024, 256]⟩ .f32} {b3 b3' b4 b4' : FVec Ideal ⟨1, ![1024]⟩ .f32}
    (h : x' = x ∧ seq' = seq ∧ w1' = w1 ∧ w2' = w2 ∧ b1' = b1 ∧ b2' = b2 ∧ w3' = w3 ∧ w4' = w4 ∧ b3' = b3 ∧ b4' = b4) :
    Cert.Lstm.resultOf x' seq' w1' w2' b1' b2' w3' w4' b3' b4' = Cert.Lstm.resultOf x seq w1 w2 b1 b2 w3 w4 b3 b4 := by
  obtain ⟨rfl, rfl, rfl, rfl, rfl, rfl, rfl, rfl, rfl, rfl⟩ := h
  rfl

/-- Where no length is above the number of positions, the kernel and the reference over the extended reals, on equal
arguments, leave the same result, their arguments unchanged. -/
theorem equal_results [Cert.Pre_lengths_fit.Facts] :
    Cert.algebraic_KernelIdeal_ReferenceIdeal_pre_lengths_fit := by
  intro m g m' g' hpre hargs
  have hl : ∀ c n, Cert.KernelIdeal.Lstm.rowLength m c n ≤ 2048 := fun c n =>
    Cert.Lstm.lengths_le _ _ _ _ _ _ _ _ _ _ (hpre c) n
  refine ⟨fun c => Cert.KernelIdeal.Lstm.wanted m c, ?_, ?_⟩
  · exact (θ_run _ _ _).mono (fun _ h c => ⟨h.1 c, h.2.1 c⟩)
      (θ_run_and (Cert.KernelIdeal.Lstm.run_value m g hl) (Cert.KernelIdeal.Lstm.frame_holds m g))
  · refine (θ_run _ _ _).mono (fun _ h c => ⟨(h.1 c).trans ?_, h.2.1 c⟩) (Cert.ReferenceIdeal.Lstm.run_result m' g')
    have hl' : ∀ n, ((Cert.ReferenceIdeal.Lstm.argOf m' c Cert.ReferenceIdeal.main_arg1 : IVec ⟨1, ![16]⟩ 32) (ix1 n)).toInt ≤ 2048 :=
      fun n => (congrArg (fun s : IVec ⟨1, ![16]⟩ 32 => (s (ix1 n)).toInt) (hargs c).2.1).trans_le (hl c n)
    exact (Cert.ReferenceIdeal.Lstm.atEnd_result m' c hl').trans (result_congr (hargs c))

/-- Every claim. -/
theorem claim : Cert.Claim :=
  ⟨Cert.Kernel.Gen.facts, Cert.KernelIdeal.Gen.facts, Cert.ReferenceIdeal.Gen.facts, Cert.Lstm.lengths_shapes,
    frame_kernel, frame_ideal, fun m g _ => Cert.KernelIdeal.Lstm.frame_holds m g, frame_reference,
    fun m g _ => (θ_run _ _ _).mono (fun _ h => h.2) (Cert.ReferenceIdeal.Lstm.run_result m g), trivial,
    @equal_results Cert.Lstm.lengths_shapes⟩

end Cert.Proof

end
